-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v278) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_qk : Cert.Pre_finite_qk.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ preserves_Kernel_KernelIdeal
    ∧ algebraic_KernelIdeal_ReferenceIdeal_pre_finite_qk (hKernelIdeal := hKernelIdeal) (hReferenceIdeal := hReferenceIdeal) (hPre_finite_qk := hPre_finite_qk)
-- ==== Pre_finite_qk.lean ====
abbrev S1x12x2048x64 : Shape := ⟨4, ![1, 12, 2048, 64]⟩
abbrev S1x16 : Shape := ⟨2, ![1, 16]⟩
abbrev S_ : Shape := ⟨0, ![]⟩

class Facts : Prop where
  bcast_S_S1x12x2048x64 : S_.BroadcastsInDim S1x12x2048x64 (![] : Fin 0 → Fin S1x12x2048x64.rank)

variable [Facts]

def fn {F : FTy → Type} [FloatOps F] (main_arg0 : FVec F S1x12x2048x64 .f32) (main_arg1 : FVec F S1x12x2048x64 .f32) (main_arg2 : FVec F S1x12x2048x64 .f32) (main_arg3 : IVec S1x16 32) : IVec S1x12x2048x64 1 :=
  let main_v0 : FVec F S1x12x2048x64 .f32 := Host.absf main_arg0
  let main_cst : FVec F S_ .f32 := constant S_ .f32 0x7F800000#32
  let main_v1 : FVec F S1x12x2048x64 .f32 := broadcastInDim S1x12x2048x64 ![] bcast_S_S1x12x2048x64 main_cst
  let main_v2 : IVec S1x12x2048x64 1 := cmpf .olt main_v0 main_v1
  let main_v3 : FVec F S1x12x2048x64 .f32 := Host.absf main_arg1
  let main_cst_0 : FVec F S_ .f32 := constant S_ .f32 0x7F800000#32
  let main_v4 : FVec F S1x12x2048x64 .f32 := broadcastInDim S1x12x2048x64 ![] bcast_S_S1x12x2048x64 main_cst_0
  let main_v5 : IVec S1x12x2048x64 1 := cmpf .olt main_v3 main_v4
  let main_v6 : IVec S1x12x2048x64 1 := andi main_v2 main_v5
  main_v6
-- ==== Kernel.lean ====
abbrev S1x12x2048x64 : Shape := ⟨4, ![1, 12, 2048, 64]⟩
abbrev S1x16 : Shape := ⟨2, ![1, 16]⟩
abbrev S_ : Shape := ⟨0, ![]⟩
abbrev S1 : Shape := ⟨1, ![1]⟩
abbrev S2 : Shape := ⟨1, ![2]⟩
abbrev S1x1x1 : Shape := ⟨3, ![1, 1, 1]⟩
abbrev S12x16x16 : Shape := ⟨3, ![12, 16, 16]⟩
abbrev S1x16x16 : Shape := ⟨3, ![1, 16, 16]⟩
abbrev S1x1x2048x64 : Shape := ⟨4, ![1, 1, 2048, 64]⟩
abbrev S2048x64 : Shape := ⟨2, ![2048, 64]⟩
abbrev S128x64 : Shape := ⟨2, ![128, 64]⟩
abbrev S64 : Shape := ⟨1, ![64]⟩
abbrev S1x64 : Shape := ⟨2, ![1, 64]⟩
abbrev S16x64 : Shape := ⟨2, ![16, 64]⟩
abbrev S16x16 : Shape := ⟨2, ![16, 16]⟩
abbrev S16 : Shape := ⟨1, ![16]⟩
abbrev S16x1 : Shape := ⟨2, ![16, 1]⟩
abbrev S128x2048 : Shape := ⟨2, ![128, 2048]⟩
abbrev S2048 : Shape := ⟨1, ![2048]⟩
abbrev S1x2048 : Shape := ⟨2, ![1, 2048]⟩
abbrev S1x128 : Shape := ⟨2, ![1, 128]⟩
abbrev S16x2048 : Shape := ⟨2, ![16, 2048]⟩
abbrev S64x2048 : Shape := ⟨2, ![64, 2048]⟩

abbrev nBuf : Space → Nat
  | .hbm => 294
  | .vmem => 10
  | .smem => 0
  | _ => 0

abbrev hbmTy0_0 (i : Nat) : BufTy := match i % 128 with
  | 0 => ⟨S1x12x2048x64, .f32⟩
  | 1 => ⟨S1x12x2048x64, .f32⟩
  | 2 => ⟨S1x12x2048x64, .f32⟩
  | 3 => ⟨S1x16, .i32⟩
  | 4 => ⟨S_, .i32⟩
  | 5 => ⟨S_, .i32⟩
  | 6 => ⟨S_, .i32⟩
  | 7 => ⟨S_, .i32⟩
  | 8 => ⟨S1, .i32⟩
  | 9 => ⟨S_, .i32⟩
  | 10 => ⟨S_, .i32⟩
  | 11 => ⟨S_, .i32⟩
  | 12 => ⟨S1, .i32⟩
  | 13 => ⟨S2, .i32⟩
  | 14 => ⟨S_, .f32⟩
  | 15 => ⟨S_, .f32⟩
  | 16 => ⟨S_, .f32⟩
  | 17 => ⟨S_, .f32⟩
  | 18 => ⟨S1x1x1, .f32⟩
  | 19 => ⟨S1x1x1, .f32⟩
  | 20 => ⟨S1, .i32⟩
  | 21 => ⟨S_, .i32⟩
  | 22 => ⟨S1, .i32⟩
  | 23 => ⟨S_, .i32⟩
  | 24 => ⟨S12x16x16, .i64⟩
  | 25 => ⟨S12x16x16, .i64⟩
  | 26 => ⟨S12x16x16, .i64⟩
  | 27 => ⟨S_, .i64⟩
  | 28 => ⟨S12x16x16, .i64⟩
  | 29 => ⟨S12x16x16, .i64⟩
  | 30 => ⟨S_, .i64⟩
  | 31 => ⟨S12x16x16, .i64⟩
  | 32 => ⟨S12x16x16, .i64⟩
  | 33 => ⟨S_, .i64⟩
  | 34 => ⟨S12x16x16, .i64⟩
  | 35 => ⟨S12x16x16, .i64⟩
  | 36 => ⟨S12x16x16, .i64⟩
  | 37 => ⟨S12x16x16, .i64⟩
  | 38 => ⟨S_, .i64⟩
  | 39 => ⟨S12x16x16, .i64⟩
  | 40 => ⟨S12x16x16, .i64⟩
  | 41 => ⟨S12x16x16, .i32⟩
  | 42 => ⟨S12x16x16, .i32⟩
  | 43 => ⟨S_, .i32⟩
  | 44 => ⟨S_, .i32⟩
  | 45 => ⟨S_, .i32⟩
  | 46 => ⟨S12x16x16, .i32⟩
  | 47 => ⟨S12x16x16, .i32⟩
  | 48 => ⟨S12x16x16, .i32⟩
  | 49 => ⟨S12x16x16, .i32⟩
  | 50 => ⟨S12x16x16, .i32⟩
  | 51 => ⟨S_, .i32⟩
  | 52 => ⟨S12x16x16, .i32⟩
  | 53 => ⟨S12x16x16, .i32⟩
  | 54 => ⟨S_, .i32⟩
  | 55 => ⟨S12x16x16, .i32⟩
  | 56 => ⟨S12x16x16, .i32⟩
  | 57 => ⟨S12x16x16, .i32⟩
  | 58 => ⟨S12x16x16, .i32⟩
  | 59 => ⟨S12x16x16, .i32⟩
  | 60 => ⟨S_, .i32⟩
  | 61 => ⟨S12x16x16, .i32⟩
  | 62 => ⟨S12x16x16, .i32⟩
  | 63 => ⟨S_, .i32⟩
  | 64 => ⟨S12x16x16, .i32⟩
  | 65 => ⟨S12x16x16, .i32⟩
  | 66 => ⟨S12x16x16, .i32⟩
  | 67 => ⟨S12x16x16, .i32⟩
  | 68 => ⟨S12x16x16, .i32⟩
  | 69 => ⟨S_, .i32⟩
  | 70 => ⟨S12x16x16, .i32⟩
  | 71 => ⟨S12x16x16, .i32⟩
  | 72 => ⟨S_, .i32⟩
  | 73 => ⟨S12x16x16, .i32⟩
  | 74 => ⟨S12x16x16, .i32⟩
  | 75 => ⟨S12x16x16, .i32⟩
  | 76 => ⟨S12x16x16, .i32⟩
  | 77 => ⟨S12x16x16, .i32⟩
  | 78 => ⟨S_, .i32⟩
  | 79 => ⟨S12x16x16, .i32⟩
  | 80 => ⟨S12x16x16, .i32⟩
  | 81 => ⟨S_, .i32⟩
  | 82 => ⟨S12x16x16, .i32⟩
  | 83 => ⟨S12x16x16, .i32⟩
  | 84 => ⟨S12x16x16, .i32⟩
  | 85 => ⟨S12x16x16, .i32⟩
  | 86 => ⟨S12x16x16, .i32⟩
  | 87 => ⟨S12x16x16, .i32⟩
  | 88 => ⟨S12x16x16, .i32⟩
  | 89 => ⟨S12x16x16, .i32⟩
  | 90 => ⟨S_, .i32⟩
  | 91 => ⟨S12x16x16, .i32⟩
  | 92 => ⟨S12x16x16, .i32⟩
  | 93 => ⟨S12x16x16, .i32⟩
  | 94 => ⟨S_, .i32⟩
  | 95 => ⟨S12x16x16, .i32⟩
  | 96 => ⟨S12x16x16, .i32⟩
  | 97 => ⟨S_, .i32⟩
  | 98 => ⟨S12x16x16, .i32⟩
  | 99 => ⟨S12x16x16, .i32⟩
  | 100 => ⟨S12x16x16, .i32⟩
  | 101 => ⟨S12x16x16, .i32⟩
  | 102 => ⟨S12x16x16, .i32⟩
  | 103 => ⟨S_, .i32⟩
  | 104 => ⟨S12x16x16, .i32⟩
  | 105 => ⟨S12x16x16, .i32⟩
  | 106 => ⟨S_, .i32⟩
  | 107 => ⟨S12x16x16, .i32⟩
  | 108 => ⟨S12x16x16, .i32⟩
  | 109 => ⟨S12x16x16, .i32⟩
  | 110 => ⟨S12x16x16, .i32⟩
  | 111 => ⟨S12x16x16, .i32⟩
  | 112 => ⟨S_, .i32⟩
  | 113 => ⟨S12x16x16, .i32⟩
  | 114 => ⟨S12x16x16, .i32⟩
  | 115 => ⟨S_, .i32⟩
  | 116 => ⟨S12x16x16, .i32⟩
  | 117 => ⟨S12x16x16, .i32⟩
  | 118 => ⟨S12x16x16, .i32⟩
  | 119 => ⟨S12x16x16, .i32⟩
  | 120 => ⟨S12x16x16, .i32⟩
  | 121 => ⟨S_, .i32⟩
  | 122 => ⟨S12x16x16, .i32⟩
  | 123 => ⟨S12x16x16, .i32⟩
  | 124 => ⟨S_, .i32⟩
  | 125 => ⟨S12x16x16, .i32⟩
  | 126 => ⟨S12x16x16, .i32⟩
  | 127 => ⟨S12x16x16, .i32⟩
  | _ => ⟨S1x12x2048x64, .f32⟩

abbrev hbmTy0_1 (i : Nat) : BufTy := match i % 128 with
  | 0 => ⟨S12x16x16, .i32⟩
  | 1 => ⟨S12x16x16, .i32⟩
  | 2 => ⟨S12x16x16, .i32⟩
  | 3 => ⟨S12x16x16, .i32⟩
  | 4 => ⟨S12x16x16, .i32⟩
  | 5 => ⟨S_, .i32⟩
  | 6 => ⟨S12x16x16, .i32⟩
  | 7 => ⟨S12x16x16, .i32⟩
  | 8 => ⟨S12x16x16, .i32⟩
  | 9 => ⟨S_, .i32⟩
  | 10 => ⟨S12x16x16, .i32⟩
  | 11 => ⟨S12x16x16, .i32⟩
  | 12 => ⟨S_, .i32⟩
  | 13 => ⟨S12x16x16, .i32⟩
  | 14 => ⟨S12x16x16, .i32⟩
  | 15 => ⟨S12x16x16, .i32⟩
  | 16 => ⟨S12x16x16, .i32⟩
  | 17 => ⟨S12x16x16, .i32⟩
  | 18 => ⟨S_, .i32⟩
  | 19 => ⟨S12x16x16, .i32⟩
  | 20 => ⟨S12x16x16, .i32⟩
  | 21 => ⟨S_, .i32⟩
  | 22 => ⟨S12x16x16, .i32⟩
  | 23 => ⟨S12x16x16, .i32⟩
  | 24 => ⟨S12x16x16, .i32⟩
  | 25 => ⟨S12x16x16, .i32⟩
  | 26 => ⟨S12x16x16, .i32⟩
  | 27 => ⟨S_, .i32⟩
  | 28 => ⟨S12x16x16, .i32⟩
  | 29 => ⟨S12x16x16, .i32⟩
  | 30 => ⟨S_, .i32⟩
  | 31 => ⟨S12x16x16, .i32⟩
  | 32 => ⟨S12x16x16, .i32⟩
  | 33 => ⟨S12x16x16, .i32⟩
  | 34 => ⟨S12x16x16, .i32⟩
  | 35 => ⟨S12x16x16, .i32⟩
  | 36 => ⟨S_, .i32⟩
  | 37 => ⟨S12x16x16, .i32⟩
  | 38 => ⟨S12x16x16, .i32⟩
  | 39 => ⟨S_, .i32⟩
  | 40 => ⟨S12x16x16, .i32⟩
  | 41 => ⟨S12x16x16, .i32⟩
  | 42 => ⟨S12x16x16, .i32⟩
  | 43 => ⟨S12x16x16, .i32⟩
  | 44 => ⟨S12x16x16, .i32⟩
  | 45 => ⟨S12x16x16, .i32⟩
  | 46 => ⟨S12x16x16, .i32⟩
  | 47 => ⟨S12x16x16, .i32⟩
  | 48 => ⟨S_, .i32⟩
  | 49 => ⟨S12x16x16, .i32⟩
  | 50 => ⟨S12x16x16, .i32⟩
  | 51 => ⟨S12x16x16, .i32⟩
  | 52 => ⟨S_, .i32⟩
  | 53 => ⟨S12x16x16, .i32⟩
  | 54 => ⟨S12x16x16, .i32⟩
  | 55 => ⟨S_, .i32⟩
  | 56 => ⟨S12x16x16, .i32⟩
  | 57 => ⟨S12x16x16, .i32⟩
  | 58 => ⟨S12x16x16, .i32⟩
  | 59 => ⟨S12x16x16, .i32⟩
  | 60 => ⟨S12x16x16, .i32⟩
  | 61 => ⟨S_, .i32⟩
  | 62 => ⟨S12x16x16, .i32⟩
  | 63 => ⟨S12x16x16, .i32⟩
  | 64 => ⟨S_, .i32⟩
  | 65 => ⟨S12x16x16, .i32⟩
  | 66 => ⟨S12x16x16, .i32⟩
  | 67 => ⟨S12x16x16, .i32⟩
  | 68 => ⟨S12x16x16, .i32⟩
  | 69 => ⟨S12x16x16, .i32⟩
  | 70 => ⟨S_, .i32⟩
  | 71 => ⟨S12x16x16, .i32⟩
  | 72 => ⟨S12x16x16, .i32⟩
  | 73 => ⟨S_, .i32⟩
  | 74 => ⟨S12x16x16, .i32⟩
  | 75 => ⟨S12x16x16, .i32⟩
  | 76 => ⟨S12x16x16, .i32⟩
  | 77 => ⟨S12x16x16, .i32⟩
  | 78 => ⟨S12x16x16, .i32⟩
  | 79 => ⟨S_, .i32⟩
  | 80 => ⟨S12x16x16, .i32⟩
  | 81 => ⟨S12x16x16, .i32⟩
  | 82 => ⟨S_, .i32⟩
  | 83 => ⟨S12x16x16, .i32⟩
  | 84 => ⟨S12x16x16, .i32⟩
  | 85 => ⟨S12x16x16, .i32⟩
  | 86 => ⟨S12x16x16, .i32⟩
  | 87 => ⟨S12x16x16, .i32⟩
  | 88 => ⟨S12x16x16, .i32⟩
  | 89 => ⟨S12x16x16, .i32⟩
  | 90 => ⟨S12x16x16, .i32⟩
  | 91 => ⟨S_, .i32⟩
  | 92 => ⟨S12x16x16, .i32⟩
  | 93 => ⟨S12x16x16, .i32⟩
  | 94 => ⟨S12x16x16, .i32⟩
  | 95 => ⟨S_, .i32⟩
  | 96 => ⟨S12x16x16, .i32⟩
  | 97 => ⟨S12x16x16, .i32⟩
  | 98 => ⟨S_, .i32⟩
  | 99 => ⟨S12x16x16, .i32⟩
  | 100 => ⟨S12x16x16, .i32⟩
  | 101 => ⟨S12x16x16, .i32⟩
  | 102 => ⟨S12x16x16, .i32⟩
  | 103 => ⟨S12x16x16, .i32⟩
  | 104 => ⟨S_, .i32⟩
  | 105 => ⟨S12x16x16, .i32⟩
  | 106 => ⟨S12x16x16, .i32⟩
  | 107 => ⟨S_, .i32⟩
  | 108 => ⟨S12x16x16, .i32⟩
  | 109 => ⟨S12x16x16, .i32⟩
  | 110 => ⟨S12x16x16, .i32⟩
  | 111 => ⟨S12x16x16, .i32⟩
  | 112 => ⟨S12x16x16, .i32⟩
  | 113 => ⟨S_, .i32⟩
  | 114 => ⟨S12x16x16, .i32⟩
  | 115 => ⟨S12x16x16, .i32⟩
  | 116 => ⟨S_, .i32⟩
  | 117 => ⟨S12x16x16, .i32⟩
  | 118 => ⟨S12x16x16, .i32⟩
  | 119 => ⟨S12x16x16, .i32⟩
  | 120 => ⟨S12x16x16, .i32⟩
  | 121 => ⟨S12x16x16, .i32⟩
  | 122 => ⟨S_, .i32⟩
  | 123 => ⟨S12x16x16, .i32⟩
  | 124 => ⟨S12x16x16, .i32⟩
  | 125 => ⟨S_, .i32⟩
  | 126 => ⟨S12x16x16, .i32⟩
  | 127 => ⟨S12x16x16, .i32⟩
  | _ => ⟨S1x12x2048x64, .f32⟩

abbrev hbmTy0_2 (i : Nat) : BufTy := match i % 128 with
  | 0 => ⟨S12x16x16, .i32⟩
  | 1 => ⟨S12x16x16, .i32⟩
  | 2 => ⟨S12x16x16, .i32⟩
  | 3 => ⟨S12x16x16, .i32⟩
  | 4 => ⟨S12x16x16, .i32⟩
  | 5 => ⟨S12x16x16, .i32⟩
  | 6 => ⟨S_, .i32⟩
  | 7 => ⟨S12x16x16, .i32⟩
  | 8 => ⟨S12x16x16, .i32⟩
  | 9 => ⟨S12x16x16, .i32⟩
  | 10 => ⟨S_, .i32⟩
  | 11 => ⟨S12x16x16, .i32⟩
  | 12 => ⟨S12x16x16, .i32⟩
  | 13 => ⟨S_, .i32⟩
  | 14 => ⟨S12x16x16, .i32⟩
  | 15 => ⟨S12x16x16, .i32⟩
  | 16 => ⟨S12x16x16, .f32⟩
  | 17 => ⟨S_, .f32⟩
  | 18 => ⟨S12x16x16, .f32⟩
  | 19 => ⟨S12x16x16, .f32⟩
  | 20 => ⟨S1x1x1, .f32⟩
  | 21 => ⟨S12x16x16, .f32⟩
  | 22 => ⟨S12x16x16, .f32⟩
  | 23 => ⟨S12x16x16, .f32⟩
  | 24 => ⟨S12x16x16, .f32⟩
  | 25 => ⟨S12x16x16, .f32⟩
  | 26 => ⟨S12x16x16, .f32⟩
  | 27 => ⟨S_, .f32⟩
  | 28 => ⟨S12x16x16, .f32⟩
  | 29 => ⟨S12x16x16, .f32⟩
  | 30 => ⟨S12x16x16, .f32⟩
  | 31 => ⟨S12x16x16, .f32⟩
  | 32 => ⟨S_, .f32⟩
  | 33 => ⟨S12x16x16, .f32⟩
  | 34 => ⟨S12x16x16, .f32⟩
  | 35 => ⟨S12x16x16, .f32⟩
  | 36 => ⟨S12x16x16, .f32⟩
  | 37 => ⟨S1x12x2048x64, .f32⟩
  | _ => ⟨S1x12x2048x64, .f32⟩

abbrev hbmTy (i : Nat) : BufTy := match i / 128 with
  | 0 => hbmTy0_0 i
  | 1 => hbmTy0_1 i
  | 2 => hbmTy0_2 i
  | _ => ⟨S1x12x2048x64, .f32⟩

abbrev bufTy : (tb : Table) → Fin (tcTables nBuf tb) → BufTy
  | .hbm, ⟨i, _⟩ => hbmTy i
  | .local _ .vmem, ⟨0, _⟩ => ⟨S1x16x16, .f32⟩
  | .local _ .vmem, ⟨1, _⟩ => ⟨S1x16x16, .f32⟩
  | .local _ .vmem, ⟨2, _⟩ => ⟨S1x1x2048x64, .f32⟩
  | .local _ .vmem, ⟨3, _⟩ => ⟨S1x1x2048x64, .f32⟩
  | .local _ .vmem, ⟨4, _⟩ => ⟨S1x1x2048x64, .f32⟩
  | .local _ .vmem, ⟨5, _⟩ => ⟨S1x1x2048x64, .f32⟩
  | .local _ .vmem, ⟨6, _⟩ => ⟨S1x1x2048x64, .f32⟩
  | .local _ .vmem, ⟨7, _⟩ => ⟨S1x1x2048x64, .f32⟩
  | .local _ .vmem, ⟨8, _⟩ => ⟨S1x1x2048x64, .f32⟩
  | .local _ .vmem, ⟨9, _⟩ => ⟨S1x1x2048x64, .f32⟩
  | _, _ => ⟨S1x12x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_c_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_c_1 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_cst : Ref sig .tc := ⟨.hbm, 14, rfl⟩
abbrev main_call0_cst_2 : Ref sig .tc := ⟨.hbm, 15, rfl⟩
abbrev main_call0_call0_v0 : Ref sig .tc := ⟨.hbm, 16, rfl⟩
abbrev main_call0_call0_v1 : Ref sig .tc := ⟨.hbm, 17, rfl⟩
abbrev main_call0_call0_v2 : Ref sig .tc := ⟨.hbm, 18, rfl⟩
abbrev main_call0_call0_v3 : Ref sig .tc := ⟨.hbm, 19, rfl⟩
abbrev main_call0_call0_v4 : Ref sig .tc := ⟨.hbm, 20, rfl⟩
abbrev main_call0_call0_v5 : Ref sig .tc := ⟨.hbm, 21, rfl⟩
abbrev main_call0_call0_v6 : Ref sig .tc := ⟨.hbm, 22, rfl⟩
abbrev main_call0_call0_v7 : Ref sig .tc := ⟨.hbm, 23, rfl⟩
abbrev main_call0_call0_v8 : Ref sig .tc := ⟨.hbm, 24, rfl⟩
abbrev main_call0_call0_v9 : Ref sig .tc := ⟨.hbm, 25, rfl⟩
abbrev main_call0_call0_v10 : Ref sig .tc := ⟨.hbm, 26, rfl⟩
abbrev main_call0_call0_c : Ref sig .tc := ⟨.hbm, 27, rfl⟩
abbrev main_call0_call0_v11 : Ref sig .tc := ⟨.hbm, 28, rfl⟩
abbrev main_call0_call0_v12 : Ref sig .tc := ⟨.hbm, 29, rfl⟩
abbrev main_call0_call0_c_0 : Ref sig .tc := ⟨.hbm, 30, rfl⟩
abbrev main_call0_call0_v13 : Ref sig .tc := ⟨.hbm, 31, rfl⟩
abbrev main_call0_call0_v14 : Ref sig .tc := ⟨.hbm, 32, rfl⟩
abbrev main_call0_call0_c_1 : Ref sig .tc := ⟨.hbm, 33, rfl⟩
abbrev main_call0_call0_v15 : Ref sig .tc := ⟨.hbm, 34, rfl⟩
abbrev main_call0_call0_v16 : Ref sig .tc := ⟨.hbm, 35, rfl⟩
abbrev main_call0_call0_v17 : Ref sig .tc := ⟨.hbm, 36, rfl⟩
abbrev main_call0_call0_v18 : Ref sig .tc := ⟨.hbm, 37, rfl⟩
abbrev main_call0_call0_c_2 : Ref sig .tc := ⟨.hbm, 38, rfl⟩
abbrev main_call0_call0_v19 : Ref sig .tc := ⟨.hbm, 39, rfl⟩
abbrev main_call0_call0_v20 : Ref sig .tc := ⟨.hbm, 40, rfl⟩
abbrev main_call0_call0_v21 : Ref sig .tc := ⟨.hbm, 41, rfl⟩
abbrev main_call0_call0_v22 : Ref sig .tc := ⟨.hbm, 42, rfl⟩
abbrev main_call0_call0_call0_v0 : Ref sig .tc := ⟨.hbm, 43, rfl⟩
abbrev main_call0_call0_call0_c : Ref sig .tc := ⟨.hbm, 44, rfl⟩
abbrev main_call0_call0_call0_v1 : Ref sig .tc := ⟨.hbm, 45, rfl⟩
abbrev main_call0_call0_call0_v2 : Ref sig .tc := ⟨.hbm, 46, rfl⟩
abbrev main_call0_call0_call0_v3 : Ref sig .tc := ⟨.hbm, 47, rfl⟩
abbrev main_call0_call0_call0_v4 : Ref sig .tc := ⟨.hbm, 48, rfl⟩
abbrev main_call0_call0_call0_v5 : Ref sig .tc := ⟨.hbm, 49, rfl⟩
abbrev main_call0_call0_call0_v6 : Ref sig .tc := ⟨.hbm, 50, rfl⟩
abbrev main_call0_call0_call0_c_0 : Ref sig .tc := ⟨.hbm, 51, rfl⟩
abbrev main_call0_call0_call0_v7 : Ref sig .tc := ⟨.hbm, 52, rfl⟩
abbrev main_call0_call0_call0_v8 : Ref sig .tc := ⟨.hbm, 53, rfl⟩
abbrev main_call0_call0_call0_c_1 : Ref sig .tc := ⟨.hbm, 54, rfl⟩
abbrev main_call0_call0_call0_v9 : Ref sig .tc := ⟨.hbm, 55, rfl⟩
abbrev main_call0_call0_call0_v10 : Ref sig .tc := ⟨.hbm, 56, rfl⟩
abbrev main_call0_call0_call0_v11 : Ref sig .tc := ⟨.hbm, 57, rfl⟩
abbrev main_call0_call0_call0_v12 : Ref sig .tc := ⟨.hbm, 58, rfl⟩
abbrev main_call0_call0_call0_v13 : Ref sig .tc := ⟨.hbm, 59, rfl⟩
abbrev main_call0_call0_call0_c_2 : Ref sig .tc := ⟨.hbm, 60, rfl⟩
abbrev main_call0_call0_call0_v14 : Ref sig .tc := ⟨.hbm, 61, rfl⟩
abbrev main_call0_call0_call0_v15 : Ref sig .tc := ⟨.hbm, 62, rfl⟩
abbrev main_call0_call0_call0_c_3 : Ref sig .tc := ⟨.hbm, 63, rfl⟩
abbrev main_call0_call0_call0_v16 : Ref sig .tc := ⟨.hbm, 64, rfl⟩
abbrev main_call0_call0_call0_v17 : Ref sig .tc := ⟨.hbm, 65, rfl⟩
abbrev main_call0_call0_call0_v18 : Ref sig .tc := ⟨.hbm, 66, rfl⟩
abbrev main_call0_call0_call0_v19 : Ref sig .tc := ⟨.hbm, 67, rfl⟩
abbrev main_call0_call0_call0_v20 : Ref sig .tc := ⟨.hbm, 68, rfl⟩
abbrev main_call0_call0_call0_c_4 : Ref sig .tc := ⟨.hbm, 69, rfl⟩
abbrev main_call0_call0_call0_v21 : Ref sig .tc := ⟨.hbm, 70, rfl⟩
abbrev main_call0_call0_call0_v22 : Ref sig .tc := ⟨.hbm, 71, rfl⟩
abbrev main_call0_call0_call0_c_5 : Ref sig .tc := ⟨.hbm, 72, rfl⟩
abbrev main_call0_call0_call0_v23 : Ref sig .tc := ⟨.hbm, 73, rfl⟩
abbrev main_call0_call0_call0_v24 : Ref sig .tc := ⟨.hbm, 74, rfl⟩
abbrev main_call0_call0_call0_v25 : Ref sig .tc := ⟨.hbm, 75, rfl⟩
abbrev main_call0_call0_call0_v26 : Ref sig .tc := ⟨.hbm, 76, rfl⟩
abbrev main_call0_call0_call0_v27 : Ref sig .tc := ⟨.hbm, 77, rfl⟩
abbrev main_call0_call0_call0_c_6 : Ref sig .tc := ⟨.hbm, 78, rfl⟩
abbrev main_call0_call0_call0_v28 : Ref sig .tc := ⟨.hbm, 79, rfl⟩
abbrev main_call0_call0_call0_v29 : Ref sig .tc := ⟨.hbm, 80, rfl⟩
abbrev main_call0_call0_call0_c_7 : Ref sig .tc := ⟨.hbm, 81, rfl⟩
abbrev main_call0_call0_call0_v30 : Ref sig .tc := ⟨.hbm, 82, rfl⟩
abbrev main_call0_call0_call0_v31 : Ref sig .tc := ⟨.hbm, 83, rfl⟩
abbrev main_call0_call0_call0_v32 : Ref sig .tc := ⟨.hbm, 84, rfl⟩
abbrev main_call0_call0_call0_v33 : Ref sig .tc := ⟨.hbm, 85, rfl⟩
abbrev main_call0_call0_call0_v34 : Ref sig .tc := ⟨.hbm, 86, rfl⟩
abbrev main_call0_call0_call0_v35 : Ref sig .tc := ⟨.hbm, 87, rfl⟩
abbrev main_call0_call0_call0_v36 : Ref sig .tc := ⟨.hbm, 88, rfl⟩
abbrev main_call0_call0_call0_v37 : Ref sig .tc := ⟨.hbm, 89, rfl⟩
abbrev main_call0_call0_call0_c_8 : Ref sig .tc := ⟨.hbm, 90, rfl⟩
abbrev main_call0_call0_call0_v38 : Ref sig .tc := ⟨.hbm, 91, rfl⟩
abbrev main_call0_call0_call0_v39 : Ref sig .tc := ⟨.hbm, 92, rfl⟩
abbrev main_call0_call0_call0_v40 : Ref sig .tc := ⟨.hbm, 93, rfl⟩
abbrev main_call0_call0_call0_c_9 : Ref sig .tc := ⟨.hbm, 94, rfl⟩
abbrev main_call0_call0_call0_v41 : Ref sig .tc := ⟨.hbm, 95, rfl⟩
abbrev main_call0_call0_call0_v42 : Ref sig .tc := ⟨.hbm, 96, rfl⟩
abbrev main_call0_call0_call0_c_10 : Ref sig .tc := ⟨.hbm, 97, rfl⟩
abbrev main_call0_call0_call0_v43 : Ref sig .tc := ⟨.hbm, 98, rfl⟩
abbrev main_call0_call0_call0_v44 : Ref sig .tc := ⟨.hbm, 99, rfl⟩
abbrev main_call0_call0_call0_v45 : Ref sig .tc := ⟨.hbm, 100, rfl⟩
abbrev main_call0_call0_call0_v46 : Ref sig .tc := ⟨.hbm, 101, rfl⟩
abbrev main_call0_call0_call0_v47 : Ref sig .tc := ⟨.hbm, 102, rfl⟩
abbrev main_call0_call0_call0_c_11 : Ref sig .tc := ⟨.hbm, 103, rfl⟩
abbrev main_call0_call0_call0_v48 : Ref sig .tc := ⟨.hbm, 104, rfl⟩
abbrev main_call0_call0_call0_v49 : Ref sig .tc := ⟨.hbm, 105, rfl⟩
abbrev main_call0_call0_call0_c_12 : Ref sig .tc := ⟨.hbm, 106, rfl⟩
abbrev main_call0_call0_call0_v50 : Ref sig .tc := ⟨.hbm, 107, rfl⟩
abbrev main_call0_call0_call0_v51 : Ref sig .tc := ⟨.hbm, 108, rfl⟩
abbrev main_call0_call0_call0_v52 : Ref sig .tc := ⟨.hbm, 109, rfl⟩
abbrev main_call0_call0_call0_v53 : Ref sig .tc := ⟨.hbm, 110, rfl⟩
abbrev main_call0_call0_call0_v54 : Ref sig .tc := ⟨.hbm, 111, rfl⟩
abbrev main_call0_call0_call0_c_13 : Ref sig .tc := ⟨.hbm, 112, rfl⟩
abbrev main_call0_call0_call0_v55 : Ref sig .tc := ⟨.hbm, 113, rfl⟩
abbrev main_call0_call0_call0_v56 : Ref sig .tc := ⟨.hbm, 114, rfl⟩
abbrev main_call0_call0_call0_c_14 : Ref sig .tc := ⟨.hbm, 115, rfl⟩
abbrev main_call0_call0_call0_v57 : Ref sig .tc := ⟨.hbm, 116, rfl⟩
abbrev main_call0_call0_call0_v58 : Ref sig .tc := ⟨.hbm, 117, rfl⟩
abbrev main_call0_call0_call0_v59 : Ref sig .tc := ⟨.hbm, 118, rfl⟩
abbrev main_call0_call0_call0_v60 : Ref sig .tc := ⟨.hbm, 119, rfl⟩
abbrev main_call0_call0_call0_v61 : Ref sig .tc := ⟨.hbm, 120, rfl⟩
abbrev main_call0_call0_call0_c_15 : Ref sig .tc := ⟨.hbm, 121, rfl⟩
abbrev main_call0_call0_call0_v62 : Ref sig .tc := ⟨.hbm, 122, rfl⟩
abbrev main_call0_call0_call0_v63 : Ref sig .tc := ⟨.hbm, 123, rfl⟩
abbrev main_call0_call0_call0_c_16 : Ref sig .tc := ⟨.hbm, 124, rfl⟩
abbrev main_call0_call0_call0_v64 : Ref sig .tc := ⟨.hbm, 125, rfl⟩
abbrev main_call0_call0_call0_v65 : Ref sig .tc := ⟨.hbm, 126, rfl⟩
abbrev main_call0_call0_call0_v66 : Ref sig .tc := ⟨.hbm, 127, rfl⟩
abbrev main_call0_call0_call0_v67 : Ref sig .tc := ⟨.hbm, 128, rfl⟩
abbrev main_call0_call0_call0_v68 : Ref sig .tc := ⟨.hbm, 129, rfl⟩
abbrev main_call0_call0_call0_v69 : Ref sig .tc := ⟨.hbm, 130, rfl⟩
abbrev main_call0_call0_call0_v70 : Ref sig .tc := ⟨.hbm, 131, rfl⟩
abbrev main_call0_call0_call0_v71 : Ref sig .tc := ⟨.hbm, 132, rfl⟩
abbrev main_call0_call0_call0_c_17 : Ref sig .tc := ⟨.hbm, 133, rfl⟩
abbrev main_call0_call0_call0_v72 : Ref sig .tc := ⟨.hbm, 134, rfl⟩
abbrev main_call0_call0_call0_v73 : Ref sig .tc := ⟨.hbm, 135, rfl⟩
abbrev main_call0_call0_call0_v74 : Ref sig .tc := ⟨.hbm, 136, rfl⟩
abbrev main_call0_call0_call0_c_18 : Ref sig .tc := ⟨.hbm, 137, rfl⟩
abbrev main_call0_call0_call0_v75 : Ref sig .tc := ⟨.hbm, 138, rfl⟩
abbrev main_call0_call0_call0_v76 : Ref sig .tc := ⟨.hbm, 139, rfl⟩
abbrev main_call0_call0_call0_c_19 : Ref sig .tc := ⟨.hbm, 140, rfl⟩
abbrev main_call0_call0_call0_v77 : Ref sig .tc := ⟨.hbm, 141, rfl⟩
abbrev main_call0_call0_call0_v78 : Ref sig .tc := ⟨.hbm, 142, rfl⟩
abbrev main_call0_call0_call0_v79 : Ref sig .tc := ⟨.hbm, 143, rfl⟩
abbrev main_call0_call0_call0_v80 : Ref sig .tc := ⟨.hbm, 144, rfl⟩
abbrev main_call0_call0_call0_v81 : Ref sig .tc := ⟨.hbm, 145, rfl⟩
abbrev main_call0_call0_call0_c_20 : Ref sig .tc := ⟨.hbm, 146, rfl⟩
abbrev main_call0_call0_call0_v82 : Ref sig .tc := ⟨.hbm, 147, rfl⟩
abbrev main_call0_call0_call0_v83 : Ref sig .tc := ⟨.hbm, 148, rfl⟩
abbrev main_call0_call0_call0_c_21 : Ref sig .tc := ⟨.hbm, 149, rfl⟩
abbrev main_call0_call0_call0_v84 : Ref sig .tc := ⟨.hbm, 150, rfl⟩
abbrev main_call0_call0_call0_v85 : Ref sig .tc := ⟨.hbm, 151, rfl⟩
abbrev main_call0_call0_call0_v86 : Ref sig .tc := ⟨.hbm, 152, rfl⟩
abbrev main_call0_call0_call0_v87 : Ref sig .tc := ⟨.hbm, 153, rfl⟩
abbrev main_call0_call0_call0_v88 : Ref sig .tc := ⟨.hbm, 154, rfl⟩
abbrev main_call0_call0_call0_c_22 : Ref sig .tc := ⟨.hbm, 155, rfl⟩
abbrev main_call0_call0_call0_v89 : Ref sig .tc := ⟨.hbm, 156, rfl⟩
abbrev main_call0_call0_call0_v90 : Ref sig .tc := ⟨.hbm, 157, rfl⟩
abbrev main_call0_call0_call0_c_23 : Ref sig .tc := ⟨.hbm, 158, rfl⟩
abbrev main_call0_call0_call0_v91 : Ref sig .tc := ⟨.hbm, 159, rfl⟩
abbrev main_call0_call0_call0_v92 : Ref sig .tc := ⟨.hbm, 160, rfl⟩
abbrev main_call0_call0_call0_v93 : Ref sig .tc := ⟨.hbm, 161, rfl⟩
abbrev main_call0_call0_call0_v94 : Ref sig .tc := ⟨.hbm, 162, rfl⟩
abbrev main_call0_call0_call0_v95 : Ref sig .tc := ⟨.hbm, 163, rfl⟩
abbrev main_call0_call0_call0_c_24 : Ref sig .tc := ⟨.hbm, 164, rfl⟩
abbrev main_call0_call0_call0_v96 : Ref sig .tc := ⟨.hbm, 165, rfl⟩
abbrev main_call0_call0_call0_v97 : Ref sig .tc := ⟨.hbm, 166, rfl⟩
abbrev main_call0_call0_call0_c_25 : Ref sig .tc := ⟨.hbm, 167, rfl⟩
abbrev main_call0_call0_call0_v98 : Ref sig .tc := ⟨.hbm, 168, rfl⟩
abbrev main_call0_call0_call0_v99 : Ref sig .tc := ⟨.hbm, 169, rfl⟩
abbrev main_call0_call0_call0_v100 : Ref sig .tc := ⟨.hbm, 170, rfl⟩
abbrev main_call0_call0_call0_v101 : Ref sig .tc := ⟨.hbm, 171, rfl⟩
abbrev main_call0_call0_call0_v102 : Ref sig .tc := ⟨.hbm, 172, rfl⟩
abbrev main_call0_call0_call0_v103 : Ref sig .tc := ⟨.hbm, 173, rfl⟩
abbrev main_call0_call0_call0_v104 : Ref sig .tc := ⟨.hbm, 174, rfl⟩
abbrev main_call0_call0_call0_v105 : Ref sig .tc := ⟨.hbm, 175, rfl⟩
abbrev main_call0_call0_call0_c_26 : Ref sig .tc := ⟨.hbm, 176, rfl⟩
abbrev main_call0_call0_call0_v106 : Ref sig .tc := ⟨.hbm, 177, rfl⟩
abbrev main_call0_call0_call0_v107 : Ref sig .tc := ⟨.hbm, 178, rfl⟩
abbrev main_call0_call0_call0_v108 : Ref sig .tc := ⟨.hbm, 179, rfl⟩
abbrev main_call0_call0_call0_c_27 : Ref sig .tc := ⟨.hbm, 180, rfl⟩
abbrev main_call0_call0_call0_v109 : Ref sig .tc := ⟨.hbm, 181, rfl⟩
abbrev main_call0_call0_call0_v110 : Ref sig .tc := ⟨.hbm, 182, rfl⟩
abbrev main_call0_call0_call0_c_28 : Ref sig .tc := ⟨.hbm, 183, rfl⟩
abbrev main_call0_call0_call0_v111 : Ref sig .tc := ⟨.hbm, 184, rfl⟩
abbrev main_call0_call0_call0_v112 : Ref sig .tc := ⟨.hbm, 185, rfl⟩
abbrev main_call0_call0_call0_v113 : Ref sig .tc := ⟨.hbm, 186, rfl⟩
abbrev main_call0_call0_call0_v114 : Ref sig .tc := ⟨.hbm, 187, rfl⟩
abbrev main_call0_call0_call0_v115 : Ref sig .tc := ⟨.hbm, 188, rfl⟩
abbrev main_call0_call0_call0_c_29 : Ref sig .tc := ⟨.hbm, 189, rfl⟩
abbrev main_call0_call0_call0_v116 : Ref sig .tc := ⟨.hbm, 190, rfl⟩
abbrev main_call0_call0_call0_v117 : Ref sig .tc := ⟨.hbm, 191, rfl⟩
abbrev main_call0_call0_call0_c_30 : Ref sig .tc := ⟨.hbm, 192, rfl⟩
abbrev main_call0_call0_call0_v118 : Ref sig .tc := ⟨.hbm, 193, rfl⟩
abbrev main_call0_call0_call0_v119 : Ref sig .tc := ⟨.hbm, 194, rfl⟩
abbrev main_call0_call0_call0_v120 : Ref sig .tc := ⟨.hbm, 195, rfl⟩
abbrev main_call0_call0_call0_v121 : Ref sig .tc := ⟨.hbm, 196, rfl⟩
abbrev main_call0_call0_call0_v122 : Ref sig .tc := ⟨.hbm, 197, rfl⟩
abbrev main_call0_call0_call0_c_31 : Ref sig .tc := ⟨.hbm, 198, rfl⟩
abbrev main_call0_call0_call0_v123 : Ref sig .tc := ⟨.hbm, 199, rfl⟩
abbrev main_call0_call0_call0_v124 : Ref sig .tc := ⟨.hbm, 200, rfl⟩
abbrev main_call0_call0_call0_c_32 : Ref sig .tc := ⟨.hbm, 201, rfl⟩
abbrev main_call0_call0_call0_v125 : Ref sig .tc := ⟨.hbm, 202, rfl⟩
abbrev main_call0_call0_call0_v126 : Ref sig .tc := ⟨.hbm, 203, rfl⟩
abbrev main_call0_call0_call0_v127 : Ref sig .tc := ⟨.hbm, 204, rfl⟩
abbrev main_call0_call0_call0_v128 : Ref sig .tc := ⟨.hbm, 205, rfl⟩
abbrev main_call0_call0_call0_v129 : Ref sig .tc := ⟨.hbm, 206, rfl⟩
abbrev main_call0_call0_call0_c_33 : Ref sig .tc := ⟨.hbm, 207, rfl⟩
abbrev main_call0_call0_call0_v130 : Ref sig .tc := ⟨.hbm, 208, rfl⟩
abbrev main_call0_call0_call0_v131 : Ref sig .tc := ⟨.hbm, 209, rfl⟩
abbrev main_call0_call0_call0_c_34 : Ref sig .tc := ⟨.hbm, 210, rfl⟩
abbrev main_call0_call0_call0_v132 : Ref sig .tc := ⟨.hbm, 211, rfl⟩
abbrev main_call0_call0_call0_v133 : Ref sig .tc := ⟨.hbm, 212, rfl⟩
abbrev main_call0_call0_call0_v134 : Ref sig .tc := ⟨.hbm, 213, rfl⟩
abbrev main_call0_call0_call0_v135 : Ref sig .tc := ⟨.hbm, 214, rfl⟩
abbrev main_call0_call0_call0_v136 : Ref sig .tc := ⟨.hbm, 215, rfl⟩
abbrev main_call0_call0_call0_v137 : Ref sig .tc := ⟨.hbm, 216, rfl⟩
abbrev main_call0_call0_call0_v138 : Ref sig .tc := ⟨.hbm, 217, rfl⟩
abbrev main_call0_call0_call0_v139 : Ref sig .tc := ⟨.hbm, 218, rfl⟩
abbrev main_call0_call0_call0_c_35 : Ref sig .tc := ⟨.hbm, 219, rfl⟩
abbrev main_call0_call0_call0_v140 : Ref sig .tc := ⟨.hbm, 220, rfl⟩
abbrev main_call0_call0_call0_v141 : Ref sig .tc := ⟨.hbm, 221, rfl⟩
abbrev main_call0_call0_call0_v142 : Ref sig .tc := ⟨.hbm, 222, rfl⟩
abbrev main_call0_call0_call0_c_36 : Ref sig .tc := ⟨.hbm, 223, rfl⟩
abbrev main_call0_call0_call0_v143 : Ref sig .tc := ⟨.hbm, 224, rfl⟩
abbrev main_call0_call0_call0_v144 : Ref sig .tc := ⟨.hbm, 225, rfl⟩
abbrev main_call0_call0_call0_c_37 : Ref sig .tc := ⟨.hbm, 226, rfl⟩
abbrev main_call0_call0_call0_v145 : Ref sig .tc := ⟨.hbm, 227, rfl⟩
abbrev main_call0_call0_call0_v146 : Ref sig .tc := ⟨.hbm, 228, rfl⟩
abbrev main_call0_call0_call0_v147 : Ref sig .tc := ⟨.hbm, 229, rfl⟩
abbrev main_call0_call0_call0_v148 : Ref sig .tc := ⟨.hbm, 230, rfl⟩
abbrev main_call0_call0_call0_v149 : Ref sig .tc := ⟨.hbm, 231, rfl⟩
abbrev main_call0_call0_call0_c_38 : Ref sig .tc := ⟨.hbm, 232, rfl⟩
abbrev main_call0_call0_call0_v150 : Ref sig .tc := ⟨.hbm, 233, rfl⟩
abbrev main_call0_call0_call0_v151 : Ref sig .tc := ⟨.hbm, 234, rfl⟩
abbrev main_call0_call0_call0_c_39 : Ref sig .tc := ⟨.hbm, 235, rfl⟩
abbrev main_call0_call0_call0_v152 : Ref sig .tc := ⟨.hbm, 236, rfl⟩
abbrev main_call0_call0_call0_v153 : Ref sig .tc := ⟨.hbm, 237, rfl⟩
abbrev main_call0_call0_call0_v154 : Ref sig .tc := ⟨.hbm, 238, rfl⟩
abbrev main_call0_call0_call0_v155 : Ref sig .tc := ⟨.hbm, 239, rfl⟩
abbrev main_call0_call0_call0_v156 : Ref sig .tc := ⟨.hbm, 240, rfl⟩
abbrev main_call0_call0_call0_c_40 : Ref sig .tc := ⟨.hbm, 241, rfl⟩
abbrev main_call0_call0_call0_v157 : Ref sig .tc := ⟨.hbm, 242, rfl⟩
abbrev main_call0_call0_call0_v158 : Ref sig .tc := ⟨.hbm, 243, rfl⟩
abbrev main_call0_call0_call0_c_41 : Ref sig .tc := ⟨.hbm, 244, rfl⟩
abbrev main_call0_call0_call0_v159 : Ref sig .tc := ⟨.hbm, 245, rfl⟩
abbrev main_call0_call0_call0_v160 : Ref sig .tc := ⟨.hbm, 246, rfl⟩
abbrev main_call0_call0_call0_v161 : Ref sig .tc := ⟨.hbm, 247, rfl⟩
abbrev main_call0_call0_call0_v162 : Ref sig .tc := ⟨.hbm, 248, rfl⟩
abbrev main_call0_call0_call0_v163 : Ref sig .tc := ⟨.hbm, 249, rfl⟩
abbrev main_call0_call0_call0_c_42 : Ref sig .tc := ⟨.hbm, 250, rfl⟩
abbrev main_call0_call0_call0_v164 : Ref sig .tc := ⟨.hbm, 251, rfl⟩
abbrev main_call0_call0_call0_v165 : Ref sig .tc := ⟨.hbm, 252, rfl⟩
abbrev main_call0_call0_call0_c_43 : Ref sig .tc := ⟨.hbm, 253, rfl⟩
abbrev main_call0_call0_call0_v166 : Ref sig .tc := ⟨.hbm, 254, rfl⟩
abbrev main_call0_call0_call0_v167 : Ref sig .tc := ⟨.hbm, 255, rfl⟩
abbrev main_call0_call0_call0_v168 : Ref sig .tc := ⟨.hbm, 256, rfl⟩
abbrev main_call0_call0_call0_v169 : Ref sig .tc := ⟨.hbm, 257, rfl⟩
abbrev main_call0_call0_call0_v170 : Ref sig .tc := ⟨.hbm, 258, rfl⟩
abbrev main_call0_call0_v23_0 : Ref sig .tc := ⟨.hbm, 259, rfl⟩
abbrev main_call0_call0_call0_v172 : Ref sig .tc := ⟨.hbm, 260, rfl⟩
abbrev main_call0_call0_call0_v173 : Ref sig .tc := ⟨.hbm, 261, rfl⟩
abbrev main_call0_call0_call0_c_44 : Ref sig .tc := ⟨.hbm, 262, rfl⟩
abbrev main_call0_call0_call0_v174 : Ref sig .tc := ⟨.hbm, 263, rfl⟩
abbrev main_call0_call0_v23_1 : Ref sig .tc := ⟨.hbm, 264, rfl⟩
abbrev main_call0_call0_v24 : Ref sig .tc := ⟨.hbm, 265, rfl⟩
abbrev main_call0_call0_c_3 : Ref sig .tc := ⟨.hbm, 266, rfl⟩
abbrev main_call0_call0_v25 : Ref sig .tc := ⟨.hbm, 267, rfl⟩
abbrev main_call0_call0_v26 : Ref sig .tc := ⟨.hbm, 268, rfl⟩
abbrev main_call0_call0_c_4 : Ref sig .tc := ⟨.hbm, 269, rfl⟩
abbrev main_call0_call0_v27 : Ref sig .tc := ⟨.hbm, 270, rfl⟩
abbrev main_call0_call0_v28 : Ref sig .tc := ⟨.hbm, 271, rfl⟩
abbrev main_call0_call0_v29 : Ref sig .tc := ⟨.hbm, 272, rfl⟩
abbrev main_call0_call0_cst : Ref sig .tc := ⟨.hbm, 273, rfl⟩
abbrev main_call0_call0_v30 : Ref sig .tc := ⟨.hbm, 274, rfl⟩
abbrev main_call0_call0_v31 : Ref sig .tc := ⟨.hbm, 275, rfl⟩
abbrev main_call0_call0_v32 : Ref sig .tc := ⟨.hbm, 276, rfl⟩
abbrev main_call0_call0_v33 : Ref sig .tc := ⟨.hbm, 277, rfl⟩
abbrev main_call0_call0_v34 : Ref sig .tc := ⟨.hbm, 278, rfl⟩
abbrev main_call0_call0_v35 : Ref sig .tc := ⟨.hbm, 279, rfl⟩
abbrev main_call0_call0_v36 : Ref sig .tc := ⟨.hbm, 280, rfl⟩
abbrev main_call0_call0_v37 : Ref sig .tc := ⟨.hbm, 281, rfl⟩
abbrev main_call0_v7 : Ref sig .tc := ⟨.hbm, 282, rfl⟩
abbrev main_call0_cst_3 : Ref sig .tc := ⟨.hbm, 283, rfl⟩
abbrev main_call0_v8 : Ref sig .tc := ⟨.hbm, 284, rfl⟩
abbrev main_call0_v9 : Ref sig .tc := ⟨.hbm, 285, rfl⟩
abbrev main_call0_v10 : Ref sig .tc := ⟨.hbm, 286, rfl⟩
abbrev main_call0_v11 : Ref sig .tc := ⟨.hbm, 287, rfl⟩
abbrev main_call0_cst_4 : Ref sig .tc := ⟨.hbm, 288, rfl⟩
abbrev main_call0_v12 : Ref sig .tc := ⟨.hbm, 289, rfl⟩
abbrev main_call0_v13 : Ref sig .tc := ⟨.hbm, 290, rfl⟩
abbrev main_call0_v14 : Ref sig .tc := ⟨.hbm, 291, rfl⟩
abbrev main_call0_v15 : Ref sig .tc := ⟨.hbm, 292, rfl⟩
abbrev main_v0 : Ref sig .tc := ⟨.hbm, 293, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![12], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S1x16x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x2048x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S1x12x2048x64 : Shape := ⟨4, ![1, 12, 2048, 64]⟩
abbrev S1x16 : Shape := ⟨2, ![1, 16]⟩
abbrev S12x2048x64 : Shape := ⟨3, ![12, 2048, 64]⟩
abbrev S12x16x128x64 : Shape := ⟨4, ![12, 16, 128, 64]⟩
abbrev S_ : Shape := ⟨0, ![]⟩
abbrev S12x16x64 : Shape := ⟨3, ![12, 16, 64]⟩
abbrev S12x16x16 : Shape := ⟨3, ![12, 16, 16]⟩
abbrev S1 : Shape := ⟨1, ![1]⟩
abbrev S2 : Shape := ⟨1, ![2]⟩
abbrev S1x1x1 : Shape := ⟨3, ![1, 1, 1]⟩
abbrev S12x16 : Shape := ⟨2, ![12, 16]⟩
abbrev S12x16x1 : Shape := ⟨3, ![12, 16, 1]⟩
abbrev S12x1x16 : Shape := ⟨3, ![12, 1, 16]⟩
abbrev S12x16x1x128x64 : Shape := ⟨5, ![12, 16, 1, 128, 64]⟩
abbrev S12x16x16x128x64 : Shape := ⟨5, ![12, 16, 16, 128, 64]⟩
abbrev S12x1x16x128x64 : Shape := ⟨5, ![12, 1, 16, 128, 64]⟩
abbrev S12x16x16x256x64 : Shape := ⟨5, ![12, 16, 16, 256, 64]⟩
abbrev S12x16x16x256x128 : Shape := ⟨5, ![12, 16, 16, 256, 128]⟩
abbrev S12x16x16x128x256 : Shape := ⟨5, ![12, 16, 16, 128, 256]⟩
abbrev S12x16x16x128 : Shape := ⟨4, ![12, 16, 16, 128]⟩
abbrev S12x16x16x128x1 : Shape := ⟨5, ![12, 16, 16, 128, 1]⟩
abbrev S12x16x16x1x1 : Shape := ⟨5, ![12, 16, 16, 1, 1]⟩

abbrev nBuf : Space → Nat
  | .hbm => 656
  | .vmem => 0
  | .smem => 0
  | _ => 0

abbrev hbmTy0_0 (i : Nat) : BufTy := match i % 128 with
  | 0 => ⟨S1x12x2048x64, .f32⟩
  | 1 => ⟨S1x12x2048x64, .f32⟩
  | 2 => ⟨S1x12x2048x64, .f32⟩
  | 3 => ⟨S1x16, .i32⟩
  | 4 => ⟨S12x2048x64, .f32⟩
  | 5 => ⟨S12x2048x64, .f32⟩
  | 6 => ⟨S12x2048x64, .f32⟩
  | 7 => ⟨S12x16x128x64, .f32⟩
  | 8 => ⟨S12x16x128x64, .f32⟩
  | 9 => ⟨S12x16x128x64, .f32⟩
  | 10 => ⟨S_, .f32⟩
  | 11 => ⟨S12x16x64, .f32⟩
  | 12 => ⟨S_, .f32⟩
  | 13 => ⟨S12x16x64, .f32⟩
  | 14 => ⟨S12x16x16, .f32⟩
  | 15 => ⟨S_, .f32⟩
  | 16 => ⟨S12x16x16, .f32⟩
  | 17 => ⟨S12x16x16, .f32⟩
  | 18 => ⟨S_, .f32⟩
  | 19 => ⟨S12x16x16, .f32⟩
  | 20 => ⟨S12x16x16, .f32⟩
  | 21 => ⟨S_, .i32⟩
  | 22 => ⟨S_, .i32⟩
  | 23 => ⟨S_, .i32⟩
  | 24 => ⟨S_, .i32⟩
  | 25 => ⟨S1, .i32⟩
  | 26 => ⟨S_, .i32⟩
  | 27 => ⟨S_, .i32⟩
  | 28 => ⟨S_, .i32⟩
  | 29 => ⟨S1, .i32⟩
  | 30 => ⟨S2, .i32⟩
  | 31 => ⟨S_, .f32⟩
  | 32 => ⟨S12x16x16, .f32⟩
  | 33 => ⟨S12x16x16, .f32⟩
  | 34 => ⟨S12x16x16, .f32⟩
  | 35 => ⟨S_, .f32⟩
  | 36 => ⟨S_, .f32⟩
  | 37 => ⟨S_, .f32⟩
  | 38 => ⟨S_, .f32⟩
  | 39 => ⟨S1x1x1, .f32⟩
  | 40 => ⟨S1x1x1, .f32⟩
  | 41 => ⟨S1, .i32⟩
  | 42 => ⟨S_, .i32⟩
  | 43 => ⟨S1, .i32⟩
  | 44 => ⟨S_, .i32⟩
  | 45 => ⟨S12x16x16, .i64⟩
  | 46 => ⟨S12x16x16, .i64⟩
  | 47 => ⟨S12x16x16, .i64⟩
  | 48 => ⟨S_, .i64⟩
  | 49 => ⟨S12x16x16, .i64⟩
  | 50 => ⟨S12x16x16, .i64⟩
  | 51 => ⟨S_, .i64⟩
  | 52 => ⟨S12x16x16, .i64⟩
  | 53 => ⟨S12x16x16, .i64⟩
  | 54 => ⟨S_, .i64⟩
  | 55 => ⟨S12x16x16, .i64⟩
  | 56 => ⟨S12x16x16, .i64⟩
  | 57 => ⟨S12x16x16, .i64⟩
  | 58 => ⟨S12x16x16, .i64⟩
  | 59 => ⟨S_, .i64⟩
  | 60 => ⟨S12x16x16, .i64⟩
  | 61 => ⟨S12x16x16, .i64⟩
  | 62 => ⟨S12x16x16, .i32⟩
  | 63 => ⟨S12x16x16, .i32⟩
  | 64 => ⟨S_, .i32⟩
  | 65 => ⟨S_, .i32⟩
  | 66 => ⟨S_, .i32⟩
  | 67 => ⟨S12x16x16, .i32⟩
  | 68 => ⟨S12x16x16, .i32⟩
  | 69 => ⟨S12x16x16, .i32⟩
  | 70 => ⟨S12x16x16, .i32⟩
  | 71 => ⟨S12x16x16, .i32⟩
  | 72 => ⟨S_, .i32⟩
  | 73 => ⟨S12x16x16, .i32⟩
  | 74 => ⟨S12x16x16, .i32⟩
  | 75 => ⟨S_, .i32⟩
  | 76 => ⟨S12x16x16, .i32⟩
  | 77 => ⟨S12x16x16, .i32⟩
  | 78 => ⟨S12x16x16, .i32⟩
  | 79 => ⟨S12x16x16, .i32⟩
  | 80 => ⟨S12x16x16, .i32⟩
  | 81 => ⟨S_, .i32⟩
  | 82 => ⟨S12x16x16, .i32⟩
  | 83 => ⟨S12x16x16, .i32⟩
  | 84 => ⟨S_, .i32⟩
  | 85 => ⟨S12x16x16, .i32⟩
  | 86 => ⟨S12x16x16, .i32⟩
  | 87 => ⟨S12x16x16, .i32⟩
  | 88 => ⟨S12x16x16, .i32⟩
  | 89 => ⟨S12x16x16, .i32⟩
  | 90 => ⟨S_, .i32⟩
  | 91 => ⟨S12x16x16, .i32⟩
  | 92 => ⟨S12x16x16, .i32⟩
  | 93 => ⟨S_, .i32⟩
  | 94 => ⟨S12x16x16, .i32⟩
  | 95 => ⟨S12x16x16, .i32⟩
  | 96 => ⟨S12x16x16, .i32⟩
  | 97 => ⟨S12x16x16, .i32⟩
  | 98 => ⟨S12x16x16, .i32⟩
  | 99 => ⟨S_, .i32⟩
  | 100 => ⟨S12x16x16, .i32⟩
  | 101 => ⟨S12x16x16, .i32⟩
  | 102 => ⟨S_, .i32⟩
  | 103 => ⟨S12x16x16, .i32⟩
  | 104 => ⟨S12x16x16, .i32⟩
  | 105 => ⟨S12x16x16, .i32⟩
  | 106 => ⟨S12x16x16, .i32⟩
  | 107 => ⟨S12x16x16, .i32⟩
  | 108 => ⟨S12x16x16, .i32⟩
  | 109 => ⟨S12x16x16, .i32⟩
  | 110 => ⟨S12x16x16, .i32⟩
  | 111 => ⟨S_, .i32⟩
  | 112 => ⟨S12x16x16, .i32⟩
  | 113 => ⟨S12x16x16, .i32⟩
  | 114 => ⟨S12x16x16, .i32⟩
  | 115 => ⟨S_, .i32⟩
  | 116 => ⟨S12x16x16, .i32⟩
  | 117 => ⟨S12x16x16, .i32⟩
  | 118 => ⟨S_, .i32⟩
  | 119 => ⟨S12x16x16, .i32⟩
  | 120 => ⟨S12x16x16, .i32⟩
  | 121 => ⟨S12x16x16, .i32⟩
  | 122 => ⟨S12x16x16, .i32⟩
  | 123 => ⟨S12x16x16, .i32⟩
  | 124 => ⟨S_, .i32⟩
  | 125 => ⟨S12x16x16, .i32⟩
  | 126 => ⟨S12x16x16, .i32⟩
  | 127 => ⟨S_, .i32⟩
  | _ => ⟨S1x12x2048x64, .f32⟩

abbrev hbmTy0_1 (i : Nat) : BufTy := match i % 128 with
  | 0 => ⟨S12x16x16, .i32⟩
  | 1 => ⟨S12x16x16, .i32⟩
  | 2 => ⟨S12x16x16, .i32⟩
  | 3 => ⟨S12x16x16, .i32⟩
  | 4 => ⟨S12x16x16, .i32⟩
  | 5 => ⟨S_, .i32⟩
  | 6 => ⟨S12x16x16, .i32⟩
  | 7 => ⟨S12x16x16, .i32⟩
  | 8 => ⟨S_, .i32⟩
  | 9 => ⟨S12x16x16, .i32⟩
  | 10 => ⟨S12x16x16, .i32⟩
  | 11 => ⟨S12x16x16, .i32⟩
  | 12 => ⟨S12x16x16, .i32⟩
  | 13 => ⟨S12x16x16, .i32⟩
  | 14 => ⟨S_, .i32⟩
  | 15 => ⟨S12x16x16, .i32⟩
  | 16 => ⟨S12x16x16, .i32⟩
  | 17 => ⟨S_, .i32⟩
  | 18 => ⟨S12x16x16, .i32⟩
  | 19 => ⟨S12x16x16, .i32⟩
  | 20 => ⟨S12x16x16, .i32⟩
  | 21 => ⟨S12x16x16, .i32⟩
  | 22 => ⟨S12x16x16, .i32⟩
  | 23 => ⟨S12x16x16, .i32⟩
  | 24 => ⟨S12x16x16, .i32⟩
  | 25 => ⟨S12x16x16, .i32⟩
  | 26 => ⟨S_, .i32⟩
  | 27 => ⟨S12x16x16, .i32⟩
  | 28 => ⟨S12x16x16, .i32⟩
  | 29 => ⟨S12x16x16, .i32⟩
  | 30 => ⟨S_, .i32⟩
  | 31 => ⟨S12x16x16, .i32⟩
  | 32 => ⟨S12x16x16, .i32⟩
  | 33 => ⟨S_, .i32⟩
  | 34 => ⟨S12x16x16, .i32⟩
  | 35 => ⟨S12x16x16, .i32⟩
  | 36 => ⟨S12x16x16, .i32⟩
  | 37 => ⟨S12x16x16, .i32⟩
  | 38 => ⟨S12x16x16, .i32⟩
  | 39 => ⟨S_, .i32⟩
  | 40 => ⟨S12x16x16, .i32⟩
  | 41 => ⟨S12x16x16, .i32⟩
  | 42 => ⟨S_, .i32⟩
  | 43 => ⟨S12x16x16, .i32⟩
  | 44 => ⟨S12x16x16, .i32⟩
  | 45 => ⟨S12x16x16, .i32⟩
  | 46 => ⟨S12x16x16, .i32⟩
  | 47 => ⟨S12x16x16, .i32⟩
  | 48 => ⟨S_, .i32⟩
  | 49 => ⟨S12x16x16, .i32⟩
  | 50 => ⟨S12x16x16, .i32⟩
  | 51 => ⟨S_, .i32⟩
  | 52 => ⟨S12x16x16, .i32⟩
  | 53 => ⟨S12x16x16, .i32⟩
  | 54 => ⟨S12x16x16, .i32⟩
  | 55 => ⟨S12x16x16, .i32⟩
  | 56 => ⟨S12x16x16, .i32⟩
  | 57 => ⟨S_, .i32⟩
  | 58 => ⟨S12x16x16, .i32⟩
  | 59 => ⟨S12x16x16, .i32⟩
  | 60 => ⟨S_, .i32⟩
  | 61 => ⟨S12x16x16, .i32⟩
  | 62 => ⟨S12x16x16, .i32⟩
  | 63 => ⟨S12x16x16, .i32⟩
  | 64 => ⟨S12x16x16, .i32⟩
  | 65 => ⟨S12x16x16, .i32⟩
  | 66 => ⟨S12x16x16, .i32⟩
  | 67 => ⟨S12x16x16, .i32⟩
  | 68 => ⟨S12x16x16, .i32⟩
  | 69 => ⟨S_, .i32⟩
  | 70 => ⟨S12x16x16, .i32⟩
  | 71 => ⟨S12x16x16, .i32⟩
  | 72 => ⟨S12x16x16, .i32⟩
  | 73 => ⟨S_, .i32⟩
  | 74 => ⟨S12x16x16, .i32⟩
  | 75 => ⟨S12x16x16, .i32⟩
  | 76 => ⟨S_, .i32⟩
  | 77 => ⟨S12x16x16, .i32⟩
  | 78 => ⟨S12x16x16, .i32⟩
  | 79 => ⟨S12x16x16, .i32⟩
  | 80 => ⟨S12x16x16, .i32⟩
  | 81 => ⟨S12x16x16, .i32⟩
  | 82 => ⟨S_, .i32⟩
  | 83 => ⟨S12x16x16, .i32⟩
  | 84 => ⟨S12x16x16, .i32⟩
  | 85 => ⟨S_, .i32⟩
  | 86 => ⟨S12x16x16, .i32⟩
  | 87 => ⟨S12x16x16, .i32⟩
  | 88 => ⟨S12x16x16, .i32⟩
  | 89 => ⟨S12x16x16, .i32⟩
  | 90 => ⟨S12x16x16, .i32⟩
  | 91 => ⟨S_, .i32⟩
  | 92 => ⟨S12x16x16, .i32⟩
  | 93 => ⟨S12x16x16, .i32⟩
  | 94 => ⟨S_, .i32⟩
  | 95 => ⟨S12x16x16, .i32⟩
  | 96 => ⟨S12x16x16, .i32⟩
  | 97 => ⟨S12x16x16, .i32⟩
  | 98 => ⟨S12x16x16, .i32⟩
  | 99 => ⟨S12x16x16, .i32⟩
  | 100 => ⟨S_, .i32⟩
  | 101 => ⟨S12x16x16, .i32⟩
  | 102 => ⟨S12x16x16, .i32⟩
  | 103 => ⟨S_, .i32⟩
  | 104 => ⟨S12x16x16, .i32⟩
  | 105 => ⟨S12x16x16, .i32⟩
  | 106 => ⟨S12x16x16, .i32⟩
  | 107 => ⟨S12x16x16, .i32⟩
  | 108 => ⟨S12x16x16, .i32⟩
  | 109 => ⟨S12x16x16, .i32⟩
  | 110 => ⟨S12x16x16, .i32⟩
  | 111 => ⟨S12x16x16, .i32⟩
  | 112 => ⟨S_, .i32⟩
  | 113 => ⟨S12x16x16, .i32⟩
  | 114 => ⟨S12x16x16, .i32⟩
  | 115 => ⟨S12x16x16, .i32⟩
  | 116 => ⟨S_, .i32⟩
  | 117 => ⟨S12x16x16, .i32⟩
  | 118 => ⟨S12x16x16, .i32⟩
  | 119 => ⟨S_, .i32⟩
  | 120 => ⟨S12x16x16, .i32⟩
  | 121 => ⟨S12x16x16, .i32⟩
  | 122 => ⟨S12x16x16, .i32⟩
  | 123 => ⟨S12x16x16, .i32⟩
  | 124 => ⟨S12x16x16, .i32⟩
  | 125 => ⟨S_, .i32⟩
  | 126 => ⟨S12x16x16, .i32⟩
  | 127 => ⟨S12x16x16, .i32⟩
  | _ => ⟨S1x12x2048x64, .f32⟩

abbrev hbmTy0_2 (i : Nat) : BufTy := match i % 128 with
  | 0 => ⟨S_, .i32⟩
  | 1 => ⟨S12x16x16, .i32⟩
  | 2 => ⟨S12x16x16, .i32⟩
  | 3 => ⟨S12x16x16, .i32⟩
  | 4 => ⟨S12x16x16, .i32⟩
  | 5 => ⟨S12x16x16, .i32⟩
  | 6 => ⟨S_, .i32⟩
  | 7 => ⟨S12x16x16, .i32⟩
  | 8 => ⟨S12x16x16, .i32⟩
  | 9 => ⟨S_, .i32⟩
  | 10 => ⟨S12x16x16, .i32⟩
  | 11 => ⟨S12x16x16, .i32⟩
  | 12 => ⟨S12x16x16, .i32⟩
  | 13 => ⟨S12x16x16, .i32⟩
  | 14 => ⟨S12x16x16, .i32⟩
  | 15 => ⟨S_, .i32⟩
  | 16 => ⟨S12x16x16, .i32⟩
  | 17 => ⟨S12x16x16, .i32⟩
  | 18 => ⟨S_, .i32⟩
  | 19 => ⟨S12x16x16, .i32⟩
  | 20 => ⟨S12x16x16, .i32⟩
  | 21 => ⟨S12x16x16, .i32⟩
  | 22 => ⟨S12x16x16, .i32⟩
  | 23 => ⟨S12x16x16, .i32⟩
  | 24 => ⟨S12x16x16, .i32⟩
  | 25 => ⟨S12x16x16, .i32⟩
  | 26 => ⟨S12x16x16, .i32⟩
  | 27 => ⟨S_, .i32⟩
  | 28 => ⟨S12x16x16, .i32⟩
  | 29 => ⟨S12x16x16, .i32⟩
  | 30 => ⟨S12x16x16, .i32⟩
  | 31 => ⟨S_, .i32⟩
  | 32 => ⟨S12x16x16, .i32⟩
  | 33 => ⟨S12x16x16, .i32⟩
  | 34 => ⟨S_, .i32⟩
  | 35 => ⟨S12x16x16, .i32⟩
  | 36 => ⟨S12x16x16, .i32⟩
  | 37 => ⟨S12x16x16, .f32⟩
  | 38 => ⟨S_, .f32⟩
  | 39 => ⟨S12x16x16, .f32⟩
  | 40 => ⟨S12x16x16, .f32⟩
  | 41 => ⟨S1x1x1, .f32⟩
  | 42 => ⟨S12x16x16, .f32⟩
  | 43 => ⟨S12x16x16, .f32⟩
  | 44 => ⟨S12x16x16, .f32⟩
  | 45 => ⟨S12x16x16, .f32⟩
  | 46 => ⟨S12x16x16, .f32⟩
  | 47 => ⟨S12x16x16, .f32⟩
  | 48 => ⟨S_, .f32⟩
  | 49 => ⟨S12x16x16, .f32⟩
  | 50 => ⟨S12x16x16, .f32⟩
  | 51 => ⟨S12x16x16, .f32⟩
  | 52 => ⟨S12x16x16, .f32⟩
  | 53 => ⟨S_, .f32⟩
  | 54 => ⟨S12x16x16, .f32⟩
  | 55 => ⟨S12x16x16, .f32⟩
  | 56 => ⟨S12x16x16, .f32⟩
  | 57 => ⟨S12x16x16, .f32⟩
  | 58 => ⟨S12x16x16, .f32⟩
  | 59 => ⟨S_, .f32⟩
  | 60 => ⟨S12x16x16, .f32⟩
  | 61 => ⟨S12x16x16, .f32⟩
  | 62 => ⟨S_, .f32⟩
  | 63 => ⟨S12x16, .f32⟩
  | 64 => ⟨S12x16x1, .f32⟩
  | 65 => ⟨S12x16x1, .f32⟩
  | 66 => ⟨S_, .f32⟩
  | 67 => ⟨S12x16x1, .f32⟩
  | 68 => ⟨S12x16x1, .i1⟩
  | 69 => ⟨S_, .f32⟩
  | 70 => ⟨S_, .f32⟩
  | 71 => ⟨S12x16x1, .f32⟩
  | 72 => ⟨S12x16x1, .f32⟩
  | 73 => ⟨S12x16x16, .f32⟩
  | 74 => ⟨S12x16x16, .f32⟩
  | 75 => ⟨S12x16x16, .f32⟩
  | 76 => ⟨S_, .f32⟩
  | 77 => ⟨S12x16, .f32⟩
  | 78 => ⟨S12x16x1, .f32⟩
  | 79 => ⟨S12x16x1, .f32⟩
  | 80 => ⟨S12x16x1, .f32⟩
  | 81 => ⟨S12x16x16, .f32⟩
  | 82 => ⟨S12x16x16, .f32⟩
  | 83 => ⟨S_, .f32⟩
  | 84 => ⟨S12x16, .f32⟩
  | 85 => ⟨S12x1x16, .f32⟩
  | 86 => ⟨S12x1x16, .f32⟩
  | 87 => ⟨S_, .f32⟩
  | 88 => ⟨S12x1x16, .f32⟩
  | 89 => ⟨S12x1x16, .i1⟩
  | 90 => ⟨S_, .f32⟩
  | 91 => ⟨S_, .f32⟩
  | 92 => ⟨S12x1x16, .f32⟩
  | 93 => ⟨S12x1x16, .f32⟩
  | 94 => ⟨S12x16x16, .f32⟩
  | 95 => ⟨S12x16x16, .f32⟩
  | 96 => ⟨S12x16x16, .f32⟩
  | 97 => ⟨S_, .f32⟩
  | 98 => ⟨S12x16, .f32⟩
  | 99 => ⟨S12x1x16, .f32⟩
  | 100 => ⟨S12x1x16, .f32⟩
  | 101 => ⟨S12x1x16, .f32⟩
  | 102 => ⟨S12x16x16, .f32⟩
  | 103 => ⟨S12x16x16, .f32⟩
  | 104 => ⟨S_, .f32⟩
  | 105 => ⟨S12x16, .f32⟩
  | 106 => ⟨S12x16x1, .f32⟩
  | 107 => ⟨S12x16x1, .f32⟩
  | 108 => ⟨S_, .f32⟩
  | 109 => ⟨S12x16x1, .f32⟩
  | 110 => ⟨S12x16x1, .i1⟩
  | 111 => ⟨S_, .f32⟩
  | 112 => ⟨S_, .f32⟩
  | 113 => ⟨S12x16x1, .f32⟩
  | 114 => ⟨S12x16x1, .f32⟩
  | 115 => ⟨S12x16x16, .f32⟩
  | 116 => ⟨S12x16x16, .f32⟩
  | 117 => ⟨S12x16x16, .f32⟩
  | 118 => ⟨S_, .f32⟩
  | 119 => ⟨S12x16, .f32⟩
  | 120 => ⟨S12x16x1, .f32⟩
  | 121 => ⟨S12x16x1, .f32⟩
  | 122 => ⟨S12x16x1, .f32⟩
  | 123 => ⟨S12x16x16, .f32⟩
  | 124 => ⟨S12x16x16, .f32⟩
  | 125 => ⟨S_, .f32⟩
  | 126 => ⟨S12x16, .f32⟩
  | 127 => ⟨S12x1x16, .f32⟩
  | _ => ⟨S1x12x2048x64, .f32⟩

abbrev hbmTy0_3 (i : Nat) : BufTy := match i % 128 with
  | 0 => ⟨S12x1x16, .f32⟩
  | 1 => ⟨S_, .f32⟩
  | 2 => ⟨S12x1x16, .f32⟩
  | 3 => ⟨S12x1x16, .i1⟩
  | 4 => ⟨S_, .f32⟩
  | 5 => ⟨S_, .f32⟩
  | 6 => ⟨S12x1x16, .f32⟩
  | 7 => ⟨S12x1x16, .f32⟩
  | 8 => ⟨S12x16x16, .f32⟩
  | 9 => ⟨S12x16x16, .f32⟩
  | 10 => ⟨S12x16x16, .f32⟩
  | 11 => ⟨S_, .f32⟩
  | 12 => ⟨S12x16, .f32⟩
  | 13 => ⟨S12x1x16, .f32⟩
  | 14 => ⟨S12x1x16, .f32⟩
  | 15 => ⟨S12x1x16, .f32⟩
  | 16 => ⟨S12x16x16, .f32⟩
  | 17 => ⟨S12x16x16, .f32⟩
  | 18 => ⟨S_, .f32⟩
  | 19 => ⟨S12x16, .f32⟩
  | 20 => ⟨S12x16x1, .f32⟩
  | 21 => ⟨S12x16x1, .f32⟩
  | 22 => ⟨S_, .f32⟩
  | 23 => ⟨S12x16x1, .f32⟩
  | 24 => ⟨S12x16x1, .i1⟩
  | 25 => ⟨S_, .f32⟩
  | 26 => ⟨S_, .f32⟩
  | 27 => ⟨S12x16x1, .f32⟩
  | 28 => ⟨S12x16x1, .f32⟩
  | 29 => ⟨S12x16x16, .f32⟩
  | 30 => ⟨S12x16x16, .f32⟩
  | 31 => ⟨S12x16x16, .f32⟩
  | 32 => ⟨S_, .f32⟩
  | 33 => ⟨S12x16, .f32⟩
  | 34 => ⟨S12x16x1, .f32⟩
  | 35 => ⟨S12x16x1, .f32⟩
  | 36 => ⟨S12x16x1, .f32⟩
  | 37 => ⟨S12x16x16, .f32⟩
  | 38 => ⟨S12x16x16, .f32⟩
  | 39 => ⟨S_, .f32⟩
  | 40 => ⟨S12x16, .f32⟩
  | 41 => ⟨S12x1x16, .f32⟩
  | 42 => ⟨S12x1x16, .f32⟩
  | 43 => ⟨S_, .f32⟩
  | 44 => ⟨S12x1x16, .f32⟩
  | 45 => ⟨S12x1x16, .i1⟩
  | 46 => ⟨S_, .f32⟩
  | 47 => ⟨S_, .f32⟩
  | 48 => ⟨S12x1x16, .f32⟩
  | 49 => ⟨S12x1x16, .f32⟩
  | 50 => ⟨S12x16x16, .f32⟩
  | 51 => ⟨S12x16x16, .f32⟩
  | 52 => ⟨S12x16x16, .f32⟩
  | 53 => ⟨S_, .f32⟩
  | 54 => ⟨S12x16, .f32⟩
  | 55 => ⟨S12x1x16, .f32⟩
  | 56 => ⟨S12x1x16, .f32⟩
  | 57 => ⟨S12x1x16, .f32⟩
  | 58 => ⟨S12x16x16, .f32⟩
  | 59 => ⟨S12x16x16, .f32⟩
  | 60 => ⟨S_, .f32⟩
  | 61 => ⟨S12x16, .f32⟩
  | 62 => ⟨S12x16x1, .f32⟩
  | 63 => ⟨S12x16x1, .f32⟩
  | 64 => ⟨S_, .f32⟩
  | 65 => ⟨S12x16x1, .f32⟩
  | 66 => ⟨S12x16x1, .i1⟩
  | 67 => ⟨S_, .f32⟩
  | 68 => ⟨S_, .f32⟩
  | 69 => ⟨S12x16x1, .f32⟩
  | 70 => ⟨S12x16x1, .f32⟩
  | 71 => ⟨S12x16x16, .f32⟩
  | 72 => ⟨S12x16x16, .f32⟩
  | 73 => ⟨S12x16x16, .f32⟩
  | 74 => ⟨S_, .f32⟩
  | 75 => ⟨S12x16, .f32⟩
  | 76 => ⟨S12x16x1, .f32⟩
  | 77 => ⟨S12x16x1, .f32⟩
  | 78 => ⟨S12x16x1, .f32⟩
  | 79 => ⟨S12x16x16, .f32⟩
  | 80 => ⟨S12x16x16, .f32⟩
  | 81 => ⟨S_, .f32⟩
  | 82 => ⟨S12x16, .f32⟩
  | 83 => ⟨S12x1x16, .f32⟩
  | 84 => ⟨S12x1x16, .f32⟩
  | 85 => ⟨S_, .f32⟩
  | 86 => ⟨S12x1x16, .f32⟩
  | 87 => ⟨S12x1x16, .i1⟩
  | 88 => ⟨S_, .f32⟩
  | 89 => ⟨S_, .f32⟩
  | 90 => ⟨S12x1x16, .f32⟩
  | 91 => ⟨S12x1x16, .f32⟩
  | 92 => ⟨S12x16x16, .f32⟩
  | 93 => ⟨S12x16x16, .f32⟩
  | 94 => ⟨S12x16x16, .f32⟩
  | 95 => ⟨S_, .f32⟩
  | 96 => ⟨S12x16, .f32⟩
  | 97 => ⟨S12x1x16, .f32⟩
  | 98 => ⟨S12x1x16, .f32⟩
  | 99 => ⟨S12x1x16, .f32⟩
  | 100 => ⟨S12x16x16, .f32⟩
  | 101 => ⟨S12x16x16, .f32⟩
  | 102 => ⟨S_, .f32⟩
  | 103 => ⟨S12x16, .f32⟩
  | 104 => ⟨S12x16x1, .f32⟩
  | 105 => ⟨S12x16x1, .f32⟩
  | 106 => ⟨S_, .f32⟩
  | 107 => ⟨S12x16x1, .f32⟩
  | 108 => ⟨S12x16x1, .i1⟩
  | 109 => ⟨S_, .f32⟩
  | 110 => ⟨S_, .f32⟩
  | 111 => ⟨S12x16x1, .f32⟩
  | 112 => ⟨S12x16x1, .f32⟩
  | 113 => ⟨S12x16x16, .f32⟩
  | 114 => ⟨S12x16x16, .f32⟩
  | 115 => ⟨S12x16x16, .f32⟩
  | 116 => ⟨S_, .f32⟩
  | 117 => ⟨S12x16, .f32⟩
  | 118 => ⟨S12x16x1, .f32⟩
  | 119 => ⟨S12x16x1, .f32⟩
  | 120 => ⟨S12x16x1, .f32⟩
  | 121 => ⟨S12x16x16, .f32⟩
  | 122 => ⟨S12x16x16, .f32⟩
  | 123 => ⟨S_, .f32⟩
  | 124 => ⟨S12x16, .f32⟩
  | 125 => ⟨S12x1x16, .f32⟩
  | 126 => ⟨S12x1x16, .f32⟩
  | 127 => ⟨S_, .f32⟩
  | _ => ⟨S1x12x2048x64, .f32⟩

abbrev hbmTy0_4 (i : Nat) : BufTy := match i % 128 with
  | 0 => ⟨S12x1x16, .f32⟩
  | 1 => ⟨S12x1x16, .i1⟩
  | 2 => ⟨S_, .f32⟩
  | 3 => ⟨S_, .f32⟩
  | 4 => ⟨S12x1x16, .f32⟩
  | 5 => ⟨S12x1x16, .f32⟩
  | 6 => ⟨S12x16x16, .f32⟩
  | 7 => ⟨S12x16x16, .f32⟩
  | 8 => ⟨S12x16x16, .f32⟩
  | 9 => ⟨S_, .f32⟩
  | 10 => ⟨S12x16, .f32⟩
  | 11 => ⟨S12x1x16, .f32⟩
  | 12 => ⟨S12x1x16, .f32⟩
  | 13 => ⟨S12x1x16, .f32⟩
  | 14 => ⟨S12x16x16, .f32⟩
  | 15 => ⟨S12x16x16, .f32⟩
  | 16 => ⟨S_, .f32⟩
  | 17 => ⟨S12x16, .f32⟩
  | 18 => ⟨S12x16x1, .f32⟩
  | 19 => ⟨S12x16x1, .f32⟩
  | 20 => ⟨S_, .f32⟩
  | 21 => ⟨S12x16x1, .f32⟩
  | 22 => ⟨S12x16x1, .i1⟩
  | 23 => ⟨S_, .f32⟩
  | 24 => ⟨S_, .f32⟩
  | 25 => ⟨S12x16x1, .f32⟩
  | 26 => ⟨S12x16x1, .f32⟩
  | 27 => ⟨S12x16x16, .f32⟩
  | 28 => ⟨S12x16x16, .f32⟩
  | 29 => ⟨S12x16x16, .f32⟩
  | 30 => ⟨S_, .f32⟩
  | 31 => ⟨S12x16, .f32⟩
  | 32 => ⟨S12x16x1, .f32⟩
  | 33 => ⟨S12x16x1, .f32⟩
  | 34 => ⟨S12x16x1, .f32⟩
  | 35 => ⟨S12x16x16, .f32⟩
  | 36 => ⟨S12x16x16, .f32⟩
  | 37 => ⟨S_, .f32⟩
  | 38 => ⟨S12x16, .f32⟩
  | 39 => ⟨S12x1x16, .f32⟩
  | 40 => ⟨S12x1x16, .f32⟩
  | 41 => ⟨S_, .f32⟩
  | 42 => ⟨S12x1x16, .f32⟩
  | 43 => ⟨S12x1x16, .i1⟩
  | 44 => ⟨S_, .f32⟩
  | 45 => ⟨S_, .f32⟩
  | 46 => ⟨S12x1x16, .f32⟩
  | 47 => ⟨S12x1x16, .f32⟩
  | 48 => ⟨S12x16x16, .f32⟩
  | 49 => ⟨S12x16x16, .f32⟩
  | 50 => ⟨S12x16x16, .f32⟩
  | 51 => ⟨S_, .f32⟩
  | 52 => ⟨S12x16, .f32⟩
  | 53 => ⟨S12x1x16, .f32⟩
  | 54 => ⟨S12x1x16, .f32⟩
  | 55 => ⟨S12x1x16, .f32⟩
  | 56 => ⟨S12x16x16, .f32⟩
  | 57 => ⟨S12x16x16, .f32⟩
  | 58 => ⟨S_, .f32⟩
  | 59 => ⟨S12x16, .f32⟩
  | 60 => ⟨S12x16x1, .f32⟩
  | 61 => ⟨S12x16x1, .f32⟩
  | 62 => ⟨S_, .f32⟩
  | 63 => ⟨S12x16x1, .f32⟩
  | 64 => ⟨S12x16x1, .i1⟩
  | 65 => ⟨S_, .f32⟩
  | 66 => ⟨S_, .f32⟩
  | 67 => ⟨S12x16x1, .f32⟩
  | 68 => ⟨S12x16x1, .f32⟩
  | 69 => ⟨S12x16x16, .f32⟩
  | 70 => ⟨S12x16x16, .f32⟩
  | 71 => ⟨S12x16x16, .f32⟩
  | 72 => ⟨S_, .f32⟩
  | 73 => ⟨S12x16, .f32⟩
  | 74 => ⟨S12x16x1, .f32⟩
  | 75 => ⟨S12x16x1, .f32⟩
  | 76 => ⟨S12x16x1, .f32⟩
  | 77 => ⟨S12x16x16, .f32⟩
  | 78 => ⟨S12x16x16, .f32⟩
  | 79 => ⟨S_, .f32⟩
  | 80 => ⟨S12x16, .f32⟩
  | 81 => ⟨S12x1x16, .f32⟩
  | 82 => ⟨S12x1x16, .f32⟩
  | 83 => ⟨S_, .f32⟩
  | 84 => ⟨S12x1x16, .f32⟩
  | 85 => ⟨S12x1x16, .i1⟩
  | 86 => ⟨S_, .f32⟩
  | 87 => ⟨S_, .f32⟩
  | 88 => ⟨S12x1x16, .f32⟩
  | 89 => ⟨S12x1x16, .f32⟩
  | 90 => ⟨S12x16x16, .f32⟩
  | 91 => ⟨S12x16x16, .f32⟩
  | 92 => ⟨S12x16x16, .f32⟩
  | 93 => ⟨S_, .f32⟩
  | 94 => ⟨S12x16, .f32⟩
  | 95 => ⟨S12x1x16, .f32⟩
  | 96 => ⟨S12x1x16, .f32⟩
  | 97 => ⟨S12x1x16, .f32⟩
  | 98 => ⟨S12x16x16, .f32⟩
  | 99 => ⟨S12x16x16, .f32⟩
  | 100 => ⟨S12x16x16, .f32⟩
  | 101 => ⟨S12x16x1x128x64, .f32⟩
  | 102 => ⟨S12x16x16x128x64, .f32⟩
  | 103 => ⟨S12x1x16x128x64, .f32⟩
  | 104 => ⟨S12x16x16x128x64, .f32⟩
  | 105 => ⟨S12x16x16x256x64, .f32⟩
  | 106 => ⟨S12x16x1x128x64, .f32⟩
  | 107 => ⟨S12x16x16x128x64, .f32⟩
  | 108 => ⟨S12x1x16x128x64, .f32⟩
  | 109 => ⟨S12x16x16x128x64, .f32⟩
  | 110 => ⟨S12x16x16x256x64, .f32⟩
  | 111 => ⟨S12x16x16x256x128, .f32⟩
  | 112 => ⟨S12x16x16x128x256, .f32⟩
  | 113 => ⟨S_, .f32⟩
  | 114 => ⟨S12x16x16x128x256, .f32⟩
  | 115 => ⟨S12x16x16x128x256, .f32⟩
  | 116 => ⟨S_, .f32⟩
  | 117 => ⟨S12x16x16x128, .f32⟩
  | 118 => ⟨S_, .f32⟩
  | 119 => ⟨S12x16x16x128, .f32⟩
  | 120 => ⟨S12x16x16x128, .f32⟩
  | 121 => ⟨S12x16x16x128x1, .f32⟩
  | 122 => ⟨S12x16x16x128x256, .f32⟩
  | 123 => ⟨S12x16x16x128x256, .f32⟩
  | 124 => ⟨S12x16x16x128x256, .f32⟩
  | 125 => ⟨S_, .f32⟩
  | 126 => ⟨S12x16x16x128, .f32⟩
  | 127 => ⟨S12x16x16x128x1, .f32⟩
  | _ => ⟨S1x12x2048x64, .f32⟩

abbrev hbmTy0_5 (i : Nat) : BufTy := match i % 128 with
  | 0 => ⟨S12x16x16x128x256, .f32⟩
  | 1 => ⟨S12x16x16x128x256, .f32⟩
  | 2 => ⟨S12x16x16x128x64, .f32⟩
  | 3 => ⟨S_, .f32⟩
  | 4 => ⟨S12x16x16, .f32⟩
  | 5 => ⟨S12x16x16, .i1⟩
  | 6 => ⟨S_, .f32⟩
  | 7 => ⟨S_, .f32⟩
  | 8 => ⟨S12x16x16, .f32⟩
  | 9 => ⟨S12x16x16, .f32⟩
  | 10 => ⟨S12x16x16x1x1, .f32⟩
  | 11 => ⟨S12x16x16x128x64, .f32⟩
  | 12 => ⟨S12x16x16x128x64, .f32⟩
  | 13 => ⟨S_, .f32⟩
  | 14 => ⟨S12x16x128x64, .f32⟩
  | 15 => ⟨S1x12x2048x64, .f32⟩
  | _ => ⟨S1x12x2048x64, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S1x12x2048x64, .f32⟩

abbrev bufTy : (tb : Table) → Fin (tcTables nBuf tb) → BufTy
  | .hbm, ⟨i, _⟩ => hbmTy i
  | _, _ => ⟨S1x12x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_call0_cst : Ref sig .tc := ⟨.hbm, 18, rfl⟩
abbrev main_call0_v0 : Ref sig .tc := ⟨.hbm, 19, rfl⟩
abbrev main_v11 : Ref sig .tc := ⟨.hbm, 20, rfl⟩
abbrev main_c : Ref sig .tc := ⟨.hbm, 21, rfl⟩
abbrev main_c_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_cst_6 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_v5 : Ref sig .tc := ⟨.hbm, 42, rfl⟩
abbrev main_call1_v6 : Ref sig .tc := ⟨.hbm, 43, rfl⟩
abbrev main_call1_v7 : Ref sig .tc := ⟨.hbm, 44, rfl⟩
abbrev main_call1_v8 : Ref sig .tc := ⟨.hbm, 45, rfl⟩
abbrev main_call1_v9 : Ref sig .tc := ⟨.hbm, 46, rfl⟩
abbrev main_call1_v10 : Ref sig .tc := ⟨.hbm, 47, rfl⟩
abbrev main_call1_c : Ref sig .tc := ⟨.hbm, 48, rfl⟩
abbrev main_call1_v11 : Ref sig .tc := ⟨.hbm, 49, rfl⟩
abbrev main_call1_v12 : Ref sig .tc := ⟨.hbm, 50, rfl⟩
abbrev main_call1_c_0 : Ref sig .tc := ⟨.hbm, 51, rfl⟩
abbrev main_call1_v13 : Ref sig .tc := ⟨.hbm, 52, rfl⟩
abbrev main_call1_v14 : Ref sig .tc := ⟨.hbm, 53, rfl⟩
abbrev main_call1_c_1 : Ref sig .tc := ⟨.hbm, 54, rfl⟩
abbrev main_call1_v15 : Ref sig .tc := ⟨.hbm, 55, rfl⟩
abbrev main_call1_v16 : Ref sig .tc := ⟨.hbm, 56, rfl⟩
abbrev main_call1_v17 : Ref sig .tc := ⟨.hbm, 57, rfl⟩
abbrev main_call1_v18 : Ref sig .tc := ⟨.hbm, 58, rfl⟩
abbrev main_call1_c_2 : Ref sig .tc := ⟨.hbm, 59, rfl⟩
abbrev main_call1_v19 : Ref sig .tc := ⟨.hbm, 60, rfl⟩
abbrev main_call1_v20 : Ref sig .tc := ⟨.hbm, 61, rfl⟩
abbrev main_call1_v21 : Ref sig .tc := ⟨.hbm, 62, rfl⟩
abbrev main_call1_v22 : Ref sig .tc := ⟨.hbm, 63, rfl⟩
abbrev main_call1_call0_v0 : Ref sig .tc := ⟨.hbm, 64, rfl⟩
abbrev main_call1_call0_c : Ref sig .tc := ⟨.hbm, 65, rfl⟩
abbrev main_call1_call0_v1 : Ref sig .tc := ⟨.hbm, 66, rfl⟩
abbrev main_call1_call0_v2 : Ref sig .tc := ⟨.hbm, 67, rfl⟩
abbrev main_call1_call0_v3 : Ref sig .tc := ⟨.hbm, 68, rfl⟩
abbrev main_call1_call0_v4 : Ref sig .tc := ⟨.hbm, 69, rfl⟩
abbrev main_call1_call0_v5 : Ref sig .tc := ⟨.hbm, 70, rfl⟩
abbrev main_call1_call0_v6 : Ref sig .tc := ⟨.hbm, 71, rfl⟩
abbrev main_call1_call0_c_0 : Ref sig .tc := ⟨.hbm, 72, rfl⟩
abbrev main_call1_call0_v7 : Ref sig .tc := ⟨.hbm, 73, rfl⟩
abbrev main_call1_call0_v8 : Ref sig .tc := ⟨.hbm, 74, rfl⟩
abbrev main_call1_call0_c_1 : Ref sig .tc := ⟨.hbm, 75, rfl⟩
abbrev main_call1_call0_v9 : Ref sig .tc := ⟨.hbm, 76, rfl⟩
abbrev main_call1_call0_v10 : Ref sig .tc := ⟨.hbm, 77, rfl⟩
abbrev main_call1_call0_v11 : Ref sig .tc := ⟨.hbm, 78, rfl⟩
abbrev main_call1_call0_v12 : Ref sig .tc := ⟨.hbm, 79, rfl⟩
abbrev main_call1_call0_v13 : Ref sig .tc := ⟨.hbm, 80, rfl⟩
abbrev main_call1_call0_c_2 : Ref sig .tc := ⟨.hbm, 81, rfl⟩
abbrev main_call1_call0_v14 : Ref sig .tc := ⟨.hbm, 82, rfl⟩
abbrev main_call1_call0_v15 : Ref sig .tc := ⟨.hbm, 83, rfl⟩
abbrev main_call1_call0_c_3 : Ref sig .tc := ⟨.hbm, 84, rfl⟩
abbrev main_call1_call0_v16 : Ref sig .tc := ⟨.hbm, 85, rfl⟩
abbrev main_call1_call0_v17 : Ref sig .tc := ⟨.hbm, 86, rfl⟩
abbrev main_call1_call0_v18 : Ref sig .tc := ⟨.hbm, 87, rfl⟩
abbrev main_call1_call0_v19 : Ref sig .tc := ⟨.hbm, 88, rfl⟩
abbrev main_call1_call0_v20 : Ref sig .tc := ⟨.hbm, 89, rfl⟩
abbrev main_call1_call0_c_4 : Ref sig .tc := ⟨.hbm, 90, rfl⟩
abbrev main_call1_call0_v21 : Ref sig .tc := ⟨.hbm, 91, rfl⟩
abbrev main_call1_call0_v22 : Ref sig .tc := ⟨.hbm, 92, rfl⟩
abbrev main_call1_call0_c_5 : Ref sig .tc := ⟨.hbm, 93, rfl⟩
abbrev main_call1_call0_v23 : Ref sig .tc := ⟨.hbm, 94, rfl⟩
abbrev main_call1_call0_v24 : Ref sig .tc := ⟨.hbm, 95, rfl⟩
abbrev main_call1_call0_v25 : Ref sig .tc := ⟨.hbm, 96, rfl⟩
abbrev main_call1_call0_v26 : Ref sig .tc := ⟨.hbm, 97, rfl⟩
abbrev main_call1_call0_v27 : Ref sig .tc := ⟨.hbm, 98, rfl⟩
abbrev main_call1_call0_c_6 : Ref sig .tc := ⟨.hbm, 99, rfl⟩
abbrev main_call1_call0_v28 : Ref sig .tc := ⟨.hbm, 100, rfl⟩
abbrev main_call1_call0_v29 : Ref sig .tc := ⟨.hbm, 101, rfl⟩
abbrev main_call1_call0_c_7 : Ref sig .tc := ⟨.hbm, 102, rfl⟩
abbrev main_call1_call0_v30 : Ref sig .tc := ⟨.hbm, 103, rfl⟩
abbrev main_call1_call0_v31 : Ref sig .tc := ⟨.hbm, 104, rfl⟩
abbrev main_call1_call0_v32 : Ref sig .tc := ⟨.hbm, 105, rfl⟩
abbrev main_call1_call0_v33 : Ref sig .tc := ⟨.hbm, 106, rfl⟩
abbrev main_call1_call0_v34 : Ref sig .tc := ⟨.hbm, 107, rfl⟩
abbrev main_call1_call0_v35 : Ref sig .tc := ⟨.hbm, 108, rfl⟩
abbrev main_call1_call0_v36 : Ref sig .tc := ⟨.hbm, 109, rfl⟩
abbrev main_call1_call0_v37 : Ref sig .tc := ⟨.hbm, 110, rfl⟩
abbrev main_call1_call0_c_8 : Ref sig .tc := ⟨.hbm, 111, rfl⟩
abbrev main_call1_call0_v38 : Ref sig .tc := ⟨.hbm, 112, rfl⟩
abbrev main_call1_call0_v39 : Ref sig .tc := ⟨.hbm, 113, rfl⟩
abbrev main_call1_call0_v40 : Ref sig .tc := ⟨.hbm, 114, rfl⟩
abbrev main_call1_call0_c_9 : Ref sig .tc := ⟨.hbm, 115, rfl⟩
abbrev main_call1_call0_v41 : Ref sig .tc := ⟨.hbm, 116, rfl⟩
abbrev main_call1_call0_v42 : Ref sig .tc := ⟨.hbm, 117, rfl⟩
abbrev main_call1_call0_c_10 : Ref sig .tc := ⟨.hbm, 118, rfl⟩
abbrev main_call1_call0_v43 : Ref sig .tc := ⟨.hbm, 119, rfl⟩
abbrev main_call1_call0_v44 : Ref sig .tc := ⟨.hbm, 120, rfl⟩
abbrev main_call1_call0_v45 : Ref sig .tc := ⟨.hbm, 121, rfl⟩
abbrev main_call1_call0_v46 : Ref sig .tc := ⟨.hbm, 122, rfl⟩
abbrev main_call1_call0_v47 : Ref sig .tc := ⟨.hbm, 123, rfl⟩
abbrev main_call1_call0_c_11 : Ref sig .tc := ⟨.hbm, 124, rfl⟩
abbrev main_call1_call0_v48 : Ref sig .tc := ⟨.hbm, 125, rfl⟩
abbrev main_call1_call0_v49 : Ref sig .tc := ⟨.hbm, 126, rfl⟩
abbrev main_call1_call0_c_12 : Ref sig .tc := ⟨.hbm, 127, rfl⟩
abbrev main_call1_call0_v50 : Ref sig .tc := ⟨.hbm, 128, rfl⟩
abbrev main_call1_call0_v51 : Ref sig .tc := ⟨.hbm, 129, rfl⟩
abbrev main_call1_call0_v52 : Ref sig .tc := ⟨.hbm, 130, rfl⟩
abbrev main_call1_call0_v53 : Ref sig .tc := ⟨.hbm, 131, rfl⟩
abbrev main_call1_call0_v54 : Ref sig .tc := ⟨.hbm, 132, rfl⟩
abbrev main_call1_call0_c_13 : Ref sig .tc := ⟨.hbm, 133, rfl⟩
abbrev main_call1_call0_v55 : Ref sig .tc := ⟨.hbm, 134, rfl⟩
abbrev main_call1_call0_v56 : Ref sig .tc := ⟨.hbm, 135, rfl⟩
abbrev main_call1_call0_c_14 : Ref sig .tc := ⟨.hbm, 136, rfl⟩
abbrev main_call1_call0_v57 : Ref sig .tc := ⟨.hbm, 137, rfl⟩
abbrev main_call1_call0_v58 : Ref sig .tc := ⟨.hbm, 138, rfl⟩
abbrev main_call1_call0_v59 : Ref sig .tc := ⟨.hbm, 139, rfl⟩
abbrev main_call1_call0_v60 : Ref sig .tc := ⟨.hbm, 140, rfl⟩
abbrev main_call1_call0_v61 : Ref sig .tc := ⟨.hbm, 141, rfl⟩
abbrev main_call1_call0_c_15 : Ref sig .tc := ⟨.hbm, 142, rfl⟩
abbrev main_call1_call0_v62 : Ref sig .tc := ⟨.hbm, 143, rfl⟩
abbrev main_call1_call0_v63 : Ref sig .tc := ⟨.hbm, 144, rfl⟩
abbrev main_call1_call0_c_16 : Ref sig .tc := ⟨.hbm, 145, rfl⟩
abbrev main_call1_call0_v64 : Ref sig .tc := ⟨.hbm, 146, rfl⟩
abbrev main_call1_call0_v65 : Ref sig .tc := ⟨.hbm, 147, rfl⟩
abbrev main_call1_call0_v66 : Ref sig .tc := ⟨.hbm, 148, rfl⟩
abbrev main_call1_call0_v67 : Ref sig .tc := ⟨.hbm, 149, rfl⟩
abbrev main_call1_call0_v68 : Ref sig .tc := ⟨.hbm, 150, rfl⟩
abbrev main_call1_call0_v69 : Ref sig .tc := ⟨.hbm, 151, rfl⟩
abbrev main_call1_call0_v70 : Ref sig .tc := ⟨.hbm, 152, rfl⟩
abbrev main_call1_call0_v71 : Ref sig .tc := ⟨.hbm, 153, rfl⟩
abbrev main_call1_call0_c_17 : Ref sig .tc := ⟨.hbm, 154, rfl⟩
abbrev main_call1_call0_v72 : Ref sig .tc := ⟨.hbm, 155, rfl⟩
abbrev main_call1_call0_v73 : Ref sig .tc := ⟨.hbm, 156, rfl⟩
abbrev main_call1_call0_v74 : Ref sig .tc := ⟨.hbm, 157, rfl⟩
abbrev main_call1_call0_c_18 : Ref sig .tc := ⟨.hbm, 158, rfl⟩
abbrev main_call1_call0_v75 : Ref sig .tc := ⟨.hbm, 159, rfl⟩
abbrev main_call1_call0_v76 : Ref sig .tc := ⟨.hbm, 160, rfl⟩
abbrev main_call1_call0_c_19 : Ref sig .tc := ⟨.hbm, 161, rfl⟩
abbrev main_call1_call0_v77 : Ref sig .tc := ⟨.hbm, 162, rfl⟩
abbrev main_call1_call0_v78 : Ref sig .tc := ⟨.hbm, 163, rfl⟩
abbrev main_call1_call0_v79 : Ref sig .tc := ⟨.hbm, 164, rfl⟩
abbrev main_call1_call0_v80 : Ref sig .tc := ⟨.hbm, 165, rfl⟩
abbrev main_call1_call0_v81 : Ref sig .tc := ⟨.hbm, 166, rfl⟩
abbrev main_call1_call0_c_20 : Ref sig .tc := ⟨.hbm, 167, rfl⟩
abbrev main_call1_call0_v82 : Ref sig .tc := ⟨.hbm, 168, rfl⟩
abbrev main_call1_call0_v83 : Ref sig .tc := ⟨.hbm, 169, rfl⟩
abbrev main_call1_call0_c_21 : Ref sig .tc := ⟨.hbm, 170, rfl⟩
abbrev main_call1_call0_v84 : Ref sig .tc := ⟨.hbm, 171, rfl⟩
abbrev main_call1_call0_v85 : Ref sig .tc := ⟨.hbm, 172, rfl⟩
abbrev main_call1_call0_v86 : Ref sig .tc := ⟨.hbm, 173, rfl⟩
abbrev main_call1_call0_v87 : Ref sig .tc := ⟨.hbm, 174, rfl⟩
abbrev main_call1_call0_v88 : Ref sig .tc := ⟨.hbm, 175, rfl⟩
abbrev main_call1_call0_c_22 : Ref sig .tc := ⟨.hbm, 176, rfl⟩
abbrev main_call1_call0_v89 : Ref sig .tc := ⟨.hbm, 177, rfl⟩
abbrev main_call1_call0_v90 : Ref sig .tc := ⟨.hbm, 178, rfl⟩
abbrev main_call1_call0_c_23 : Ref sig .tc := ⟨.hbm, 179, rfl⟩
abbrev main_call1_call0_v91 : Ref sig .tc := ⟨.hbm, 180, rfl⟩
abbrev main_call1_call0_v92 : Ref sig .tc := ⟨.hbm, 181, rfl⟩
abbrev main_call1_call0_v93 : Ref sig .tc := ⟨.hbm, 182, rfl⟩
abbrev main_call1_call0_v94 : Ref sig .tc := ⟨.hbm, 183, rfl⟩
abbrev main_call1_call0_v95 : Ref sig .tc := ⟨.hbm, 184, rfl⟩
abbrev main_call1_call0_c_24 : Ref sig .tc := ⟨.hbm, 185, rfl⟩
abbrev main_call1_call0_v96 : Ref sig .tc := ⟨.hbm, 186, rfl⟩
abbrev main_call1_call0_v97 : Ref sig .tc := ⟨.hbm, 187, rfl⟩
abbrev main_call1_call0_c_25 : Ref sig .tc := ⟨.hbm, 188, rfl⟩
abbrev main_call1_call0_v98 : Ref sig .tc := ⟨.hbm, 189, rfl⟩
abbrev main_call1_call0_v99 : Ref sig .tc := ⟨.hbm, 190, rfl⟩
abbrev main_call1_call0_v100 : Ref sig .tc := ⟨.hbm, 191, rfl⟩
abbrev main_call1_call0_v101 : Ref sig .tc := ⟨.hbm, 192, rfl⟩
abbrev main_call1_call0_v102 : Ref sig .tc := ⟨.hbm, 193, rfl⟩
abbrev main_call1_call0_v103 : Ref sig .tc := ⟨.hbm, 194, rfl⟩
abbrev main_call1_call0_v104 : Ref sig .tc := ⟨.hbm, 195, rfl⟩
abbrev main_call1_call0_v105 : Ref sig .tc := ⟨.hbm, 196, rfl⟩
abbrev main_call1_call0_c_26 : Ref sig .tc := ⟨.hbm, 197, rfl⟩
abbrev main_call1_call0_v106 : Ref sig .tc := ⟨.hbm, 198, rfl⟩
abbrev main_call1_call0_v107 : Ref sig .tc := ⟨.hbm, 199, rfl⟩
abbrev main_call1_call0_v108 : Ref sig .tc := ⟨.hbm, 200, rfl⟩
abbrev main_call1_call0_c_27 : Ref sig .tc := ⟨.hbm, 201, rfl⟩
abbrev main_call1_call0_v109 : Ref sig .tc := ⟨.hbm, 202, rfl⟩
abbrev main_call1_call0_v110 : Ref sig .tc := ⟨.hbm, 203, rfl⟩
abbrev main_call1_call0_c_28 : Ref sig .tc := ⟨.hbm, 204, rfl⟩
abbrev main_call1_call0_v111 : Ref sig .tc := ⟨.hbm, 205, rfl⟩
abbrev main_call1_call0_v112 : Ref sig .tc := ⟨.hbm, 206, rfl⟩
abbrev main_call1_call0_v113 : Ref sig .tc := ⟨.hbm, 207, rfl⟩
abbrev main_call1_call0_v114 : Ref sig .tc := ⟨.hbm, 208, rfl⟩
abbrev main_call1_call0_v115 : Ref sig .tc := ⟨.hbm, 209, rfl⟩
abbrev main_call1_call0_c_29 : Ref sig .tc := ⟨.hbm, 210, rfl⟩
abbrev main_call1_call0_v116 : Ref sig .tc := ⟨.hbm, 211, rfl⟩
abbrev main_call1_call0_v117 : Ref sig .tc := ⟨.hbm, 212, rfl⟩
abbrev main_call1_call0_c_30 : Ref sig .tc := ⟨.hbm, 213, rfl⟩
abbrev main_call1_call0_v118 : Ref sig .tc := ⟨.hbm, 214, rfl⟩
abbrev main_call1_call0_v119 : Ref sig .tc := ⟨.hbm, 215, rfl⟩
abbrev main_call1_call0_v120 : Ref sig .tc := ⟨.hbm, 216, rfl⟩
abbrev main_call1_call0_v121 : Ref sig .tc := ⟨.hbm, 217, rfl⟩
abbrev main_call1_call0_v122 : Ref sig .tc := ⟨.hbm, 218, rfl⟩
abbrev main_call1_call0_c_31 : Ref sig .tc := ⟨.hbm, 219, rfl⟩
abbrev main_call1_call0_v123 : Ref sig .tc := ⟨.hbm, 220, rfl⟩
abbrev main_call1_call0_v124 : Ref sig .tc := ⟨.hbm, 221, rfl⟩
abbrev main_call1_call0_c_32 : Ref sig .tc := ⟨.hbm, 222, rfl⟩
abbrev main_call1_call0_v125 : Ref sig .tc := ⟨.hbm, 223, rfl⟩
abbrev main_call1_call0_v126 : Ref sig .tc := ⟨.hbm, 224, rfl⟩
abbrev main_call1_call0_v127 : Ref sig .tc := ⟨.hbm, 225, rfl⟩
abbrev main_call1_call0_v128 : Ref sig .tc := ⟨.hbm, 226, rfl⟩
abbrev main_call1_call0_v129 : Ref sig .tc := ⟨.hbm, 227, rfl⟩
abbrev main_call1_call0_c_33 : Ref sig .tc := ⟨.hbm, 228, rfl⟩
abbrev main_call1_call0_v130 : Ref sig .tc := ⟨.hbm, 229, rfl⟩
abbrev main_call1_call0_v131 : Ref sig .tc := ⟨.hbm, 230, rfl⟩
abbrev main_call1_call0_c_34 : Ref sig .tc := ⟨.hbm, 231, rfl⟩
abbrev main_call1_call0_v132 : Ref sig .tc := ⟨.hbm, 232, rfl⟩
abbrev main_call1_call0_v133 : Ref sig .tc := ⟨.hbm, 233, rfl⟩
abbrev main_call1_call0_v134 : Ref sig .tc := ⟨.hbm, 234, rfl⟩
abbrev main_call1_call0_v135 : Ref sig .tc := ⟨.hbm, 235, rfl⟩
abbrev main_call1_call0_v136 : Ref sig .tc := ⟨.hbm, 236, rfl⟩
abbrev main_call1_call0_v137 : Ref sig .tc := ⟨.hbm, 237, rfl⟩
abbrev main_call1_call0_v138 : Ref sig .tc := ⟨.hbm, 238, rfl⟩
abbrev main_call1_call0_v139 : Ref sig .tc := ⟨.hbm, 239, rfl⟩
abbrev main_call1_call0_c_35 : Ref sig .tc := ⟨.hbm, 240, rfl⟩
abbrev main_call1_call0_v140 : Ref sig .tc := ⟨.hbm, 241, rfl⟩
abbrev main_call1_call0_v141 : Ref sig .tc := ⟨.hbm, 242, rfl⟩
abbrev main_call1_call0_v142 : Ref sig .tc := ⟨.hbm, 243, rfl⟩
abbrev main_call1_call0_c_36 : Ref sig .tc := ⟨.hbm, 244, rfl⟩
abbrev main_call1_call0_v143 : Ref sig .tc := ⟨.hbm, 245, rfl⟩
abbrev main_call1_call0_v144 : Ref sig .tc := ⟨.hbm, 246, rfl⟩
abbrev main_call1_call0_c_37 : Ref sig .tc := ⟨.hbm, 247, rfl⟩
abbrev main_call1_call0_v145 : Ref sig .tc := ⟨.hbm, 248, rfl⟩
abbrev main_call1_call0_v146 : Ref sig .tc := ⟨.hbm, 249, rfl⟩
abbrev main_call1_call0_v147 : Ref sig .tc := ⟨.hbm, 250, rfl⟩
abbrev main_call1_call0_v148 : Ref sig .tc := ⟨.hbm, 251, rfl⟩
abbrev main_call1_call0_v149 : Ref sig .tc := ⟨.hbm, 252, rfl⟩
abbrev main_call1_call0_c_38 : Ref sig .tc := ⟨.hbm, 253, rfl⟩
abbrev main_call1_call0_v150 : Ref sig .tc := ⟨.hbm, 254, rfl⟩
abbrev main_call1_call0_v151 : Ref sig .tc := ⟨.hbm, 255, rfl⟩
abbrev main_call1_call0_c_39 : Ref sig .tc := ⟨.hbm, 256, rfl⟩
abbrev main_call1_call0_v152 : Ref sig .tc := ⟨.hbm, 257, rfl⟩
abbrev main_call1_call0_v153 : Ref sig .tc := ⟨.hbm, 258, rfl⟩
abbrev main_call1_call0_v154 : Ref sig .tc := ⟨.hbm, 259, rfl⟩
abbrev main_call1_call0_v155 : Ref sig .tc := ⟨.hbm, 260, rfl⟩
abbrev main_call1_call0_v156 : Ref sig .tc := ⟨.hbm, 261, rfl⟩
abbrev main_call1_call0_c_40 : Ref sig .tc := ⟨.hbm, 262, rfl⟩
abbrev main_call1_call0_v157 : Ref sig .tc := ⟨.hbm, 263, rfl⟩
abbrev main_call1_call0_v158 : Ref sig .tc := ⟨.hbm, 264, rfl⟩
abbrev main_call1_call0_c_41 : Ref sig .tc := ⟨.hbm, 265, rfl⟩
abbrev main_call1_call0_v159 : Ref sig .tc := ⟨.hbm, 266, rfl⟩
abbrev main_call1_call0_v160 : Ref sig .tc := ⟨.hbm, 267, rfl⟩
abbrev main_call1_call0_v161 : Ref sig .tc := ⟨.hbm, 268, rfl⟩
abbrev main_call1_call0_v162 : Ref sig .tc := ⟨.hbm, 269, rfl⟩
abbrev main_call1_call0_v163 : Ref sig .tc := ⟨.hbm, 270, rfl⟩
abbrev main_call1_call0_c_42 : Ref sig .tc := ⟨.hbm, 271, rfl⟩
abbrev main_call1_call0_v164 : Ref sig .tc := ⟨.hbm, 272, rfl⟩
abbrev main_call1_call0_v165 : Ref sig .tc := ⟨.hbm, 273, rfl⟩
abbrev main_call1_call0_c_43 : Ref sig .tc := ⟨.hbm, 274, rfl⟩
abbrev main_call1_call0_v166 : Ref sig .tc := ⟨.hbm, 275, rfl⟩
abbrev main_call1_call0_v167 : Ref sig .tc := ⟨.hbm, 276, rfl⟩
abbrev main_call1_call0_v168 : Ref sig .tc := ⟨.hbm, 277, rfl⟩
abbrev main_call1_call0_v169 : Ref sig .tc := ⟨.hbm, 278, rfl⟩
abbrev main_call1_call0_v170 : Ref sig .tc := ⟨.hbm, 279, rfl⟩
abbrev main_call1_v23_0 : Ref sig .tc := ⟨.hbm, 280, rfl⟩
abbrev main_call1_call0_v172 : Ref sig .tc := ⟨.hbm, 281, rfl⟩
abbrev main_call1_call0_v173 : Ref sig .tc := ⟨.hbm, 282, rfl⟩
abbrev main_call1_call0_c_44 : Ref sig .tc := ⟨.hbm, 283, rfl⟩
abbrev main_call1_call0_v174 : Ref sig .tc := ⟨.hbm, 284, rfl⟩
abbrev main_call1_v23_1 : Ref sig .tc := ⟨.hbm, 285, rfl⟩
abbrev main_call1_v24 : Ref sig .tc := ⟨.hbm, 286, rfl⟩
abbrev main_call1_c_3 : Ref sig .tc := ⟨.hbm, 287, rfl⟩
abbrev main_call1_v25 : Ref sig .tc := ⟨.hbm, 288, rfl⟩
abbrev main_call1_v26 : Ref sig .tc := ⟨.hbm, 289, rfl⟩
abbrev main_call1_c_4 : Ref sig .tc := ⟨.hbm, 290, rfl⟩
abbrev main_call1_v27 : Ref sig .tc := ⟨.hbm, 291, rfl⟩
abbrev main_call1_v28 : Ref sig .tc := ⟨.hbm, 292, rfl⟩
abbrev main_call1_v29 : Ref sig .tc := ⟨.hbm, 293, rfl⟩
abbrev main_call1_cst : Ref sig .tc := ⟨.hbm, 294, rfl⟩
abbrev main_call1_v30 : Ref sig .tc := ⟨.hbm, 295, rfl⟩
abbrev main_call1_v31 : Ref sig .tc := ⟨.hbm, 296, rfl⟩
abbrev main_call1_v32 : Ref sig .tc := ⟨.hbm, 297, rfl⟩
abbrev main_call1_v33 : Ref sig .tc := ⟨.hbm, 298, rfl⟩
abbrev main_call1_v34 : Ref sig .tc := ⟨.hbm, 299, rfl⟩
abbrev main_call1_v35 : Ref sig .tc := ⟨.hbm, 300, rfl⟩
abbrev main_call1_v36 : Ref sig .tc := ⟨.hbm, 301, rfl⟩
abbrev main_call1_v37 : Ref sig .tc := ⟨.hbm, 302, rfl⟩
abbrev main_v22 : Ref sig .tc := ⟨.hbm, 303, rfl⟩
abbrev main_cst_7 : Ref sig .tc := ⟨.hbm, 304, rfl⟩
abbrev main_v23 : Ref sig .tc := ⟨.hbm, 305, rfl⟩
abbrev main_v24 : Ref sig .tc := ⟨.hbm, 306, rfl⟩
abbrev main_v25 : Ref sig .tc := ⟨.hbm, 307, rfl⟩
abbrev main_v26 : Ref sig .tc := ⟨.hbm, 308, rfl⟩
abbrev main_cst_8 : Ref sig .tc := ⟨.hbm, 309, rfl⟩
abbrev main_v27 : Ref sig .tc := ⟨.hbm, 310, rfl⟩
abbrev main_v28 : Ref sig .tc := ⟨.hbm, 311, rfl⟩
abbrev main_v29 : Ref sig .tc := ⟨.hbm, 312, rfl⟩
abbrev main_v30 : Ref sig .tc := ⟨.hbm, 313, rfl⟩
abbrev main_v31 : Ref sig .tc := ⟨.hbm, 314, rfl⟩
abbrev main_cst_9 : Ref sig .tc := ⟨.hbm, 315, rfl⟩
abbrev main_v32 : Ref sig .tc := ⟨.hbm, 316, rfl⟩
abbrev main_v33 : Ref sig .tc := ⟨.hbm, 317, rfl⟩
abbrev main_cst_10 : Ref sig .tc := ⟨.hbm, 318, rfl⟩
abbrev main_v34 : Ref sig .tc := ⟨.hbm, 319, rfl⟩
abbrev main_v35 : Ref sig .tc := ⟨.hbm, 320, rfl⟩
abbrev main_v36 : Ref sig .tc := ⟨.hbm, 321, rfl⟩
abbrev main_cst_11 : Ref sig .tc := ⟨.hbm, 322, rfl⟩
abbrev main_v37 : Ref sig .tc := ⟨.hbm, 323, rfl⟩
abbrev main_v38 : Ref sig .tc := ⟨.hbm, 324, rfl⟩
abbrev main_cst_12 : Ref sig .tc := ⟨.hbm, 325, rfl⟩
abbrev main_call2_v0 : Ref sig .tc := ⟨.hbm, 326, rfl⟩
abbrev main_call2_v1 : Ref sig .tc := ⟨.hbm, 327, rfl⟩
abbrev main_v39 : Ref sig .tc := ⟨.hbm, 328, rfl⟩
abbrev main_v40 : Ref sig .tc := ⟨.hbm, 329, rfl⟩
abbrev main_v41 : Ref sig .tc := ⟨.hbm, 330, rfl⟩
abbrev main_v42 : Ref sig .tc := ⟨.hbm, 331, rfl⟩
abbrev main_cst_13 : Ref sig .tc := ⟨.hbm, 332, rfl⟩
abbrev main_v43 : Ref sig .tc := ⟨.hbm, 333, rfl⟩
abbrev main_v44 : Ref sig .tc := ⟨.hbm, 334, rfl⟩
abbrev main_v45 : Ref sig .tc := ⟨.hbm, 335, rfl⟩
abbrev main_v46 : Ref sig .tc := ⟨.hbm, 336, rfl⟩
abbrev main_v47 : Ref sig .tc := ⟨.hbm, 337, rfl⟩
abbrev main_v48 : Ref sig .tc := ⟨.hbm, 338, rfl⟩
abbrev main_cst_14 : Ref sig .tc := ⟨.hbm, 339, rfl⟩
abbrev main_v49 : Ref sig .tc := ⟨.hbm, 340, rfl⟩
abbrev main_v50 : Ref sig .tc := ⟨.hbm, 341, rfl⟩
abbrev main_v51 : Ref sig .tc := ⟨.hbm, 342, rfl⟩
abbrev main_cst_15 : Ref sig .tc := ⟨.hbm, 343, rfl⟩
abbrev main_v52 : Ref sig .tc := ⟨.hbm, 344, rfl⟩
abbrev main_v53 : Ref sig .tc := ⟨.hbm, 345, rfl⟩
abbrev main_cst_16 : Ref sig .tc := ⟨.hbm, 346, rfl⟩
abbrev main_call3_v0 : Ref sig .tc := ⟨.hbm, 347, rfl⟩
abbrev main_call3_v1 : Ref sig .tc := ⟨.hbm, 348, rfl⟩
abbrev main_v54 : Ref sig .tc := ⟨.hbm, 349, rfl⟩
abbrev main_v55 : Ref sig .tc := ⟨.hbm, 350, rfl⟩
abbrev main_v56 : Ref sig .tc := ⟨.hbm, 351, rfl⟩
abbrev main_v57 : Ref sig .tc := ⟨.hbm, 352, rfl⟩
abbrev main_cst_17 : Ref sig .tc := ⟨.hbm, 353, rfl⟩
abbrev main_v58 : Ref sig .tc := ⟨.hbm, 354, rfl⟩
abbrev main_v59 : Ref sig .tc := ⟨.hbm, 355, rfl⟩
abbrev main_v60 : Ref sig .tc := ⟨.hbm, 356, rfl⟩
abbrev main_v61 : Ref sig .tc := ⟨.hbm, 357, rfl⟩
abbrev main_v62 : Ref sig .tc := ⟨.hbm, 358, rfl⟩
abbrev main_v63 : Ref sig .tc := ⟨.hbm, 359, rfl⟩
abbrev main_cst_18 : Ref sig .tc := ⟨.hbm, 360, rfl⟩
abbrev main_v64 : Ref sig .tc := ⟨.hbm, 361, rfl⟩
abbrev main_v65 : Ref sig .tc := ⟨.hbm, 362, rfl⟩
abbrev main_v66 : Ref sig .tc := ⟨.hbm, 363, rfl⟩
abbrev main_cst_19 : Ref sig .tc := ⟨.hbm, 364, rfl⟩
abbrev main_v67 : Ref sig .tc := ⟨.hbm, 365, rfl⟩
abbrev main_v68 : Ref sig .tc := ⟨.hbm, 366, rfl⟩
abbrev main_cst_20 : Ref sig .tc := ⟨.hbm, 367, rfl⟩
abbrev main_call4_v0 : Ref sig .tc := ⟨.hbm, 368, rfl⟩
abbrev main_call4_v1 : Ref sig .tc := ⟨.hbm, 369, rfl⟩
abbrev main_v69 : Ref sig .tc := ⟨.hbm, 370, rfl⟩
abbrev main_v70 : Ref sig .tc := ⟨.hbm, 371, rfl⟩
abbrev main_v71 : Ref sig .tc := ⟨.hbm, 372, rfl⟩
abbrev main_v72 : Ref sig .tc := ⟨.hbm, 373, rfl⟩
abbrev main_cst_21 : Ref sig .tc := ⟨.hbm, 374, rfl⟩
abbrev main_v73 : Ref sig .tc := ⟨.hbm, 375, rfl⟩
abbrev main_v74 : Ref sig .tc := ⟨.hbm, 376, rfl⟩
abbrev main_v75 : Ref sig .tc := ⟨.hbm, 377, rfl⟩
abbrev main_v76 : Ref sig .tc := ⟨.hbm, 378, rfl⟩
abbrev main_v77 : Ref sig .tc := ⟨.hbm, 379, rfl⟩
abbrev main_v78 : Ref sig .tc := ⟨.hbm, 380, rfl⟩
abbrev main_cst_22 : Ref sig .tc := ⟨.hbm, 381, rfl⟩
abbrev main_v79 : Ref sig .tc := ⟨.hbm, 382, rfl⟩
abbrev main_v80 : Ref sig .tc := ⟨.hbm, 383, rfl⟩
abbrev main_v81 : Ref sig .tc := ⟨.hbm, 384, rfl⟩
abbrev main_cst_23 : Ref sig .tc := ⟨.hbm, 385, rfl⟩
abbrev main_v82 : Ref sig .tc := ⟨.hbm, 386, rfl⟩
abbrev main_v83 : Ref sig .tc := ⟨.hbm, 387, rfl⟩
abbrev main_cst_24 : Ref sig .tc := ⟨.hbm, 388, rfl⟩
abbrev main_call5_v0 : Ref sig .tc := ⟨.hbm, 389, rfl⟩
abbrev main_call5_v1 : Ref sig .tc := ⟨.hbm, 390, rfl⟩
abbrev main_v84 : Ref sig .tc := ⟨.hbm, 391, rfl⟩
abbrev main_v85 : Ref sig .tc := ⟨.hbm, 392, rfl⟩
abbrev main_v86 : Ref sig .tc := ⟨.hbm, 393, rfl⟩
abbrev main_v87 : Ref sig .tc := ⟨.hbm, 394, rfl⟩
abbrev main_cst_25 : Ref sig .tc := ⟨.hbm, 395, rfl⟩
abbrev main_v88 : Ref sig .tc := ⟨.hbm, 396, rfl⟩
abbrev main_v89 : Ref sig .tc := ⟨.hbm, 397, rfl⟩
abbrev main_v90 : Ref sig .tc := ⟨.hbm, 398, rfl⟩
abbrev main_v91 : Ref sig .tc := ⟨.hbm, 399, rfl⟩
abbrev main_v92 : Ref sig .tc := ⟨.hbm, 400, rfl⟩
abbrev main_v93 : Ref sig .tc := ⟨.hbm, 401, rfl⟩
abbrev main_cst_26 : Ref sig .tc := ⟨.hbm, 402, rfl⟩
abbrev main_v94 : Ref sig .tc := ⟨.hbm, 403, rfl⟩
abbrev main_v95 : Ref sig .tc := ⟨.hbm, 404, rfl⟩
abbrev main_v96 : Ref sig .tc := ⟨.hbm, 405, rfl⟩
abbrev main_cst_27 : Ref sig .tc := ⟨.hbm, 406, rfl⟩
abbrev main_v97 : Ref sig .tc := ⟨.hbm, 407, rfl⟩
abbrev main_v98 : Ref sig .tc := ⟨.hbm, 408, rfl⟩
abbrev main_cst_28 : Ref sig .tc := ⟨.hbm, 409, rfl⟩
abbrev main_call6_v0 : Ref sig .tc := ⟨.hbm, 410, rfl⟩
abbrev main_call6_v1 : Ref sig .tc := ⟨.hbm, 411, rfl⟩
abbrev main_v99 : Ref sig .tc := ⟨.hbm, 412, rfl⟩
abbrev main_v100 : Ref sig .tc := ⟨.hbm, 413, rfl⟩
abbrev main_v101 : Ref sig .tc := ⟨.hbm, 414, rfl⟩
abbrev main_v102 : Ref sig .tc := ⟨.hbm, 415, rfl⟩
abbrev main_cst_29 : Ref sig .tc := ⟨.hbm, 416, rfl⟩
abbrev main_v103 : Ref sig .tc := ⟨.hbm, 417, rfl⟩
abbrev main_v104 : Ref sig .tc := ⟨.hbm, 418, rfl⟩
abbrev main_v105 : Ref sig .tc := ⟨.hbm, 419, rfl⟩
abbrev main_v106 : Ref sig .tc := ⟨.hbm, 420, rfl⟩
abbrev main_v107 : Ref sig .tc := ⟨.hbm, 421, rfl⟩
abbrev main_v108 : Ref sig .tc := ⟨.hbm, 422, rfl⟩
abbrev main_cst_30 : Ref sig .tc := ⟨.hbm, 423, rfl⟩
abbrev main_v109 : Ref sig .tc := ⟨.hbm, 424, rfl⟩
abbrev main_v110 : Ref sig .tc := ⟨.hbm, 425, rfl⟩
abbrev main_v111 : Ref sig .tc := ⟨.hbm, 426, rfl⟩
abbrev main_cst_31 : Ref sig .tc := ⟨.hbm, 427, rfl⟩
abbrev main_v112 : Ref sig .tc := ⟨.hbm, 428, rfl⟩
abbrev main_v113 : Ref sig .tc := ⟨.hbm, 429, rfl⟩
abbrev main_cst_32 : Ref sig .tc := ⟨.hbm, 430, rfl⟩
abbrev main_call7_v0 : Ref sig .tc := ⟨.hbm, 431, rfl⟩
abbrev main_call7_v1 : Ref sig .tc := ⟨.hbm, 432, rfl⟩
abbrev main_v114 : Ref sig .tc := ⟨.hbm, 433, rfl⟩
abbrev main_v115 : Ref sig .tc := ⟨.hbm, 434, rfl⟩
abbrev main_v116 : Ref sig .tc := ⟨.hbm, 435, rfl⟩
abbrev main_v117 : Ref sig .tc := ⟨.hbm, 436, rfl⟩
abbrev main_cst_33 : Ref sig .tc := ⟨.hbm, 437, rfl⟩
abbrev main_v118 : Ref sig .tc := ⟨.hbm, 438, rfl⟩
abbrev main_v119 : Ref sig .tc := ⟨.hbm, 439, rfl⟩
abbrev main_v120 : Ref sig .tc := ⟨.hbm, 440, rfl⟩
abbrev main_v121 : Ref sig .tc := ⟨.hbm, 441, rfl⟩
abbrev main_v122 : Ref sig .tc := ⟨.hbm, 442, rfl⟩
abbrev main_v123 : Ref sig .tc := ⟨.hbm, 443, rfl⟩
abbrev main_cst_34 : Ref sig .tc := ⟨.hbm, 444, rfl⟩
abbrev main_v124 : Ref sig .tc := ⟨.hbm, 445, rfl⟩
abbrev main_v125 : Ref sig .tc := ⟨.hbm, 446, rfl⟩
abbrev main_v126 : Ref sig .tc := ⟨.hbm, 447, rfl⟩
abbrev main_cst_35 : Ref sig .tc := ⟨.hbm, 448, rfl⟩
abbrev main_v127 : Ref sig .tc := ⟨.hbm, 449, rfl⟩
abbrev main_v128 : Ref sig .tc := ⟨.hbm, 450, rfl⟩
abbrev main_cst_36 : Ref sig .tc := ⟨.hbm, 451, rfl⟩
abbrev main_call8_v0 : Ref sig .tc := ⟨.hbm, 452, rfl⟩
abbrev main_call8_v1 : Ref sig .tc := ⟨.hbm, 453, rfl⟩
abbrev main_v129 : Ref sig .tc := ⟨.hbm, 454, rfl⟩
abbrev main_v130 : Ref sig .tc := ⟨.hbm, 455, rfl⟩
abbrev main_v131 : Ref sig .tc := ⟨.hbm, 456, rfl⟩
abbrev main_v132 : Ref sig .tc := ⟨.hbm, 457, rfl⟩
abbrev main_cst_37 : Ref sig .tc := ⟨.hbm, 458, rfl⟩
abbrev main_v133 : Ref sig .tc := ⟨.hbm, 459, rfl⟩
abbrev main_v134 : Ref sig .tc := ⟨.hbm, 460, rfl⟩
abbrev main_v135 : Ref sig .tc := ⟨.hbm, 461, rfl⟩
abbrev main_v136 : Ref sig .tc := ⟨.hbm, 462, rfl⟩
abbrev main_v137 : Ref sig .tc := ⟨.hbm, 463, rfl⟩
abbrev main_v138 : Ref sig .tc := ⟨.hbm, 464, rfl⟩
abbrev main_cst_38 : Ref sig .tc := ⟨.hbm, 465, rfl⟩
abbrev main_v139 : Ref sig .tc := ⟨.hbm, 466, rfl⟩
abbrev main_v140 : Ref sig .tc := ⟨.hbm, 467, rfl⟩
abbrev main_v141 : Ref sig .tc := ⟨.hbm, 468, rfl⟩
abbrev main_cst_39 : Ref sig .tc := ⟨.hbm, 469, rfl⟩
abbrev main_v142 : Ref sig .tc := ⟨.hbm, 470, rfl⟩
abbrev main_v143 : Ref sig .tc := ⟨.hbm, 471, rfl⟩
abbrev main_cst_40 : Ref sig .tc := ⟨.hbm, 472, rfl⟩
abbrev main_call9_v0 : Ref sig .tc := ⟨.hbm, 473, rfl⟩
abbrev main_call9_v1 : Ref sig .tc := ⟨.hbm, 474, rfl⟩
abbrev main_v144 : Ref sig .tc := ⟨.hbm, 475, rfl⟩
abbrev main_v145 : Ref sig .tc := ⟨.hbm, 476, rfl⟩
abbrev main_v146 : Ref sig .tc := ⟨.hbm, 477, rfl⟩
abbrev main_v147 : Ref sig .tc := ⟨.hbm, 478, rfl⟩
abbrev main_cst_41 : Ref sig .tc := ⟨.hbm, 479, rfl⟩
abbrev main_v148 : Ref sig .tc := ⟨.hbm, 480, rfl⟩
abbrev main_v149 : Ref sig .tc := ⟨.hbm, 481, rfl⟩
abbrev main_v150 : Ref sig .tc := ⟨.hbm, 482, rfl⟩
abbrev main_v151 : Ref sig .tc := ⟨.hbm, 483, rfl⟩
abbrev main_v152 : Ref sig .tc := ⟨.hbm, 484, rfl⟩
abbrev main_v153 : Ref sig .tc := ⟨.hbm, 485, rfl⟩
abbrev main_cst_42 : Ref sig .tc := ⟨.hbm, 486, rfl⟩
abbrev main_v154 : Ref sig .tc := ⟨.hbm, 487, rfl⟩
abbrev main_v155 : Ref sig .tc := ⟨.hbm, 488, rfl⟩
abbrev main_v156 : Ref sig .tc := ⟨.hbm, 489, rfl⟩
abbrev main_cst_43 : Ref sig .tc := ⟨.hbm, 490, rfl⟩
abbrev main_v157 : Ref sig .tc := ⟨.hbm, 491, rfl⟩
abbrev main_v158 : Ref sig .tc := ⟨.hbm, 492, rfl⟩
abbrev main_cst_44 : Ref sig .tc := ⟨.hbm, 493, rfl⟩
abbrev main_call10_v0 : Ref sig .tc := ⟨.hbm, 494, rfl⟩
abbrev main_call10_v1 : Ref sig .tc := ⟨.hbm, 495, rfl⟩
abbrev main_v159 : Ref sig .tc := ⟨.hbm, 496, rfl⟩
abbrev main_v160 : Ref sig .tc := ⟨.hbm, 497, rfl⟩
abbrev main_v161 : Ref sig .tc := ⟨.hbm, 498, rfl⟩
abbrev main_v162 : Ref sig .tc := ⟨.hbm, 499, rfl⟩
abbrev main_cst_45 : Ref sig .tc := ⟨.hbm, 500, rfl⟩
abbrev main_v163 : Ref sig .tc := ⟨.hbm, 501, rfl⟩
abbrev main_v164 : Ref sig .tc := ⟨.hbm, 502, rfl⟩
abbrev main_v165 : Ref sig .tc := ⟨.hbm, 503, rfl⟩
abbrev main_v166 : Ref sig .tc := ⟨.hbm, 504, rfl⟩
abbrev main_v167 : Ref sig .tc := ⟨.hbm, 505, rfl⟩
abbrev main_v168 : Ref sig .tc := ⟨.hbm, 506, rfl⟩
abbrev main_cst_46 : Ref sig .tc := ⟨.hbm, 507, rfl⟩
abbrev main_v169 : Ref sig .tc := ⟨.hbm, 508, rfl⟩
abbrev main_v170 : Ref sig .tc := ⟨.hbm, 509, rfl⟩
abbrev main_v171 : Ref sig .tc := ⟨.hbm, 510, rfl⟩
abbrev main_cst_47 : Ref sig .tc := ⟨.hbm, 511, rfl⟩
abbrev main_v172 : Ref sig .tc := ⟨.hbm, 512, rfl⟩
abbrev main_v173 : Ref sig .tc := ⟨.hbm, 513, rfl⟩
abbrev main_cst_48 : Ref sig .tc := ⟨.hbm, 514, rfl⟩
abbrev main_call11_v0 : Ref sig .tc := ⟨.hbm, 515, rfl⟩
abbrev main_call11_v1 : Ref sig .tc := ⟨.hbm, 516, rfl⟩
abbrev main_v174 : Ref sig .tc := ⟨.hbm, 517, rfl⟩
abbrev main_v175 : Ref sig .tc := ⟨.hbm, 518, rfl⟩
abbrev main_v176 : Ref sig .tc := ⟨.hbm, 519, rfl⟩
abbrev main_v177 : Ref sig .tc := ⟨.hbm, 520, rfl⟩
abbrev main_cst_49 : Ref sig .tc := ⟨.hbm, 521, rfl⟩
abbrev main_v178 : Ref sig .tc := ⟨.hbm, 522, rfl⟩
abbrev main_v179 : Ref sig .tc := ⟨.hbm, 523, rfl⟩
abbrev main_v180 : Ref sig .tc := ⟨.hbm, 524, rfl⟩
abbrev main_v181 : Ref sig .tc := ⟨.hbm, 525, rfl⟩
abbrev main_v182 : Ref sig .tc := ⟨.hbm, 526, rfl⟩
abbrev main_v183 : Ref sig .tc := ⟨.hbm, 527, rfl⟩
abbrev main_cst_50 : Ref sig .tc := ⟨.hbm, 528, rfl⟩
abbrev main_v184 : Ref sig .tc := ⟨.hbm, 529, rfl⟩
abbrev main_v185 : Ref sig .tc := ⟨.hbm, 530, rfl⟩
abbrev main_v186 : Ref sig .tc := ⟨.hbm, 531, rfl⟩
abbrev main_cst_51 : Ref sig .tc := ⟨.hbm, 532, rfl⟩
abbrev main_v187 : Ref sig .tc := ⟨.hbm, 533, rfl⟩
abbrev main_v188 : Ref sig .tc := ⟨.hbm, 534, rfl⟩
abbrev main_cst_52 : Ref sig .tc := ⟨.hbm, 535, rfl⟩
abbrev main_call12_v0 : Ref sig .tc := ⟨.hbm, 536, rfl⟩
abbrev main_call12_v1 : Ref sig .tc := ⟨.hbm, 537, rfl⟩
abbrev main_v189 : Ref sig .tc := ⟨.hbm, 538, rfl⟩
abbrev main_v190 : Ref sig .tc := ⟨.hbm, 539, rfl⟩
abbrev main_v191 : Ref sig .tc := ⟨.hbm, 540, rfl⟩
abbrev main_v192 : Ref sig .tc := ⟨.hbm, 541, rfl⟩
abbrev main_cst_53 : Ref sig .tc := ⟨.hbm, 542, rfl⟩
abbrev main_v193 : Ref sig .tc := ⟨.hbm, 543, rfl⟩
abbrev main_v194 : Ref sig .tc := ⟨.hbm, 544, rfl⟩
abbrev main_v195 : Ref sig .tc := ⟨.hbm, 545, rfl⟩
abbrev main_v196 : Ref sig .tc := ⟨.hbm, 546, rfl⟩
abbrev main_v197 : Ref sig .tc := ⟨.hbm, 547, rfl⟩
abbrev main_v198 : Ref sig .tc := ⟨.hbm, 548, rfl⟩
abbrev main_cst_54 : Ref sig .tc := ⟨.hbm, 549, rfl⟩
abbrev main_v199 : Ref sig .tc := ⟨.hbm, 550, rfl⟩
abbrev main_v200 : Ref sig .tc := ⟨.hbm, 551, rfl⟩
abbrev main_v201 : Ref sig .tc := ⟨.hbm, 552, rfl⟩
abbrev main_cst_55 : Ref sig .tc := ⟨.hbm, 553, rfl⟩
abbrev main_v202 : Ref sig .tc := ⟨.hbm, 554, rfl⟩
abbrev main_v203 : Ref sig .tc := ⟨.hbm, 555, rfl⟩
abbrev main_cst_56 : Ref sig .tc := ⟨.hbm, 556, rfl⟩
abbrev main_call13_v0 : Ref sig .tc := ⟨.hbm, 557, rfl⟩
abbrev main_call13_v1 : Ref sig .tc := ⟨.hbm, 558, rfl⟩
abbrev main_v204 : Ref sig .tc := ⟨.hbm, 559, rfl⟩
abbrev main_v205 : Ref sig .tc := ⟨.hbm, 560, rfl⟩
abbrev main_v206 : Ref sig .tc := ⟨.hbm, 561, rfl⟩
abbrev main_v207 : Ref sig .tc := ⟨.hbm, 562, rfl⟩
abbrev main_cst_57 : Ref sig .tc := ⟨.hbm, 563, rfl⟩
abbrev main_v208 : Ref sig .tc := ⟨.hbm, 564, rfl⟩
abbrev main_v209 : Ref sig .tc := ⟨.hbm, 565, rfl⟩
abbrev main_v210 : Ref sig .tc := ⟨.hbm, 566, rfl⟩
abbrev main_v211 : Ref sig .tc := ⟨.hbm, 567, rfl⟩
abbrev main_v212 : Ref sig .tc := ⟨.hbm, 568, rfl⟩
abbrev main_v213 : Ref sig .tc := ⟨.hbm, 569, rfl⟩
abbrev main_cst_58 : Ref sig .tc := ⟨.hbm, 570, rfl⟩
abbrev main_v214 : Ref sig .tc := ⟨.hbm, 571, rfl⟩
abbrev main_v215 : Ref sig .tc := ⟨.hbm, 572, rfl⟩
abbrev main_v216 : Ref sig .tc := ⟨.hbm, 573, rfl⟩
abbrev main_cst_59 : Ref sig .tc := ⟨.hbm, 574, rfl⟩
abbrev main_v217 : Ref sig .tc := ⟨.hbm, 575, rfl⟩
abbrev main_v218 : Ref sig .tc := ⟨.hbm, 576, rfl⟩
abbrev main_cst_60 : Ref sig .tc := ⟨.hbm, 577, rfl⟩
abbrev main_call14_v0 : Ref sig .tc := ⟨.hbm, 578, rfl⟩
abbrev main_call14_v1 : Ref sig .tc := ⟨.hbm, 579, rfl⟩
abbrev main_v219 : Ref sig .tc := ⟨.hbm, 580, rfl⟩
abbrev main_v220 : Ref sig .tc := ⟨.hbm, 581, rfl⟩
abbrev main_v221 : Ref sig .tc := ⟨.hbm, 582, rfl⟩
abbrev main_v222 : Ref sig .tc := ⟨.hbm, 583, rfl⟩
abbrev main_cst_61 : Ref sig .tc := ⟨.hbm, 584, rfl⟩
abbrev main_v223 : Ref sig .tc := ⟨.hbm, 585, rfl⟩
abbrev main_v224 : Ref sig .tc := ⟨.hbm, 586, rfl⟩
abbrev main_v225 : Ref sig .tc := ⟨.hbm, 587, rfl⟩
abbrev main_v226 : Ref sig .tc := ⟨.hbm, 588, rfl⟩
abbrev main_v227 : Ref sig .tc := ⟨.hbm, 589, rfl⟩
abbrev main_v228 : Ref sig .tc := ⟨.hbm, 590, rfl⟩
abbrev main_cst_62 : Ref sig .tc := ⟨.hbm, 591, rfl⟩
abbrev main_v229 : Ref sig .tc := ⟨.hbm, 592, rfl⟩
abbrev main_v230 : Ref sig .tc := ⟨.hbm, 593, rfl⟩
abbrev main_v231 : Ref sig .tc := ⟨.hbm, 594, rfl⟩
abbrev main_cst_63 : Ref sig .tc := ⟨.hbm, 595, rfl⟩
abbrev main_v232 : Ref sig .tc := ⟨.hbm, 596, rfl⟩
abbrev main_v233 : Ref sig .tc := ⟨.hbm, 597, rfl⟩
abbrev main_cst_64 : Ref sig .tc := ⟨.hbm, 598, rfl⟩
abbrev main_call15_v0 : Ref sig .tc := ⟨.hbm, 599, rfl⟩
abbrev main_call15_v1 : Ref sig .tc := ⟨.hbm, 600, rfl⟩
abbrev main_v234 : Ref sig .tc := ⟨.hbm, 601, rfl⟩
abbrev main_v235 : Ref sig .tc := ⟨.hbm, 602, rfl⟩
abbrev main_v236 : Ref sig .tc := ⟨.hbm, 603, rfl⟩
abbrev main_v237 : Ref sig .tc := ⟨.hbm, 604, rfl⟩
abbrev main_cst_65 : Ref sig .tc := ⟨.hbm, 605, rfl⟩
abbrev main_v238 : Ref sig .tc := ⟨.hbm, 606, rfl⟩
abbrev main_v239 : Ref sig .tc := ⟨.hbm, 607, rfl⟩
abbrev main_v240 : Ref sig .tc := ⟨.hbm, 608, rfl⟩
abbrev main_v241 : Ref sig .tc := ⟨.hbm, 609, rfl⟩
abbrev main_v242 : Ref sig .tc := ⟨.hbm, 610, rfl⟩
abbrev main_v243 : Ref sig .tc := ⟨.hbm, 611, rfl⟩
abbrev main_v244 : Ref sig .tc := ⟨.hbm, 612, rfl⟩
abbrev main_v245 : Ref sig .tc := ⟨.hbm, 613, rfl⟩
abbrev main_v246 : Ref sig .tc := ⟨.hbm, 614, rfl⟩
abbrev main_v247 : Ref sig .tc := ⟨.hbm, 615, rfl⟩
abbrev main_v248 : Ref sig .tc := ⟨.hbm, 616, rfl⟩
abbrev main_v249 : Ref sig .tc := ⟨.hbm, 617, rfl⟩
abbrev main_v250 : Ref sig .tc := ⟨.hbm, 618, rfl⟩
abbrev main_v251 : Ref sig .tc := ⟨.hbm, 619, rfl⟩
abbrev main_v252 : Ref sig .tc := ⟨.hbm, 620, rfl⟩
abbrev main_v253 : Ref sig .tc := ⟨.hbm, 621, rfl⟩
abbrev main_v254 : Ref sig .tc := ⟨.hbm, 622, rfl⟩
abbrev main_v255 : Ref sig .tc := ⟨.hbm, 623, rfl⟩
abbrev main_v256 : Ref sig .tc := ⟨.hbm, 624, rfl⟩
abbrev main_cst_66 : Ref sig .tc := ⟨.hbm, 625, rfl⟩
abbrev main_v257 : Ref sig .tc := ⟨.hbm, 626, rfl⟩
abbrev main_v258 : Ref sig .tc := ⟨.hbm, 627, rfl⟩
abbrev main_cst_67 : Ref sig .tc := ⟨.hbm, 628, rfl⟩
abbrev main_v259 : Ref sig .tc := ⟨.hbm, 629, rfl⟩
abbrev main_cst_68 : Ref sig .tc := ⟨.hbm, 630, rfl⟩
abbrev main_v260 : Ref sig .tc := ⟨.hbm, 631, rfl⟩
abbrev main_v261 : Ref sig .tc := ⟨.hbm, 632, rfl⟩
abbrev main_v262 : Ref sig .tc := ⟨.hbm, 633, rfl⟩
abbrev main_v263 : Ref sig .tc := ⟨.hbm, 634, rfl⟩
abbrev main_v264 : Ref sig .tc := ⟨.hbm, 635, rfl⟩
abbrev main_v265 : Ref sig .tc := ⟨.hbm, 636, rfl⟩
abbrev main_cst_69 : Ref sig .tc := ⟨.hbm, 637, rfl⟩
abbrev main_v266 : Ref sig .tc := ⟨.hbm, 638, rfl⟩
abbrev main_v267 : Ref sig .tc := ⟨.hbm, 639, rfl⟩
abbrev main_v268 : Ref sig .tc := ⟨.hbm, 640, rfl⟩
abbrev main_v269 : Ref sig .tc := ⟨.hbm, 641, rfl⟩
abbrev main_v270 : Ref sig .tc := ⟨.hbm, 642, rfl⟩
abbrev main_cst_70 : Ref sig .tc := ⟨.hbm, 643, rfl⟩
abbrev main_v271 : Ref sig .tc := ⟨.hbm, 644, rfl⟩
abbrev main_v272 : Ref sig .tc := ⟨.hbm, 645, rfl⟩
abbrev main_cst_71 : Ref sig .tc := ⟨.hbm, 646, rfl⟩
abbrev main_call16_v0 : Ref sig .tc := ⟨.hbm, 647, rfl⟩
abbrev main_call16_v1 : Ref sig .tc := ⟨.hbm, 648, rfl⟩
abbrev main_v273 : Ref sig .tc := ⟨.hbm, 649, rfl⟩
abbrev main_v274 : Ref sig .tc := ⟨.hbm, 650, rfl⟩
abbrev main_v275 : Ref sig .tc := ⟨.hbm, 651, rfl⟩
abbrev main_v276 : Ref sig .tc := ⟨.hbm, 652, rfl⟩
abbrev main_cst_72 : Ref sig .tc := ⟨.hbm, 653, rfl⟩
abbrev main_v277 : Ref sig .tc := ⟨.hbm, 654, rfl⟩
abbrev main_v278 : Ref sig .tc := ⟨.hbm, 655, rfl⟩

abbrev nD : Nat := 1
abbrev τ : Topo := Topo.v7x

variable {F : FTy → Type} [FloatOps F]
-- ==== Proof.Fix.lean ====
/-
  Straight lines of host operations whose buffers are numbered in the order in which they are written. After such a line
  every buffer holds what its own operation makes of the final contents of its operands: the final contents are a fixed
  point of every operation. The facts about a line are then equations between final contents, with no order left in them.
-/
module

public import Idealize.ShloMosaic.Lib.StableHlo.Run

@[expose] public section

set_option maxRecDepth 16384

noncomputable section

namespace HostLine

open Idealize.ShloMosaic Idealize.ShloMosaic.TcCoe Idealize.ShloMosaic.StableHlo

variable {τ : Topo} {sig : RefSig} {Val : EltTy → Type}

/-- The number of a reference within its memory space. -/
abbrev rank (r : Ref sig .tc) : ℕ := r.idx.val

/-- An operation that writes the one buffer `y`, reads only buffers numbered below it, touches only buffers of the
    TensorCore, and determines what it writes. -/
structure WritesOver (op : HloOp τ sig Val) (y : Ref sig .tc) : Prop where
  writes : op.writes = {Proc.devRef .tc y}
  sub : op.bufs ⊆ tcRefs τ sig
  fresh : op.fresh = ∅
  reads : ∀ V V' : Valuation τ sig Val, (∀ r : Ref sig .tc, rank r < rank y → V (Proc.devRef .tc r) = V' (Proc.devRef .tc r)) →
    op.result V (Proc.devRef .tc y) = op.result V' (Proc.devRef .tc y)

/-- A line whose operations write buffers numbered from `b` on, in increasing order, each reading earlier ones, and whose
    last number is below `e`. -/
inductive Ordered : ℕ → List (HloOp τ sig Val) → ℕ → Prop
  | nil (b : ℕ) : Ordered b [] b
  | cons {b e : ℕ} (y : Ref sig .tc) {op : HloOp τ sig Val} {ops : List (HloOp τ sig Val)} (h : WritesOver op y)
      (hb : Nat.ble b (rank y) = true) (hr : Ordered (rank y + 1) ops e) : Ordered b (op :: ops) e

namespace Ordered

variable {b e e' : ℕ}

/-- Two ordered lines, the second numbered after the first, are one ordered line. -/
theorem append {l l' : List (HloOp τ sig Val)} (h : Ordered b l e) (h' : Ordered e l' e') : Ordered b (l ++ l') e' := by
  induction h with
  | nil _ => exact h'
  | cons y hw hb _ ih => exact .cons y hw hb (ih h')

/-- Every operation touches only buffers of the TensorCore. -/
theorem sub {l : List (HloOp τ sig Val)} (h : Ordered b l e) : l.Forall fun op => op.bufs ⊆ tcRefs τ sig := by
  induction h with
  | nil _ => trivial
  | cons y hw hb _ ih => exact (List.forall_cons _ _ _).mpr ⟨hw.sub, ih⟩

/-- Every operation determines what it writes. -/
theorem fresh {l : List (HloOp τ sig Val)} (h : Ordered b l e) : ∀ op ∈ l, op.fresh = ∅ := by
  induction h with
  | nil _ => intro _ h; cases h
  | cons y hw hb _ ih =>
    intro op hop
    rcases List.mem_cons.mp hop with rfl | hop
    · exact hw.fresh
    · exact ih op hop

/-- A buffer numbered below the line keeps its contents. -/
theorem kept {l : List (HloOp τ sig Val)} (h : Ordered b l e) (V : Valuation τ sig Val) (r : Ref sig .tc) (hr : rank r < b) :
    after l V (Proc.devRef .tc r) = V (Proc.devRef .tc r) := by
  induction h generalizing V with
  | nil _ => rfl
  | @cons b e y op ops hw hb _ ih =>
    have hb' : b ≤ rank y := Nat.le_of_ble_eq_true hb
    rw [after_cons, ih _ (by omega), HloOp.result_of_not_mem]
    rw [hw.writes, Finset.mem_singleton]
    exact devRef_ne_of_ne fun e => by subst e; omega

/-- The final contents are a fixed point of every operation of an ordered line. -/
theorem fixed {l : List (HloOp τ sig Val)} (h : Ordered b l e) (V : Valuation τ sig Val) :
    ∀ op ∈ l, op.result (after l V) = after l V := by
  induction h generalizing V with
  | nil _ => intro _ h; cases h
  | @cons b e y op ops hw hb hrest ih =>
    intro o ho
    rcases List.mem_cons.mp ho with rfl | ho
    · funext r
      by_cases hr : r = Proc.devRef .tc y
      · subst hr
        rw [after_cons, hrest.kept _ y (Nat.lt_succ_self _)]
        refine hw.reads _ _ fun r hr => ?_
        rw [hrest.kept _ r (by omega), HloOp.result_of_not_mem]
        rw [hw.writes, Finset.mem_singleton]
        exact devRef_ne_of_ne fun e => by subst e; omega
      · exact HloOp.result_of_not_mem _ _ (by rw [hw.writes, Finset.mem_singleton]; exact hr)
    · rw [after_cons]; exact ih _ o ho

end Ordered

/-! ## The builders -/

section Builders

variable {x a b c y : Ref sig .tc}

/-- An operation of no operands writes its own output. -/
theorem wNullary (v : y.ty.Contents Val) (hy) : WritesOver (nullary (τ := τ) y v hy) y where
  writes := rfl
  sub := nullary_bufs_sub ..
  fresh := rfl
  reads V V' _ := by rw [nullary_result, nullary_result]

/-- An operation of one operand writes its output from an earlier one. -/
theorem wUnary (f : x.ty.Contents Val → y.ty.Contents Val) (hx hy) (h : Nat.blt (rank x) (rank y) = true) :
    WritesOver (unary (τ := τ) x y f hx hy) y where
  writes := rfl
  sub := unary_bufs_sub ..
  fresh := rfl
  reads V V' hV := by rw [unary_result, unary_result, hV x (Nat.le_of_ble_eq_true h)]

/-- An operation of two operands writes its output from earlier ones. -/
theorem wBinary (f : a.ty.Contents Val → b.ty.Contents Val → y.ty.Contents Val) (ha hb hy)
    (h : Nat.blt (rank a) (rank y) = true) (h' : Nat.blt (rank b) (rank y) = true) :
    WritesOver (binary (τ := τ) a b y f ha hb hy) y where
  writes := rfl
  sub := binary_bufs_sub ..
  fresh := rfl
  reads V V' hV := by
    rw [binary_result, binary_result, hV a (Nat.le_of_ble_eq_true h), hV b (Nat.le_of_ble_eq_true h')]

/-- An operation of three operands writes its output from earlier ones. -/
theorem wTernary (f : c.ty.Contents Val → a.ty.Contents Val → b.ty.Contents Val → y.ty.Contents Val) (hc ha hb hy)
    (h : Nat.blt (rank c) (rank y) = true) (h' : Nat.blt (rank a) (rank y) = true) (h'' : Nat.blt (rank b) (rank y) = true) :
    WritesOver (ternary (τ := τ) c a b y f hc ha hb hy) y where
  writes := rfl
  sub := ternary_bufs_sub ..
  fresh := rfl
  reads V V' hV := by
    rw [ternary_result, ternary_result, hV c (Nat.le_of_ble_eq_true h), hV a (Nat.le_of_ble_eq_true h'),
      hV b (Nat.le_of_ble_eq_true h'')]

/-- A reshape writes its output from an earlier operand. -/
theorem wReshape (he hn hx hy) (h : Nat.blt (rank x) (rank y) = true) :
    WritesOver (reshape (τ := τ) (Val := Val) x y he hn hx hy) y where
  writes := rfl
  sub := reshape_bufs_sub ..
  fresh := rfl
  reads V V' hV := by rw [reshape_result, reshape_result, hV x (Nat.le_of_ble_eq_true h)]

variable {T Tx Ta Tb Tc Ty : BufTy}

/-- The same of no operands, at a typed reference. -/
theorem tNullary (y : TRef sig Ty) (v : Ty.Contents Val) : WritesOver (TRef.nullary (τ := τ) y v) y.ref := wNullary _ _

/-- The same of one operand, at typed references. -/
theorem tUnary (x : TRef sig Tx) (y : TRef sig Ty) (f : Tx.Contents Val → Ty.Contents Val)
    (h : Nat.blt (rank x.ref) (rank y.ref) = true) : WritesOver (TRef.unary (τ := τ) x y f) y.ref := wUnary _ _ _ h

/-- The same of two operands, at typed references. -/
theorem tBinary (a : TRef sig Ta) (b : TRef sig Tb) (y : TRef sig Ty) (f : Ta.Contents Val → Tb.Contents Val → Ty.Contents Val)
    (h : Nat.blt (rank a.ref) (rank y.ref) = true) (h' : Nat.blt (rank b.ref) (rank y.ref) = true) :
    WritesOver (TRef.binary (τ := τ) a b y f) y.ref := wBinary _ _ _ _ h h'

/-- The same of three operands, at typed references. -/
theorem tTernary (c : TRef sig Tc) (a : TRef sig Ta) (b : TRef sig Tb) (y : TRef sig Ty)
    (f : Tc.Contents Val → Ta.Contents Val → Tb.Contents Val → Ty.Contents Val) (h : Nat.blt (rank c.ref) (rank y.ref) = true)
    (h' : Nat.blt (rank a.ref) (rank y.ref) = true) (h'' : Nat.blt (rank b.ref) (rank y.ref) = true) :
    WritesOver (TRef.ternary (τ := τ) c a b y f) y.ref := wTernary _ _ _ _ _ h h' h''

/-- The same of a reshape, at typed references. -/
theorem tReshape (x : TRef sig Tx) (y : TRef sig Ty) (he : Tx.elt = Ty.elt) (hn : Tx.shape.ShapeCasts Ty.shape)
    (h : Nat.blt (rank x.ref) (rank y.ref) = true) : WritesOver (TRef.reshape (τ := τ) (Val := Val) x y he hn) y.ref :=
  wReshape _ _ _ _ h

end Builders

/-! ## Reading the equations -/

variable {T Tx Ta Tb Tc Ty : BufTy}

/-- What contents `σ` hold at a typed reference. -/
abbrev at' (t : TRef sig T) (σ : Valuation τ sig Val) : T.Contents Val := t.ofBuf (σ (Proc.devRef .tc t.ref))

/-- Contents `σ` are a fixed point of each operation of a list. -/
def Holds (σ : Valuation τ sig Val) (l : List (HloOp τ sig Val)) : Prop := ∀ op ∈ l, op.result σ = σ

/-- Any contents are a fixed point of the empty list. -/
theorem Holds.nil_iff (σ : Valuation τ sig Val) : Holds σ [] ↔ True := ⟨fun _ => trivial, fun _ _ h => by cases h⟩

/-- Contents are a fixed point of a list when they are of its head and of its tail. -/
theorem Holds.cons_iff (σ : Valuation τ sig Val) (op : HloOp τ sig Val) (l : List (HloOp τ sig Val)) :
    Holds σ (op :: l) ↔ op.result σ = σ ∧ Holds σ l :=
  ⟨fun h => ⟨h op List.mem_cons_self, fun o ho => h o (List.mem_cons_of_mem _ ho)⟩,
    fun h o ho => by
      rcases List.mem_cons.mp ho with rfl | ho
      · exact h.1
      · exact h.2 o ho⟩

/-- A list that is a stretch of another inherits its fixed point. -/
theorem Holds.stretch {σ : Valuation τ sig Val} {l s : List (HloOp τ sig Val)} (h : Holds σ l) (i n : ℕ)
    (hs : (l.drop i).take n = s) : Holds σ s := fun o ho =>
  h o (List.mem_of_mem_drop (List.mem_of_mem_take (hs ▸ ho)))

/-- A fixed point of two lists joined is one of the first. -/
theorem Holds.left {σ : Valuation τ sig Val} {l l' : List (HloOp τ sig Val)} (h : Holds σ (l ++ l')) : Holds σ l :=
  fun o ho => h o (List.mem_append_left _ ho)

/-- A fixed point of two lists joined is one of the second. -/
theorem Holds.right {σ : Valuation τ sig Val} {l l' : List (HloOp τ sig Val)} (h : Holds σ (l ++ l')) : Holds σ l' :=
  fun o ho => h o (List.mem_append_right _ ho)

/-- An operation that writes one reference leaves contents as they are when it leaves that reference as it is. -/
theorem fixed_iff_of_writes {σ : Valuation τ sig Val} {op : HloOp τ sig Val} {y : Ref sig .tc} (hw : op.writes = {Proc.devRef .tc y}) :
    op.result σ = σ ↔ op.result σ (Proc.devRef .tc y) = σ (Proc.devRef .tc y) := by
  refine ⟨fun h => congrFun h _, fun h => funext fun r => ?_⟩
  by_cases hr : r = Proc.devRef .tc y
  · subst hr; exact h
  · exact HloOp.result_of_not_mem _ _ (by rw [hw, Finset.mem_singleton]; exact hr)

/-- Storing a value gives contents exactly when reading the contents gives the value. -/
theorem toBuf_eq_iff (y : TRef sig T) (v : T.Contents Val) (w : y.ref.ty.Contents Val) : y.toBuf v = w ↔ y.ofBuf w = v := by
  constructor
  · rintro rfl; exact TRef.ofBuf_toBuf y v
  · rintro rfl; simp only [TRef.ofBuf, TRef.toBuf, cast_cast, cast_eq]

/-- A constant's buffer holds the constant. -/
theorem nullary_holds (σ : Valuation τ sig Val) (y : TRef sig Ty) (v : Ty.Contents Val) :
    (TRef.nullary (τ := τ) y v).result σ = σ ↔ at' y σ = v := by
  rw [fixed_iff_of_writes (y := y.ref) rfl, nullary_result]
  exact toBuf_eq_iff y v _

/-- A unary operation's buffer holds its function of the operand's contents. -/
theorem unary_holds (σ : Valuation τ sig Val) (x : TRef sig Tx) (y : TRef sig Ty) (f : Tx.Contents Val → Ty.Contents Val) :
    (TRef.unary (τ := τ) x y f).result σ = σ ↔ at' y σ = f (at' x σ) := by
  rw [fixed_iff_of_writes (y := y.ref) rfl, unary_result]
  exact toBuf_eq_iff y _ _

/-- A binary operation's buffer holds its function of the operands' contents. -/
theorem binary_holds (σ : Valuation τ sig Val) (a : TRef sig Ta) (b : TRef sig Tb) (y : TRef sig Ty)
    (f : Ta.Contents Val → Tb.Contents Val → Ty.Contents Val) :
    (TRef.binary (τ := τ) a b y f).result σ = σ ↔ at' y σ = f (at' a σ) (at' b σ) := by
  rw [fixed_iff_of_writes (y := y.ref) rfl, binary_result]
  exact toBuf_eq_iff y _ _

/-- A ternary operation's buffer holds its function of the operands' contents. -/
theorem ternary_holds (σ : Valuation τ sig Val) (c : TRef sig Tc) (a : TRef sig Ta) (b : TRef sig Tb) (y : TRef sig Ty)
    (f : Tc.Contents Val → Ta.Contents Val → Tb.Contents Val → Ty.Contents Val) :
    (TRef.ternary (τ := τ) c a b y f).result σ = σ ↔ at' y σ = f (at' c σ) (at' a σ) (at' b σ) := by
  rw [fixed_iff_of_writes (y := y.ref) rfl, ternary_result]
  exact toBuf_eq_iff y _ _

/-- A reshape's buffer holds the operand's contents in their row-major order. -/
theorem reshape_holds (σ : Valuation τ sig Val) (x : TRef sig Tx) (y : TRef sig Ty) (he : Tx.elt = Ty.elt)
    (hn : Tx.shape.ShapeCasts Ty.shape) :
    (TRef.reshape (τ := τ) x y he hn).result σ = σ ↔ at' y σ = fun i => he ▸ shapeCast Ty.shape (at' x σ) hn i := by
  obtain ⟨x, rfl, _, _⟩ := x
  obtain ⟨y, rfl, _, _⟩ := y
  rw [fixed_iff_of_writes (y := y) rfl, reshape_result]
  exact eq_comm

end HostLine

end
-- ==== Proof.RefOps.lean ====
/-
  The reference program as a list of its host operations, part by part, with each module-local function's operations as a
  list over the function's buffers.
-/
module

public import proofs.«01_k».proof.Proof.Gen.ReferenceIdeal
public import Idealize.ShloMosaic.Lib.StableHlo.Run

@[expose] public section

set_option maxRecDepth 16384

noncomputable section

namespace Cert.ReferenceIdeal.Line

open Idealize.ShloMosaic Idealize.ShloMosaic.TcCoe Idealize.ShloMosaic.StableHlo
open Cert.ReferenceIdeal Cert.ReferenceIdeal.Facts₀ Cert.ReferenceIdeal.Facts

variable {F : FTy → Type} [FloatOps F]

/-! ## References at their types -/

/-- A reference to words, 1. -/
abbrev b_S1_i32 (r : Ref sig .tc) (h : r.ty = ⟨S1, .i32⟩ := by rfl) (hd : r.space ≠ .host := by decide) (hu : r.isScoped = false := by rfl) :
    TRef sig ⟨S1, .i32⟩ := ⟨r, h, hd, hu⟩
/-- A reference to floats, 12 by 16. -/
abbrev b_S12x16_f32 (r : Ref sig .tc) (h : r.ty = ⟨S12x16, .f32⟩ := by rfl) (hd : r.space ≠ .host := by decide) (hu : r.isScoped = false := by rfl) :
    TRef sig ⟨S12x16, .f32⟩ := ⟨r, h, hd, hu⟩
/-- A reference to floats, 12 by 16 by 1. -/
abbrev b_S12x16x1_f32 (r : Ref sig .tc) (h : r.ty = ⟨S12x16x1, .f32⟩ := by rfl) (hd : r.space ≠ .host := by decide) (hu : r.isScoped = false := by rfl) :
    TRef sig ⟨S12x16x1, .f32⟩ := ⟨r, h, hd, hu⟩
/-- A reference to flags, 12 by 16 by 1. -/
abbrev b_S12x16x1_i1 (r : Ref sig .tc) (h : r.ty = ⟨S12x16x1, .i1⟩ := by rfl) (hd : r.space ≠ .host := by decide) (hu : r.isScoped = false := by rfl) :
    TRef sig ⟨S12x16x1, .i1⟩ := ⟨r, h, hd, hu⟩
/-- A reference to floats, 12 by 16 by 128 by 64. -/
abbrev b_S12x16x128x64_f32 (r : Ref sig .tc) (h : r.ty = ⟨S12x16x128x64, .f32⟩ := by rfl) (hd : r.space ≠ .host := by decide) (hu : r.isScoped = false := by rfl) :
    TRef sig ⟨S12x16x128x64, .f32⟩ := ⟨r, h, hd, hu⟩
/-- A reference to floats, 12 by 16 by 16. -/
abbrev b_S12x16x16_f32 (r : Ref sig .tc) (h : r.ty = ⟨S12x16x16, .f32⟩ := by rfl) (hd : r.space ≠ .host := by decide) (hu : r.isScoped = false := by rfl) :
    TRef sig ⟨S12x16x16, .f32⟩ := ⟨r, h, hd, hu⟩
/-- A reference to flags, 12 by 16 by 16. -/
abbrev b_S12x16x16_i1 (r : Ref sig .tc) (h : r.ty = ⟨S12x16x16, .i1⟩ := by rfl) (hd : r.space ≠ .host := by decide) (hu : r.isScoped = false := by rfl) :
    TRef sig ⟨S12x16x16, .i1⟩ := ⟨r, h, hd, hu⟩
/-- A reference to floats, 12 by 16 by 16 by 128. -/
abbrev b_S12x16x16x128_f32 (r : Ref sig .tc) (h : r.ty = ⟨S12x16x16x128, .f32⟩ := by rfl) (hd : r.space ≠ .host := by decide) (hu : r.isScoped = false := by rfl) :
    TRef sig ⟨S12x16x16x128, .f32⟩ := ⟨r, h, hd, hu⟩
/-- A reference to floats, 12 by 16 by 16 by 128 by 1. -/
abbrev b_S12x16x16x128x1_f32 (r : Ref sig .tc) (h : r.ty = ⟨S12x16x16x128x1, .f32⟩ := by rfl) (hd : r.space ≠ .host := by decide) (hu : r.isScoped = false := by rfl) :
    TRef sig ⟨S12x16x16x128x1, .f32⟩ := ⟨r, h, hd, hu⟩
/-- A reference to floats, 12 by 16 by 16 by 128 by 256. -/
abbrev b_S12x16x16x128x256_f32 (r : Ref sig .tc) (h : r.ty = ⟨S12x16x16x128x256, .f32⟩ := by rfl) (hd : r.space ≠ .host := by decide) (hu : r.isScoped = false := by rfl) :
    TRef sig ⟨S12x16x16x128x256, .f32⟩ := ⟨r, h, hd, hu⟩
/-- A reference to floats, 12 by 16 by 16 by 128 by 64. -/
abbrev b_S12x16x16x128x64_f32 (r : Ref sig .tc) (h : r.ty = ⟨S12x16x16x128x64, .f32⟩ := by rfl) (hd : r.space ≠ .host := by decide) (hu : r.isScoped = false := by rfl) :
    TRef sig ⟨S12x16x16x128x64, .f32⟩ := ⟨r, h, hd, hu⟩
/-- A reference to floats, 12 by 16 by 16 by 1 by 1. -/
abbrev b_S12x16x16x1x1_f32 (r : Ref sig .tc) (h : r.ty = ⟨S12x16x16x1x1, .f32⟩ := by rfl) (hd : r.space ≠ .host := by decide) (hu : r.isScoped = false := by rfl) :
    TRef sig ⟨S12x16x16x1x1, .f32⟩ := ⟨r, h, hd, hu⟩
/-- A reference to floats, 12 by 16 by 16 by 256 by 128. -/
abbrev b_S12x16x16x256x128_f32 (r : Ref sig .tc) (h : r.ty = ⟨S12x16x16x256x128, .f32⟩ := by rfl) (hd : r.space ≠ .host := by decide) (hu : r.isScoped = false := by rfl) :
    TRef sig ⟨S12x16x16x256x128, .f32⟩ := ⟨r, h, hd, hu⟩
/-- A reference to floats, 12 by 16 by 16 by 256 by 64. -/
abbrev b_S12x16x16x256x64_f32 (r : Ref sig .tc) (h : r.ty = ⟨S12x16x16x256x64, .f32⟩ := by rfl) (hd : r.space ≠ .host := by decide) (hu : r.isScoped = false := by rfl) :
    TRef sig ⟨S12x16x16x256x64, .f32⟩ := ⟨r, h, hd, hu⟩
/-- A reference to floats, 12 by 16 by 1 by 128 by 64. -/
abbrev b_S12x16x1x128x64_f32 (r : Ref sig .tc) (h : r.ty = ⟨S12x16x1x128x64, .f32⟩ := by rfl) (hd : r.space ≠ .host := by decide) (hu : r.isScoped = false := by rfl) :
    TRef sig ⟨S12x16x1x128x64, .f32⟩ := ⟨r, h, hd, hu⟩
/-- A reference to floats, 12 by 16 by 64. -/
abbrev b_S12x16x64_f32 (r : Ref sig .tc) (h : r.ty = ⟨S12x16x64, .f32⟩ := by rfl) (hd : r.space ≠ .host := by decide) (hu : r.isScoped = false := by rfl) :
    TRef sig ⟨S12x16x64, .f32⟩ := ⟨r, h, hd, hu⟩
/-- A reference to floats, 12 by 1 by 16. -/
abbrev b_S12x1x16_f32 (r : Ref sig .tc) (h : r.ty = ⟨S12x1x16, .f32⟩ := by rfl) (hd : r.space ≠ .host := by decide) (hu : r.isScoped = false := by rfl) :
    TRef sig ⟨S12x1x16, .f32⟩ := ⟨r, h, hd, hu⟩
/-- A reference to flags, 12 by 1 by 16. -/
abbrev b_S12x1x16_i1 (r : Ref sig .tc) (h : r.ty = ⟨S12x1x16, .i1⟩ := by rfl) (hd : r.space ≠ .host := by decide) (hu : r.isScoped = false := by rfl) :
    TRef sig ⟨S12x1x16, .i1⟩ := ⟨r, h, hd, hu⟩
/-- A reference to floats, 12 by 1 by 16 by 128 by 64. -/
abbrev b_S12x1x16x128x64_f32 (r : Ref sig .tc) (h : r.ty = ⟨S12x1x16x128x64, .f32⟩ := by rfl) (hd : r.space ≠ .host := by decide) (hu : r.isScoped = false := by rfl) :
    TRef sig ⟨S12x1x16x128x64, .f32⟩ := ⟨r, h, hd, hu⟩
/-- A reference to floats, 12 by 2048 by 64. -/
abbrev b_S12x2048x64_f32 (r : Ref sig .tc) (h : r.ty = ⟨S12x2048x64, .f32⟩ := by rfl) (hd : r.space ≠ .host := by decide) (hu : r.isScoped = false := by rfl) :
    TRef sig ⟨S12x2048x64, .f32⟩ := ⟨r, h, hd, hu⟩
/-- A reference to floats, 1 by 12 by 2048 by 64. -/
abbrev b_S1x12x2048x64_f32 (r : Ref sig .tc) (h : r.ty = ⟨S1x12x2048x64, .f32⟩ := by rfl) (hd : r.space ≠ .host := by decide) (hu : r.isScoped = false := by rfl) :
    TRef sig ⟨S1x12x2048x64, .f32⟩ := ⟨r, h, hd, hu⟩
/-- A reference to words, 2. -/
abbrev b_S2_i32 (r : Ref sig .tc) (h : r.ty = ⟨S2, .i32⟩ := by rfl) (hd : r.space ≠ .host := by decide) (hu : r.isScoped = false := by rfl) :
    TRef sig ⟨S2, .i32⟩ := ⟨r, h, hd, hu⟩
/-- A reference to floats, one alone. -/
abbrev b_S__f32 (r : Ref sig .tc) (h : r.ty = ⟨S_, .f32⟩ := by rfl) (hd : r.space ≠ .host := by decide) (hu : r.isScoped = false := by rfl) :
    TRef sig ⟨S_, .f32⟩ := ⟨r, h, hd, hu⟩
/-- A reference to words, one alone. -/
abbrev b_S__i32 (r : Ref sig .tc) (h : r.ty = ⟨S_, .i32⟩ := by rfl) (hd : r.space ≠ .host := by decide) (hu : r.isScoped = false := by rfl) :
    TRef sig ⟨S_, .i32⟩ := ⟨r, h, hd, hu⟩

/-! ## The operations -/

/-- The operations of the positive part. -/
def reluOps (arg0 : TRef sig ⟨S12x16x16, .f32⟩) (φ : fn_relu.Bufs) : List (HloOp τ sig (Elt F)) :=
  [ TRef.nullary φ.cst (constant S_ .f32 0x00000000#32),
    TRef.unary φ.cst φ.v0 (broadcastInDim S12x16x16 ![] bcast_S_S12x16x16),
    TRef.binary arg0 φ.v0 φ.v1 maximumf ]

/-- The operations that keep a row maximum where it is finite. -/
def whereRowOps (arg0 : TRef sig ⟨S12x16x1, .i1⟩) (arg1 : TRef sig ⟨S12x16x1, .f32⟩) (arg2 : TRef sig ⟨S_, .f32⟩) (φ : fn_where.Bufs) : List (HloOp τ sig (Elt F)) :=
  [ TRef.unary arg2 φ.v0 id,
    TRef.unary φ.v0 φ.v1 (broadcastInDim S12x16x1 ![] bcast_S_S12x16x1),
    TRef.ternary arg0 arg1 φ.v1 φ.v2 select ]

/-- The operations that keep a column maximum where it is finite. -/
def whereColOps (arg0 : TRef sig ⟨S12x1x16, .i1⟩) (arg1 : TRef sig ⟨S12x1x16, .f32⟩) (arg2 : TRef sig ⟨S_, .f32⟩) (φ : fn_where_0.Bufs) : List (HloOp τ sig (Elt F)) :=
  [ TRef.unary arg2 φ.v0 id,
    TRef.unary φ.v0 φ.v1 (broadcastInDim S12x1x16 ![] bcast_S_S12x1x16),
    TRef.ternary arg0 arg1 φ.v1 φ.v2 select ]

/-- The operations that keep the entries above the threshold. -/
def whereAllOps (arg0 : TRef sig ⟨S12x16x16, .i1⟩) (arg1 : TRef sig ⟨S12x16x16, .f32⟩) (arg2 : TRef sig ⟨S_, .f32⟩) (φ : fn_where_1.Bufs) : List (HloOp τ sig (Elt F)) :=
  [ TRef.unary arg2 φ.v0 id,
    TRef.unary φ.v0 φ.v1 (broadcastInDim S12x16x16 ![] bcast_S_S12x16x16),
    TRef.ternary arg0 arg1 φ.v1 φ.v2 select ]

/-- The operations of the counter-based generator, twenty rounds on two words. -/
def threefryOps (arg0 : TRef sig ⟨S_, .i32⟩) (arg1 : TRef sig ⟨S_, .i32⟩) (arg2 : TRef sig ⟨S12x16x16, .i32⟩) (arg3 : TRef sig ⟨S12x16x16, .i32⟩) (φ : fn_threefry2x32.Bufs) : List (HloOp τ sig (Elt F)) :=
  [ TRef.binary arg0 arg1 φ.v0 xori,
    TRef.nullary φ.c (constantI S_ 32 466688986#32),
    TRef.binary φ.v0 φ.c φ.v1 xori,
    TRef.unary arg0 φ.v2 (broadcastInDim S12x16x16 ![] bcast_S_S12x16x16),
    TRef.binary arg2 φ.v2 φ.v3 addi,
    TRef.unary arg1 φ.v4 (broadcastInDim S12x16x16 ![] bcast_S_S12x16x16),
    TRef.binary arg3 φ.v4 φ.v5 addi,
    TRef.binary φ.v3 φ.v5 φ.v6 addi,
    TRef.nullary φ.c_0 (constantI S_ 32 13#32),
    TRef.unary φ.c_0 φ.v7 (broadcastInDim S12x16x16 ![] bcast_S_S12x16x16),
    TRef.binary φ.v5 φ.v7 φ.v8 Host.shli,
    TRef.nullary φ.c_1 (constantI S_ 32 19#32),
    TRef.unary φ.c_1 φ.v9 (broadcastInDim S12x16x16 ![] bcast_S_S12x16x16),
    TRef.binary φ.v5 φ.v9 φ.v10 Host.shrui,
    TRef.binary φ.v8 φ.v10 φ.v11 ori,
    TRef.binary φ.v6 φ.v11 φ.v12 xori,
    TRef.binary φ.v6 φ.v12 φ.v13 addi,
    TRef.nullary φ.c_2 (constantI S_ 32 15#32),
    TRef.unary φ.c_2 φ.v14 (broadcastInDim S12x16x16 ![] bcast_S_S12x16x16),
    TRef.binary φ.v12 φ.v14 φ.v15 Host.shli,
    TRef.nullary φ.c_3 (constantI S_ 32 17#32),
    TRef.unary φ.c_3 φ.v16 (broadcastInDim S12x16x16 ![] bcast_S_S12x16x16),
    TRef.binary φ.v12 φ.v16 φ.v17 Host.shrui,
    TRef.binary φ.v15 φ.v17 φ.v18 ori,
    TRef.binary φ.v13 φ.v18 φ.v19 xori,
    TRef.binary φ.v13 φ.v19 φ.v20 addi,
    TRef.nullary φ.c_4 (constantI S_ 32 26#32),
    TRef.unary φ.c_4 φ.v21 (broadcastInDim S12x16x16 ![] bcast_S_S12x16x16),
    TRef.binary φ.v19 φ.v21 φ.v22 Host.shli,
    TRef.nullary φ.c_5 (constantI S_ 32 6#32),
    TRef.unary φ.c_5 φ.v23 (broadcastInDim S12x16x16 ![] bcast_S_S12x16x16),
    TRef.binary φ.v19 φ.v23 φ.v24 Host.shrui,
    TRef.binary φ.v22 φ.v24 φ.v25 ori,
    TRef.binary φ.v20 φ.v25 φ.v26 xori,
    TRef.binary φ.v20 φ.v26 φ.v27 addi,
    TRef.nullary φ.c_6 (constantI S_ 32 6#32),
    TRef.unary φ.c_6 φ.v28 (broadcastInDim S12x16x16 ![] bcast_S_S12x16x16),
    TRef.binary φ.v26 φ.v28 φ.v29 Host.shli,
    TRef.nullary φ.c_7 (constantI S_ 32 26#32),
    TRef.unary φ.c_7 φ.v30 (broadcastInDim S12x16x16 ![] bcast_S_S12x16x16),
    TRef.binary φ.v26 φ.v30 φ.v31 Host.shrui,
    TRef.binary φ.v29 φ.v31 φ.v32 ori,
    TRef.binary φ.v27 φ.v32 φ.v33 xori,
    TRef.unary arg1 φ.v34 (broadcastInDim S12x16x16 ![] bcast_S_S12x16x16),
    TRef.binary φ.v27 φ.v34 φ.v35 addi,
    TRef.unary φ.v1 φ.v36 (broadcastInDim S12x16x16 ![] bcast_S_S12x16x16),
    TRef.binary φ.v33 φ.v36 φ.v37 addi,
    TRef.nullary φ.c_8 (constantI S_ 32 1#32),
    TRef.unary φ.c_8 φ.v38 (broadcastInDim S12x16x16 ![] bcast_S_S12x16x16),
    TRef.binary φ.v37 φ.v38 φ.v39 addi,
    TRef.binary φ.v35 φ.v39 φ.v40 addi,
    TRef.nullary φ.c_9 (constantI S_ 32 17#32),
    TRef.unary φ.c_9 φ.v41 (broadcastInDim S12x16x16 ![] bcast_S_S12x16x16),
    TRef.binary φ.v39 φ.v41 φ.v42 Host.shli,
    TRef.nullary φ.c_10 (constantI S_ 32 15#32),
    TRef.unary φ.c_10 φ.v43 (broadcastInDim S12x16x16 ![] bcast_S_S12x16x16),
    TRef.binary φ.v39 φ.v43 φ.v44 Host.shrui,
    TRef.binary φ.v42 φ.v44 φ.v45 ori,
    TRef.binary φ.v40 φ.v45 φ.v46 xori,
    TRef.binary φ.v40 φ.v46 φ.v47 addi,
    TRef.nullary φ.c_11 (constantI S_ 32 29#32),
    TRef.unary φ.c_11 φ.v48 (broadcastInDim S12x16x16 ![] bcast_S_S12x16x16),
    TRef.binary φ.v46 φ.v48 φ.v49 Host.shli,
    TRef.nullary φ.c_12 (constantI S_ 32 3#32),
    TRef.unary φ.c_12 φ.v50 (broadcastInDim S12x16x16 ![] bcast_S_S12x16x16),
    TRef.binary φ.v46 φ.v50 φ.v51 Host.shrui,
    TRef.binary φ.v49 φ.v51 φ.v52 ori,
    TRef.binary φ.v47 φ.v52 φ.v53 xori,
    TRef.binary φ.v47 φ.v53 φ.v54 addi,
    TRef.nullary φ.c_13 (constantI S_ 32 16#32),
    TRef.unary φ.c_13 φ.v55 (broadcastInDim S12x16x16 ![] bcast_S_S12x16x16),
    TRef.binary φ.v53 φ.v55 φ.v56 Host.shli,
    TRef.nullary φ.c_14 (constantI S_ 32 16#32),
    TRef.unary φ.c_14 φ.v57 (broadcastInDim S12x16x16 ![] bcast_S_S12x16x16),
    TRef.binary φ.v53 φ.v57 φ.v58 Host.shrui,
    TRef.binary φ.v56 φ.v58 φ.v59 ori,
    TRef.binary φ.v54 φ.v59 φ.v60 xori,
    TRef.binary φ.v54 φ.v60 φ.v61 addi,
    TRef.nullary φ.c_15 (constantI S_ 32 24#32),
    TRef.unary φ.c_15 φ.v62 (broadcastInDim S12x16x16 ![] bcast_S_S12x16x16),
    TRef.binary φ.v60 φ.v62 φ.v63 Host.shli,
    TRef.nullary φ.c_16 (constantI S_ 32 8#32),
    TRef.unary φ.c_16 φ.v64 (broadcastInDim S12x16x16 ![] bcast_S_S12x16x16),
    TRef.binary φ.v60 φ.v64 φ.v65 Host.shrui,
    TRef.binary φ.v63 φ.v65 φ.v66 ori,
    TRef.binary φ.v61 φ.v66 φ.v67 xori,
    TRef.unary φ.v1 φ.v68 (broadcastInDim S12x16x16 ![] bcast_S_S12x16x16),
    TRef.binary φ.v61 φ.v68 φ.v69 addi,
    TRef.unary arg0 φ.v70 (broadcastInDim S12x16x16 ![] bcast_S_S12x16x16),
    TRef.binary φ.v67 φ.v70 φ.v71 addi,
    TRef.nullary φ.c_17 (constantI S_ 32 2#32),
    TRef.unary φ.c_17 φ.v72 (broadcastInDim S12x16x16 ![] bcast_S_S12x16x16),
    TRef.binary φ.v71 φ.v72 φ.v73 addi,
    TRef.binary φ.v69 φ.v73 φ.v74 addi,
    TRef.nullary φ.c_18 (constantI S_ 32 13#32),
    TRef.unary φ.c_18 φ.v75 (broadcastInDim S12x16x16 ![] bcast_S_S12x16x16),
    TRef.binary φ.v73 φ.v75 φ.v76 Host.shli,
    TRef.nullary φ.c_19 (constantI S_ 32 19#32),
    TRef.unary φ.c_19 φ.v77 (broadcastInDim S12x16x16 ![] bcast_S_S12x16x16),
    TRef.binary φ.v73 φ.v77 φ.v78 Host.shrui,
    TRef.binary φ.v76 φ.v78 φ.v79 ori,
    TRef.binary φ.v74 φ.v79 φ.v80 xori,
    TRef.binary φ.v74 φ.v80 φ.v81 addi,
    TRef.nullary φ.c_20 (constantI S_ 32 15#32),
    TRef.unary φ.c_20 φ.v82 (broadcastInDim S12x16x16 ![] bcast_S_S12x16x16),
    TRef.binary φ.v80 φ.v82 φ.v83 Host.shli,
    TRef.nullary φ.c_21 (constantI S_ 32 17#32),
    TRef.unary φ.c_21 φ.v84 (broadcastInDim S12x16x16 ![] bcast_S_S12x16x16),
    TRef.binary φ.v80 φ.v84 φ.v85 Host.shrui,
    TRef.binary φ.v83 φ.v85 φ.v86 ori,
    TRef.binary φ.v81 φ.v86 φ.v87 xori,
    TRef.binary φ.v81 φ.v87 φ.v88 addi,
    TRef.nullary φ.c_22 (constantI S_ 32 26#32),
    TRef.unary φ.c_22 φ.v89 (broadcastInDim S12x16x16 ![] bcast_S_S12x16x16),
    TRef.binary φ.v87 φ.v89 φ.v90 Host.shli,
    TRef.nullary φ.c_23 (constantI S_ 32 6#32),
    TRef.unary φ.c_23 φ.v91 (broadcastInDim S12x16x16 ![] bcast_S_S12x16x16),
    TRef.binary φ.v87 φ.v91 φ.v92 Host.shrui,
    TRef.binary φ.v90 φ.v92 φ.v93 ori,
    TRef.binary φ.v88 φ.v93 φ.v94 xori,
    TRef.binary φ.v88 φ.v94 φ.v95 addi,
    TRef.nullary φ.c_24 (constantI S_ 32 6#32),
    TRef.unary φ.c_24 φ.v96 (broadcastInDim S12x16x16 ![] bcast_S_S12x16x16),
    TRef.binary φ.v94 φ.v96 φ.v97 Host.shli,
    TRef.nullary φ.c_25 (constantI S_ 32 26#32),
    TRef.unary φ.c_25 φ.v98 (broadcastInDim S12x16x16 ![] bcast_S_S12x16x16),
    TRef.binary φ.v94 φ.v98 φ.v99 Host.shrui,
    TRef.binary φ.v97 φ.v99 φ.v100 ori,
    TRef.binary φ.v95 φ.v100 φ.v101 xori,
    TRef.unary arg0 φ.v102 (broadcastInDim S12x16x16 ![] bcast_S_S12x16x16),
    TRef.binary φ.v95 φ.v102 φ.v103 addi,
    TRef.unary arg1 φ.v104 (broadcastInDim S12x16x16 ![] bcast_S_S12x16x16),
    TRef.binary φ.v101 φ.v104 φ.v105 addi,
    TRef.nullary φ.c_26 (constantI S_ 32 3#32),
    TRef.unary φ.c_26 φ.v106 (broadcastInDim S12x16x16 ![] bcast_S_S12x16x16),
    TRef.binary φ.v105 φ.v106 φ.v107 addi,
    TRef.binary φ.v103 φ.v107 φ.v108 addi,
    TRef.nullary φ.c_27 (constantI S_ 32 17#32),
    TRef.unary φ.c_27 φ.v109 (broadcastInDim S12x16x16 ![] bcast_S_S12x16x16),
    TRef.binary φ.v107 φ.v109 φ.v110 Host.shli,
    TRef.nullary φ.c_28 (constantI S_ 32 15#32),
    TRef.unary φ.c_28 φ.v111 (broadcastInDim S12x16x16 ![] bcast_S_S12x16x16),
    TRef.binary φ.v107 φ.v111 φ.v112 Host.shrui,
    TRef.binary φ.v110 φ.v112 φ.v113 ori,
    TRef.binary φ.v108 φ.v113 φ.v114 xori,
    TRef.binary φ.v108 φ.v114 φ.v115 addi,
    TRef.nullary φ.c_29 (constantI S_ 32 29#32),
    TRef.unary φ.c_29 φ.v116 (broadcastInDim S12x16x16 ![] bcast_S_S12x16x16),
    TRef.binary φ.v114 φ.v116 φ.v117 Host.shli,
    TRef.nullary φ.c_30 (constantI S_ 32 3#32),
    TRef.unary φ.c_30 φ.v118 (broadcastInDim S12x16x16 ![] bcast_S_S12x16x16),
    TRef.binary φ.v114 φ.v118 φ.v119 Host.shrui,
    TRef.binary φ.v117 φ.v119 φ.v120 ori,
    TRef.binary φ.v115 φ.v120 φ.v121 xori,
    TRef.binary φ.v115 φ.v121 φ.v122 addi,
    TRef.nullary φ.c_31 (constantI S_ 32 16#32),
    TRef.unary φ.c_31 φ.v123 (broadcastInDim S12x16x16 ![] bcast_S_S12x16x16),
    TRef.binary φ.v121 φ.v123 φ.v124 Host.shli,
    TRef.nullary φ.c_32 (constantI S_ 32 16#32),
    TRef.unary φ.c_32 φ.v125 (broadcastInDim S12x16x16 ![] bcast_S_S12x16x16),
    TRef.binary φ.v121 φ.v125 φ.v126 Host.shrui,
    TRef.binary φ.v124 φ.v126 φ.v127 ori,
    TRef.binary φ.v122 φ.v127 φ.v128 xori,
    TRef.binary φ.v122 φ.v128 φ.v129 addi,
    TRef.nullary φ.c_33 (constantI S_ 32 24#32),
    TRef.unary φ.c_33 φ.v130 (broadcastInDim S12x16x16 ![] bcast_S_S12x16x16),
    TRef.binary φ.v128 φ.v130 φ.v131 Host.shli,
    TRef.nullary φ.c_34 (constantI S_ 32 8#32),
    TRef.unary φ.c_34 φ.v132 (broadcastInDim S12x16x16 ![] bcast_S_S12x16x16),
    TRef.binary φ.v128 φ.v132 φ.v133 Host.shrui,
    TRef.binary φ.v131 φ.v133 φ.v134 ori,
    TRef.binary φ.v129 φ.v134 φ.v135 xori,
    TRef.unary arg1 φ.v136 (broadcastInDim S12x16x16 ![] bcast_S_S12x16x16),
    TRef.binary φ.v129 φ.v136 φ.v137 addi,
    TRef.unary φ.v1 φ.v138 (broadcastInDim S12x16x16 ![] bcast_S_S12x16x16),
    TRef.binary φ.v135 φ.v138 φ.v139 addi,
    TRef.nullary φ.c_35 (constantI S_ 32 4#32),
    TRef.unary φ.c_35 φ.v140 (broadcastInDim S12x16x16 ![] bcast_S_S12x16x16),
    TRef.binary φ.v139 φ.v140 φ.v141 addi,
    TRef.binary φ.v137 φ.v141 φ.v142 addi,
    TRef.nullary φ.c_36 (constantI S_ 32 13#32),
    TRef.unary φ.c_36 φ.v143 (broadcastInDim S12x16x16 ![] bcast_S_S12x16x16),
    TRef.binary φ.v141 φ.v143 φ.v144 Host.shli,
    TRef.nullary φ.c_37 (constantI S_ 32 19#32),
    TRef.unary φ.c_37 φ.v145 (broadcastInDim S12x16x16 ![] bcast_S_S12x16x16),
    TRef.binary φ.v141 φ.v145 φ.v146 Host.shrui,
    TRef.binary φ.v144 φ.v146 φ.v147 ori,
    TRef.binary φ.v142 φ.v147 φ.v148 xori,
    TRef.binary φ.v142 φ.v148 φ.v149 addi,
    TRef.nullary φ.c_38 (constantI S_ 32 15#32),
    TRef.unary φ.c_38 φ.v150 (broadcastInDim S12x16x16 ![] bcast_S_S12x16x16),
    TRef.binary φ.v148 φ.v150 φ.v151 Host.shli,
    TRef.nullary φ.c_39 (constantI S_ 32 17#32),
    TRef.unary φ.c_39 φ.v152 (broadcastInDim S12x16x16 ![] bcast_S_S12x16x16),
    TRef.binary φ.v148 φ.v152 φ.v153 Host.shrui,
    TRef.binary φ.v151 φ.v153 φ.v154 ori,
    TRef.binary φ.v149 φ.v154 φ.v155 xori,
    TRef.binary φ.v149 φ.v155 φ.v156 addi,
    TRef.nullary φ.c_40 (constantI S_ 32 26#32),
    TRef.unary φ.c_40 φ.v157 (broadcastInDim S12x16x16 ![] bcast_S_S12x16x16),
    TRef.binary φ.v155 φ.v157 φ.v158 Host.shli,
    TRef.nullary φ.c_41 (constantI S_ 32 6#32),
    TRef.unary φ.c_41 φ.v159 (broadcastInDim S12x16x16 ![] bcast_S_S12x16x16),
    TRef.binary φ.v155 φ.v159 φ.v160 Host.shrui,
    TRef.binary φ.v158 φ.v160 φ.v161 ori,
    TRef.binary φ.v156 φ.v161 φ.v162 xori,
    TRef.binary φ.v156 φ.v162 φ.v163 addi,
    TRef.nullary φ.c_42 (constantI S_ 32 6#32),
    TRef.unary φ.c_42 φ.v164 (broadcastInDim S12x16x16 ![] bcast_S_S12x16x16),
    TRef.binary φ.v162 φ.v164 φ.v165 Host.shli,
    TRef.nullary φ.c_43 (constantI S_ 32 26#32),
    TRef.unary φ.c_43 φ.v166 (broadcastInDim S12x16x16 ![] bcast_S_S12x16x16),
    TRef.binary φ.v162 φ.v166 φ.v167 Host.shrui,
    TRef.binary φ.v165 φ.v167 φ.v168 ori,
    TRef.binary φ.v163 φ.v168 φ.v169 xori,
    TRef.unary φ.v1 φ.v170 (broadcastInDim S12x16x16 ![] bcast_S_S12x16x16),
    TRef.binary φ.v163 φ.v170 φ.v171 addi,
    TRef.unary arg0 φ.v172 (broadcastInDim S12x16x16 ![] bcast_S_S12x16x16),
    TRef.binary φ.v169 φ.v172 φ.v173 addi,
    TRef.nullary φ.c_44 (constantI S_ 32 5#32),
    TRef.unary φ.c_44 φ.v174 (broadcastInDim S12x16x16 ![] bcast_S_S12x16x16),
    TRef.binary φ.v173 φ.v174 φ.v175 addi ]

/-- The operations of the uniform draw. -/
def uniformOps (arg0 : TRef sig ⟨S2, .i32⟩) (arg1 : TRef sig ⟨S_, .f32⟩) (arg2 : TRef sig ⟨S_, .f32⟩) (φ : fn_uniform.Bufs) : List (HloOp τ sig (Elt F)) :=
  [ TRef.unary arg1 φ.v0 id,
    TRef.unary arg2 φ.v1 id,
    TRef.unary φ.v0 φ.v2 (broadcastInDim S1x1x1 ![] bcast_S_S1x1x1),
    TRef.unary φ.v1 φ.v3 (broadcastInDim S1x1x1 ![] bcast_S_S1x1x1),
    TRef.unary arg0 φ.v4 (extractStridedSlice S1 ![0] · slices_S2_S1_0),
    TRef.reshape φ.v4 φ.v5 (rfl : (.i32 : EltTy) = .i32) shapeCasts_S1_S_,
    TRef.unary arg0 φ.v6 (extractStridedSlice S1 ![1] · slices_S2_S1_1),
    TRef.reshape φ.v6 φ.v7 (rfl : (.i32 : EltTy) = .i32) shapeCasts_S1_S_,
    TRef.nullary φ.v8 (iotaInDim S12x16x16 64 0),
    TRef.nullary φ.v9 (iotaInDim S12x16x16 64 1),
    TRef.nullary φ.v10 (iotaInDim S12x16x16 64 2),
    TRef.nullary φ.c (constantI S_ 64 256#64),
    TRef.unary φ.c φ.v11 (broadcastInDim S12x16x16 ![] bcast_S_S12x16x16),
    TRef.binary φ.v11 φ.v8 φ.v12 muli,
    TRef.nullary φ.c_0 (constantI S_ 64 16#64),
    TRef.unary φ.c_0 φ.v13 (broadcastInDim S12x16x16 ![] bcast_S_S12x16x16),
    TRef.binary φ.v13 φ.v9 φ.v14 muli,
    TRef.nullary φ.c_1 (constantI S_ 64 1#64),
    TRef.unary φ.c_1 φ.v15 (broadcastInDim S12x16x16 ![] bcast_S_S12x16x16),
    TRef.binary φ.v15 φ.v10 φ.v16 muli,
    TRef.binary φ.v12 φ.v14 φ.v17 addi,
    TRef.binary φ.v17 φ.v16 φ.v18 addi,
    TRef.nullary φ.c_2 (constantI S_ 64 32#64),
    TRef.unary φ.c_2 φ.v19 (broadcastInDim S12x16x16 ![] bcast_S_S12x16x16),
    TRef.binary φ.v18 φ.v19 φ.v20 Host.shrui,
    TRef.unary φ.v18 φ.v21 (trunci 32 · natLt_32_64),
    TRef.unary φ.v20 φ.v22 (trunci 32 · natLt_32_64) ] ++ (threefryOps φ.v5 φ.v7 φ.v22 φ.v21 φ.call0 ++ ([ TRef.binary φ.call0.v171 φ.call0.v175 φ.v24 xori,
    TRef.nullary φ.c_3 (constantI S_ 32 9#32),
    TRef.unary φ.c_3 φ.v25 (broadcastInDim S12x16x16 ![] bcast_S_S12x16x16),
    TRef.binary φ.v24 φ.v25 φ.v26 Host.shrui,
    TRef.nullary φ.c_4 (constantI S_ 32 1065353216#32),
    TRef.unary φ.c_4 φ.v27 (broadcastInDim S12x16x16 ![] bcast_S_S12x16x16),
    TRef.binary φ.v26 φ.v27 φ.v28 ori,
    TRef.unary φ.v28 φ.v29 (bitcastToFloat .f32),
    TRef.nullary φ.cst (constant S_ .f32 0x3F800000#32),
    TRef.unary φ.cst φ.v30 (broadcastInDim S12x16x16 ![] bcast_S_S12x16x16),
    TRef.binary φ.v29 φ.v30 φ.v31 subf,
    TRef.binary φ.v3 φ.v2 φ.v32 subf,
    TRef.unary φ.v32 φ.v33 (broadcastInDim S12x16x16 ![0, 1, 2] bcast_S1x1x1_S12x16x16_0_1_2),
    TRef.binary φ.v31 φ.v33 φ.v34 mulf,
    TRef.unary φ.v2 φ.v35 (broadcastInDim S12x16x16 ![0, 1, 2] bcast_S1x1x1_S12x16x16_0_1_2),
    TRef.binary φ.v34 φ.v35 φ.v36 addf,
    TRef.unary φ.v2 φ.v37 (broadcastInDim S12x16x16 ![0, 1, 2] bcast_S1x1x1_S12x16x16_0_1_2),
    TRef.binary φ.v37 φ.v36 φ.v38 maximumf ]))

/-- The operations of the first part of the program. -/
def ops0 : List (HloOp τ sig (Elt F)) :=
  [ TRef.reshape (b_S1x12x2048x64_f32 main_arg0) (b_S12x2048x64_f32 main_v0) (rfl : (.f32 : EltTy) = .f32) shapeCasts_S1x12x2048x64_S12x2048x64,
    TRef.reshape (b_S1x12x2048x64_f32 main_arg1) (b_S12x2048x64_f32 main_v1) (rfl : (.f32 : EltTy) = .f32) shapeCasts_S1x12x2048x64_S12x2048x64,
    TRef.reshape (b_S1x12x2048x64_f32 main_arg2) (b_S12x2048x64_f32 main_v2) (rfl : (.f32 : EltTy) = .f32) shapeCasts_S1x12x2048x64_S12x2048x64,
    TRef.reshape (b_S12x2048x64_f32 main_v0) (b_S12x16x128x64_f32 main_v3) (rfl : (.f32 : EltTy) = .f32) shapeCasts_S12x2048x64_S12x16x128x64,
    TRef.reshape (b_S12x2048x64_f32 main_v1) (b_S12x16x128x64_f32 main_v4) (rfl : (.f32 : EltTy) = .f32) shapeCasts_S12x2048x64_S12x16x128x64,
    TRef.reshape (b_S12x2048x64_f32 main_v2) (b_S12x16x128x64_f32 main_v5) (rfl : (.f32 : EltTy) = .f32) shapeCasts_S12x2048x64_S12x16x128x64,
    TRef.nullary (b_S__f32 main_cst) (constant S_ .f32 0x00000000#32),
    TRef.binary (b_S12x16x128x64_f32 main_v3) (b_S__f32 main_cst) (b_S12x16x64_f32 main_v6) ((fun x v => Host.reduceAdd x v reducesTo_S12x16x128x64_S12x16x64_d2 h_S_)),
    TRef.nullary (b_S__f32 main_cst_0) (constant S_ .f32 0x00000000#32),
    TRef.binary (b_S12x16x128x64_f32 main_v4) (b_S__f32 main_cst_0) (b_S12x16x64_f32 main_v7) ((fun x v => Host.reduceAdd x v reducesTo_S12x16x128x64_S12x16x64_d2 h_S_)),
    TRef.binary (b_S12x16x64_f32 main_v6) (b_S12x16x64_f32 main_v7) (b_S12x16x16_f32 main_v8) ((fun l r => Host.dotGeneral dot_S12x16x64_S12x16x64_S12x16x16_2_2_1_1_0_0 none l r)),
    TRef.nullary (b_S__f32 main_cst_1) (constant S_ .f32 0x3E000000#32),
    TRef.unary (b_S__f32 main_cst_1) (b_S12x16x16_f32 main_v9) (broadcastInDim S12x16x16 ![] bcast_S_S12x16x16),
    TRef.binary (b_S12x16x16_f32 main_v8) (b_S12x16x16_f32 main_v9) (b_S12x16x16_f32 main_v10) (mulf) ] ++ (reluOps (b_S12x16x16_f32 main_v10) main_call0 ++ ([ TRef.nullary (b_S__i32 main_c) (constantI S_ 32 42#32),
    TRef.nullary (b_S__i32 main_c_2) (constantI S_ 32 32#32),
    TRef.binary (b_S__i32 main_c) (b_S__i32 main_c_2) (b_S__i32 main_v12) (Host.shrui),
    TRef.unary (b_S__i32 main_v12) (b_S__i32 main_v13) (id),
    TRef.unary (b_S__i32 main_v13) (b_S1_i32 main_v14) (broadcastInDim S1 ![] bcast_S_S1),
    TRef.nullary (b_S__i32 main_c_3) (constantI S_ 32 4294967295#32),
    TRef.binary (b_S__i32 main_c) (b_S__i32 main_c_3) (b_S__i32 main_v15) (andi),
    TRef.unary (b_S__i32 main_v15) (b_S__i32 main_v16) (id),
    TRef.unary (b_S__i32 main_v16) (b_S1_i32 main_v17) (broadcastInDim S1 ![] bcast_S_S1),
    TRef.binary (b_S1_i32 main_v14) (b_S1_i32 main_v17) (b_S2_i32 main_v18) ((fun a b => concatenate S2 0 [⟨S1, a⟩, ⟨S1, b⟩] concatenates_S1_S1_S2_d0)),
    TRef.nullary (b_S__f32 main_cst_4) (constant S_ .f32 0x358637BD#32),
    TRef.unary (b_S__f32 main_cst_4) (b_S12x16x16_f32 main_v19) (broadcastInDim S12x16x16 ![] bcast_S_S12x16x16),
    TRef.binary (b_S12x16x16_f32 main_v11) (b_S12x16x16_f32 main_v19) (b_S12x16x16_f32 main_v20) (addf),
    TRef.unary (b_S12x16x16_f32 main_v20) (b_S12x16x16_f32 main_v21) (Host.log),
    TRef.nullary (b_S__f32 main_cst_5) (constant S_ .f32 0x00000000#32),
    TRef.nullary (b_S__f32 main_cst_6) (constant S_ .f32 0x3F800000#32) ] ++ (uniformOps (b_S2_i32 main_v18) (b_S__f32 main_cst_5) (b_S__f32 main_cst_6) main_call1 ++ ([ TRef.nullary (b_S__f32 main_cst_7) (constant S_ .f32 0x358637BD#32),
    TRef.unary (b_S__f32 main_cst_7) (b_S12x16x16_f32 main_v23) (broadcastInDim S12x16x16 ![] bcast_S_S12x16x16),
    TRef.binary (b_S12x16x16_f32 main_v22) (b_S12x16x16_f32 main_v23) (b_S12x16x16_f32 main_v24) (addf),
    TRef.unary (b_S12x16x16_f32 main_v24) (b_S12x16x16_f32 main_v25) (Host.log),
    TRef.unary (b_S12x16x16_f32 main_v25) (b_S12x16x16_f32 main_v26) (Host.negf),
    TRef.nullary (b_S__f32 main_cst_8) (constant S_ .f32 0x358637BD#32),
    TRef.unary (b_S__f32 main_cst_8) (b_S12x16x16_f32 main_v27) (broadcastInDim S12x16x16 ![] bcast_S_S12x16x16),
    TRef.binary (b_S12x16x16_f32 main_v26) (b_S12x16x16_f32 main_v27) (b_S12x16x16_f32 main_v28) (addf),
    TRef.unary (b_S12x16x16_f32 main_v28) (b_S12x16x16_f32 main_v29) (Host.log),
    TRef.unary (b_S12x16x16_f32 main_v29) (b_S12x16x16_f32 main_v30) (Host.negf),
    TRef.binary (b_S12x16x16_f32 main_v21) (b_S12x16x16_f32 main_v30) (b_S12x16x16_f32 main_v31) (addf),
    TRef.nullary (b_S__f32 main_cst_9) (constant S_ .f32 0x3F400000#32),
    TRef.unary (b_S__f32 main_cst_9) (b_S12x16x16_f32 main_v32) (broadcastInDim S12x16x16 ![] bcast_S_S12x16x16),
    TRef.binary (b_S12x16x16_f32 main_v31) (b_S12x16x16_f32 main_v32) (b_S12x16x16_f32 main_v33) (Host.divf),
    TRef.nullary (b_S__f32 main_cst_10) (constant S_ .f32 0xFF800000#32),
    TRef.binary (b_S12x16x16_f32 main_v33) (b_S__f32 main_cst_10) (b_S12x16_f32 main_v34) ((fun x v => Host.reduce FloatOps.maximumf x v reducesTo_S12x16x16_S12x16_d2 h_S_)),
    TRef.unary (b_S12x16_f32 main_v34) (b_S12x16x1_f32 main_v35) (broadcastInDim S12x16x1 ![0, 1] bcast_S12x16_S12x16x1_0_1),
    TRef.unary (b_S12x16x1_f32 main_v35) (b_S12x16x1_f32 main_v36) (Host.absf),
    TRef.nullary (b_S__f32 main_cst_11) (constant S_ .f32 0x7F800000#32),
    TRef.unary (b_S__f32 main_cst_11) (b_S12x16x1_f32 main_v37) (broadcastInDim S12x16x1 ![] bcast_S_S12x16x1),
    TRef.binary (b_S12x16x1_f32 main_v36) (b_S12x16x1_f32 main_v37) (b_S12x16x1_i1 main_v38) (cmpf .olt),
    TRef.nullary (b_S__f32 main_cst_12) (constant S_ .f32 0x00000000#32) ] ++ (whereRowOps (b_S12x16x1_i1 main_v38) (b_S12x16x1_f32 main_v35) (b_S__f32 main_cst_12) main_call2 ++ ([ TRef.unary (b_S12x16x1_f32 main_v39) (b_S12x16x16_f32 main_v40) (broadcastInDim S12x16x16 ![0, 1, 2] bcast_S12x16x1_S12x16x16_0_1_2),
    TRef.binary (b_S12x16x16_f32 main_v33) (b_S12x16x16_f32 main_v40) (b_S12x16x16_f32 main_v41) (subf),
    TRef.unary (b_S12x16x16_f32 main_v41) (b_S12x16x16_f32 main_v42) (Host.exp),
    TRef.nullary (b_S__f32 main_cst_13) (constant S_ .f32 0x00000000#32),
    TRef.binary (b_S12x16x16_f32 main_v42) (b_S__f32 main_cst_13) (b_S12x16_f32 main_v43) ((fun x v => Host.reduceAdd x v reducesTo_S12x16x16_S12x16_d2 h_S_)) ]))))))

/-- The operations of the second part of the program. -/
def ops1 : List (HloOp τ sig (Elt F)) :=
  [ TRef.unary (b_S12x16_f32 main_v43) (b_S12x16x1_f32 main_v44) (broadcastInDim S12x16x1 ![0, 1] bcast_S12x16_S12x16x1_0_1),
    TRef.unary (b_S12x16x1_f32 main_v44) (b_S12x16x1_f32 main_v45) (Host.log),
    TRef.binary (b_S12x16x1_f32 main_v45) (b_S12x16x1_f32 main_v39) (b_S12x16x1_f32 main_v46) (addf),
    TRef.unary (b_S12x16x1_f32 main_v46) (b_S12x16x16_f32 main_v47) (broadcastInDim S12x16x16 ![0, 1, 2] bcast_S12x16x1_S12x16x16_0_1_2),
    TRef.binary (b_S12x16x16_f32 main_v33) (b_S12x16x16_f32 main_v47) (b_S12x16x16_f32 main_v48) (subf),
    TRef.nullary (b_S__f32 main_cst_14) (constant S_ .f32 0xFF800000#32),
    TRef.binary (b_S12x16x16_f32 main_v48) (b_S__f32 main_cst_14) (b_S12x16_f32 main_v49) ((fun x v => Host.reduce FloatOps.maximumf x v reducesTo_S12x16x16_S12x16_d1 h_S_)),
    TRef.unary (b_S12x16_f32 main_v49) (b_S12x1x16_f32 main_v50) (broadcastInDim S12x1x16 ![0, 2] bcast_S12x16_S12x1x16_0_2),
    TRef.unary (b_S12x1x16_f32 main_v50) (b_S12x1x16_f32 main_v51) (Host.absf),
    TRef.nullary (b_S__f32 main_cst_15) (constant S_ .f32 0x7F800000#32),
    TRef.unary (b_S__f32 main_cst_15) (b_S12x1x16_f32 main_v52) (broadcastInDim S12x1x16 ![] bcast_S_S12x1x16),
    TRef.binary (b_S12x1x16_f32 main_v51) (b_S12x1x16_f32 main_v52) (b_S12x1x16_i1 main_v53) (cmpf .olt),
    TRef.nullary (b_S__f32 main_cst_16) (constant S_ .f32 0x00000000#32) ] ++ (whereColOps (b_S12x1x16_i1 main_v53) (b_S12x1x16_f32 main_v50) (b_S__f32 main_cst_16) main_call3 ++ ([ TRef.unary (b_S12x1x16_f32 main_v54) (b_S12x16x16_f32 main_v55) (broadcastInDim S12x16x16 ![0, 1, 2] bcast_S12x1x16_S12x16x16_0_1_2),
    TRef.binary (b_S12x16x16_f32 main_v48) (b_S12x16x16_f32 main_v55) (b_S12x16x16_f32 main_v56) (subf),
    TRef.unary (b_S12x16x16_f32 main_v56) (b_S12x16x16_f32 main_v57) (Host.exp),
    TRef.nullary (b_S__f32 main_cst_17) (constant S_ .f32 0x00000000#32),
    TRef.binary (b_S12x16x16_f32 main_v57) (b_S__f32 main_cst_17) (b_S12x16_f32 main_v58) ((fun x v => Host.reduceAdd x v reducesTo_S12x16x16_S12x16_d1 h_S_)),
    TRef.unary (b_S12x16_f32 main_v58) (b_S12x1x16_f32 main_v59) (broadcastInDim S12x1x16 ![0, 2] bcast_S12x16_S12x1x16_0_2),
    TRef.unary (b_S12x1x16_f32 main_v59) (b_S12x1x16_f32 main_v60) (Host.log),
    TRef.binary (b_S12x1x16_f32 main_v60) (b_S12x1x16_f32 main_v54) (b_S12x1x16_f32 main_v61) (addf),
    TRef.unary (b_S12x1x16_f32 main_v61) (b_S12x16x16_f32 main_v62) (broadcastInDim S12x16x16 ![0, 1, 2] bcast_S12x1x16_S12x16x16_0_1_2),
    TRef.binary (b_S12x16x16_f32 main_v48) (b_S12x16x16_f32 main_v62) (b_S12x16x16_f32 main_v63) (subf),
    TRef.nullary (b_S__f32 main_cst_18) (constant S_ .f32 0xFF800000#32),
    TRef.binary (b_S12x16x16_f32 main_v63) (b_S__f32 main_cst_18) (b_S12x16_f32 main_v64) ((fun x v => Host.reduce FloatOps.maximumf x v reducesTo_S12x16x16_S12x16_d2 h_S_)),
    TRef.unary (b_S12x16_f32 main_v64) (b_S12x16x1_f32 main_v65) (broadcastInDim S12x16x1 ![0, 1] bcast_S12x16_S12x16x1_0_1),
    TRef.unary (b_S12x16x1_f32 main_v65) (b_S12x16x1_f32 main_v66) (Host.absf),
    TRef.nullary (b_S__f32 main_cst_19) (constant S_ .f32 0x7F800000#32),
    TRef.unary (b_S__f32 main_cst_19) (b_S12x16x1_f32 main_v67) (broadcastInDim S12x16x1 ![] bcast_S_S12x16x1),
    TRef.binary (b_S12x16x1_f32 main_v66) (b_S12x16x1_f32 main_v67) (b_S12x16x1_i1 main_v68) (cmpf .olt),
    TRef.nullary (b_S__f32 main_cst_20) (constant S_ .f32 0x00000000#32) ] ++ (whereRowOps (b_S12x16x1_i1 main_v68) (b_S12x16x1_f32 main_v65) (b_S__f32 main_cst_20) main_call4 ++ ([ TRef.unary (b_S12x16x1_f32 main_v69) (b_S12x16x16_f32 main_v70) (broadcastInDim S12x16x16 ![0, 1, 2] bcast_S12x16x1_S12x16x16_0_1_2),
    TRef.binary (b_S12x16x16_f32 main_v63) (b_S12x16x16_f32 main_v70) (b_S12x16x16_f32 main_v71) (subf),
    TRef.unary (b_S12x16x16_f32 main_v71) (b_S12x16x16_f32 main_v72) (Host.exp),
    TRef.nullary (b_S__f32 main_cst_21) (constant S_ .f32 0x00000000#32),
    TRef.binary (b_S12x16x16_f32 main_v72) (b_S__f32 main_cst_21) (b_S12x16_f32 main_v73) ((fun x v => Host.reduceAdd x v reducesTo_S12x16x16_S12x16_d2 h_S_)),
    TRef.unary (b_S12x16_f32 main_v73) (b_S12x16x1_f32 main_v74) (broadcastInDim S12x16x1 ![0, 1] bcast_S12x16_S12x16x1_0_1),
    TRef.unary (b_S12x16x1_f32 main_v74) (b_S12x16x1_f32 main_v75) (Host.log),
    TRef.binary (b_S12x16x1_f32 main_v75) (b_S12x16x1_f32 main_v69) (b_S12x16x1_f32 main_v76) (addf),
    TRef.unary (b_S12x16x1_f32 main_v76) (b_S12x16x16_f32 main_v77) (broadcastInDim S12x16x16 ![0, 1, 2] bcast_S12x16x1_S12x16x16_0_1_2),
    TRef.binary (b_S12x16x16_f32 main_v63) (b_S12x16x16_f32 main_v77) (b_S12x16x16_f32 main_v78) (subf),
    TRef.nullary (b_S__f32 main_cst_22) (constant S_ .f32 0xFF800000#32),
    TRef.binary (b_S12x16x16_f32 main_v78) (b_S__f32 main_cst_22) (b_S12x16_f32 main_v79) ((fun x v => Host.reduce FloatOps.maximumf x v reducesTo_S12x16x16_S12x16_d1 h_S_)),
    TRef.unary (b_S12x16_f32 main_v79) (b_S12x1x16_f32 main_v80) (broadcastInDim S12x1x16 ![0, 2] bcast_S12x16_S12x1x16_0_2),
    TRef.unary (b_S12x1x16_f32 main_v80) (b_S12x1x16_f32 main_v81) (Host.absf),
    TRef.nullary (b_S__f32 main_cst_23) (constant S_ .f32 0x7F800000#32),
    TRef.unary (b_S__f32 main_cst_23) (b_S12x1x16_f32 main_v82) (broadcastInDim S12x1x16 ![] bcast_S_S12x1x16),
    TRef.binary (b_S12x1x16_f32 main_v81) (b_S12x1x16_f32 main_v82) (b_S12x1x16_i1 main_v83) (cmpf .olt),
    TRef.nullary (b_S__f32 main_cst_24) (constant S_ .f32 0x00000000#32) ] ++ (whereColOps (b_S12x1x16_i1 main_v83) (b_S12x1x16_f32 main_v80) (b_S__f32 main_cst_24) main_call5 ++ ([ TRef.unary (b_S12x1x16_f32 main_v84) (b_S12x16x16_f32 main_v85) (broadcastInDim S12x16x16 ![0, 1, 2] bcast_S12x1x16_S12x16x16_0_1_2),
    TRef.binary (b_S12x16x16_f32 main_v78) (b_S12x16x16_f32 main_v85) (b_S12x16x16_f32 main_v86) (subf),
    TRef.unary (b_S12x16x16_f32 main_v86) (b_S12x16x16_f32 main_v87) (Host.exp),
    TRef.nullary (b_S__f32 main_cst_25) (constant S_ .f32 0x00000000#32),
    TRef.binary (b_S12x16x16_f32 main_v87) (b_S__f32 main_cst_25) (b_S12x16_f32 main_v88) ((fun x v => Host.reduceAdd x v reducesTo_S12x16x16_S12x16_d1 h_S_)),
    TRef.unary (b_S12x16_f32 main_v88) (b_S12x1x16_f32 main_v89) (broadcastInDim S12x1x16 ![0, 2] bcast_S12x16_S12x1x16_0_2),
    TRef.unary (b_S12x1x16_f32 main_v89) (b_S12x1x16_f32 main_v90) (Host.log),
    TRef.binary (b_S12x1x16_f32 main_v90) (b_S12x1x16_f32 main_v84) (b_S12x1x16_f32 main_v91) (addf) ]))))))

/-- The operations of the third part of the program. -/
def ops2 : List (HloOp τ sig (Elt F)) :=
  [ TRef.unary (b_S12x1x16_f32 main_v91) (b_S12x16x16_f32 main_v92) (broadcastInDim S12x16x16 ![0, 1, 2] bcast_S12x1x16_S12x16x16_0_1_2),
    TRef.binary (b_S12x16x16_f32 main_v78) (b_S12x16x16_f32 main_v92) (b_S12x16x16_f32 main_v93) (subf),
    TRef.nullary (b_S__f32 main_cst_26) (constant S_ .f32 0xFF800000#32),
    TRef.binary (b_S12x16x16_f32 main_v93) (b_S__f32 main_cst_26) (b_S12x16_f32 main_v94) ((fun x v => Host.reduce FloatOps.maximumf x v reducesTo_S12x16x16_S12x16_d2 h_S_)),
    TRef.unary (b_S12x16_f32 main_v94) (b_S12x16x1_f32 main_v95) (broadcastInDim S12x16x1 ![0, 1] bcast_S12x16_S12x16x1_0_1),
    TRef.unary (b_S12x16x1_f32 main_v95) (b_S12x16x1_f32 main_v96) (Host.absf),
    TRef.nullary (b_S__f32 main_cst_27) (constant S_ .f32 0x7F800000#32),
    TRef.unary (b_S__f32 main_cst_27) (b_S12x16x1_f32 main_v97) (broadcastInDim S12x16x1 ![] bcast_S_S12x16x1),
    TRef.binary (b_S12x16x1_f32 main_v96) (b_S12x16x1_f32 main_v97) (b_S12x16x1_i1 main_v98) (cmpf .olt),
    TRef.nullary (b_S__f32 main_cst_28) (constant S_ .f32 0x00000000#32) ] ++ (whereRowOps (b_S12x16x1_i1 main_v98) (b_S12x16x1_f32 main_v95) (b_S__f32 main_cst_28) main_call6 ++ ([ TRef.unary (b_S12x16x1_f32 main_v99) (b_S12x16x16_f32 main_v100) (broadcastInDim S12x16x16 ![0, 1, 2] bcast_S12x16x1_S12x16x16_0_1_2),
    TRef.binary (b_S12x16x16_f32 main_v93) (b_S12x16x16_f32 main_v100) (b_S12x16x16_f32 main_v101) (subf),
    TRef.unary (b_S12x16x16_f32 main_v101) (b_S12x16x16_f32 main_v102) (Host.exp),
    TRef.nullary (b_S__f32 main_cst_29) (constant S_ .f32 0x00000000#32),
    TRef.binary (b_S12x16x16_f32 main_v102) (b_S__f32 main_cst_29) (b_S12x16_f32 main_v103) ((fun x v => Host.reduceAdd x v reducesTo_S12x16x16_S12x16_d2 h_S_)),
    TRef.unary (b_S12x16_f32 main_v103) (b_S12x16x1_f32 main_v104) (broadcastInDim S12x16x1 ![0, 1] bcast_S12x16_S12x16x1_0_1),
    TRef.unary (b_S12x16x1_f32 main_v104) (b_S12x16x1_f32 main_v105) (Host.log),
    TRef.binary (b_S12x16x1_f32 main_v105) (b_S12x16x1_f32 main_v99) (b_S12x16x1_f32 main_v106) (addf),
    TRef.unary (b_S12x16x1_f32 main_v106) (b_S12x16x16_f32 main_v107) (broadcastInDim S12x16x16 ![0, 1, 2] bcast_S12x16x1_S12x16x16_0_1_2),
    TRef.binary (b_S12x16x16_f32 main_v93) (b_S12x16x16_f32 main_v107) (b_S12x16x16_f32 main_v108) (subf),
    TRef.nullary (b_S__f32 main_cst_30) (constant S_ .f32 0xFF800000#32),
    TRef.binary (b_S12x16x16_f32 main_v108) (b_S__f32 main_cst_30) (b_S12x16_f32 main_v109) ((fun x v => Host.reduce FloatOps.maximumf x v reducesTo_S12x16x16_S12x16_d1 h_S_)),
    TRef.unary (b_S12x16_f32 main_v109) (b_S12x1x16_f32 main_v110) (broadcastInDim S12x1x16 ![0, 2] bcast_S12x16_S12x1x16_0_2),
    TRef.unary (b_S12x1x16_f32 main_v110) (b_S12x1x16_f32 main_v111) (Host.absf),
    TRef.nullary (b_S__f32 main_cst_31) (constant S_ .f32 0x7F800000#32),
    TRef.unary (b_S__f32 main_cst_31) (b_S12x1x16_f32 main_v112) (broadcastInDim S12x1x16 ![] bcast_S_S12x1x16),
    TRef.binary (b_S12x1x16_f32 main_v111) (b_S12x1x16_f32 main_v112) (b_S12x1x16_i1 main_v113) (cmpf .olt),
    TRef.nullary (b_S__f32 main_cst_32) (constant S_ .f32 0x00000000#32) ] ++ (whereColOps (b_S12x1x16_i1 main_v113) (b_S12x1x16_f32 main_v110) (b_S__f32 main_cst_32) main_call7 ++ ([ TRef.unary (b_S12x1x16_f32 main_v114) (b_S12x16x16_f32 main_v115) (broadcastInDim S12x16x16 ![0, 1, 2] bcast_S12x1x16_S12x16x16_0_1_2),
    TRef.binary (b_S12x16x16_f32 main_v108) (b_S12x16x16_f32 main_v115) (b_S12x16x16_f32 main_v116) (subf),
    TRef.unary (b_S12x16x16_f32 main_v116) (b_S12x16x16_f32 main_v117) (Host.exp),
    TRef.nullary (b_S__f32 main_cst_33) (constant S_ .f32 0x00000000#32),
    TRef.binary (b_S12x16x16_f32 main_v117) (b_S__f32 main_cst_33) (b_S12x16_f32 main_v118) ((fun x v => Host.reduceAdd x v reducesTo_S12x16x16_S12x16_d1 h_S_)),
    TRef.unary (b_S12x16_f32 main_v118) (b_S12x1x16_f32 main_v119) (broadcastInDim S12x1x16 ![0, 2] bcast_S12x16_S12x1x16_0_2),
    TRef.unary (b_S12x1x16_f32 main_v119) (b_S12x1x16_f32 main_v120) (Host.log),
    TRef.binary (b_S12x1x16_f32 main_v120) (b_S12x1x16_f32 main_v114) (b_S12x1x16_f32 main_v121) (addf),
    TRef.unary (b_S12x1x16_f32 main_v121) (b_S12x16x16_f32 main_v122) (broadcastInDim S12x16x16 ![0, 1, 2] bcast_S12x1x16_S12x16x16_0_1_2),
    TRef.binary (b_S12x16x16_f32 main_v108) (b_S12x16x16_f32 main_v122) (b_S12x16x16_f32 main_v123) (subf),
    TRef.nullary (b_S__f32 main_cst_34) (constant S_ .f32 0xFF800000#32),
    TRef.binary (b_S12x16x16_f32 main_v123) (b_S__f32 main_cst_34) (b_S12x16_f32 main_v124) ((fun x v => Host.reduce FloatOps.maximumf x v reducesTo_S12x16x16_S12x16_d2 h_S_)),
    TRef.unary (b_S12x16_f32 main_v124) (b_S12x16x1_f32 main_v125) (broadcastInDim S12x16x1 ![0, 1] bcast_S12x16_S12x16x1_0_1),
    TRef.unary (b_S12x16x1_f32 main_v125) (b_S12x16x1_f32 main_v126) (Host.absf),
    TRef.nullary (b_S__f32 main_cst_35) (constant S_ .f32 0x7F800000#32),
    TRef.unary (b_S__f32 main_cst_35) (b_S12x16x1_f32 main_v127) (broadcastInDim S12x16x1 ![] bcast_S_S12x16x1),
    TRef.binary (b_S12x16x1_f32 main_v126) (b_S12x16x1_f32 main_v127) (b_S12x16x1_i1 main_v128) (cmpf .olt),
    TRef.nullary (b_S__f32 main_cst_36) (constant S_ .f32 0x00000000#32) ] ++ (whereRowOps (b_S12x16x1_i1 main_v128) (b_S12x16x1_f32 main_v125) (b_S__f32 main_cst_36) main_call8 ++ ([ TRef.unary (b_S12x16x1_f32 main_v129) (b_S12x16x16_f32 main_v130) (broadcastInDim S12x16x16 ![0, 1, 2] bcast_S12x16x1_S12x16x16_0_1_2),
    TRef.binary (b_S12x16x16_f32 main_v123) (b_S12x16x16_f32 main_v130) (b_S12x16x16_f32 main_v131) (subf),
    TRef.unary (b_S12x16x16_f32 main_v131) (b_S12x16x16_f32 main_v132) (Host.exp),
    TRef.nullary (b_S__f32 main_cst_37) (constant S_ .f32 0x00000000#32),
    TRef.binary (b_S12x16x16_f32 main_v132) (b_S__f32 main_cst_37) (b_S12x16_f32 main_v133) ((fun x v => Host.reduceAdd x v reducesTo_S12x16x16_S12x16_d2 h_S_)),
    TRef.unary (b_S12x16_f32 main_v133) (b_S12x16x1_f32 main_v134) (broadcastInDim S12x16x1 ![0, 1] bcast_S12x16_S12x16x1_0_1),
    TRef.unary (b_S12x16x1_f32 main_v134) (b_S12x16x1_f32 main_v135) (Host.log),
    TRef.binary (b_S12x16x1_f32 main_v135) (b_S12x16x1_f32 main_v129) (b_S12x16x1_f32 main_v136) (addf),
    TRef.unary (b_S12x16x1_f32 main_v136) (b_S12x16x16_f32 main_v137) (broadcastInDim S12x16x16 ![0, 1, 2] bcast_S12x16x1_S12x16x16_0_1_2),
    TRef.binary (b_S12x16x16_f32 main_v123) (b_S12x16x16_f32 main_v137) (b_S12x16x16_f32 main_v138) (subf),
    TRef.nullary (b_S__f32 main_cst_38) (constant S_ .f32 0xFF800000#32) ]))))))

/-- The operations of the fourth part of the program. -/
def ops3 : List (HloOp τ sig (Elt F)) :=
  [ TRef.binary (b_S12x16x16_f32 main_v138) (b_S__f32 main_cst_38) (b_S12x16_f32 main_v139) ((fun x v => Host.reduce FloatOps.maximumf x v reducesTo_S12x16x16_S12x16_d1 h_S_)),
    TRef.unary (b_S12x16_f32 main_v139) (b_S12x1x16_f32 main_v140) (broadcastInDim S12x1x16 ![0, 2] bcast_S12x16_S12x1x16_0_2),
    TRef.unary (b_S12x1x16_f32 main_v140) (b_S12x1x16_f32 main_v141) (Host.absf),
    TRef.nullary (b_S__f32 main_cst_39) (constant S_ .f32 0x7F800000#32),
    TRef.unary (b_S__f32 main_cst_39) (b_S12x1x16_f32 main_v142) (broadcastInDim S12x1x16 ![] bcast_S_S12x1x16),
    TRef.binary (b_S12x1x16_f32 main_v141) (b_S12x1x16_f32 main_v142) (b_S12x1x16_i1 main_v143) (cmpf .olt),
    TRef.nullary (b_S__f32 main_cst_40) (constant S_ .f32 0x00000000#32) ] ++ (whereColOps (b_S12x1x16_i1 main_v143) (b_S12x1x16_f32 main_v140) (b_S__f32 main_cst_40) main_call9 ++ ([ TRef.unary (b_S12x1x16_f32 main_v144) (b_S12x16x16_f32 main_v145) (broadcastInDim S12x16x16 ![0, 1, 2] bcast_S12x1x16_S12x16x16_0_1_2),
    TRef.binary (b_S12x16x16_f32 main_v138) (b_S12x16x16_f32 main_v145) (b_S12x16x16_f32 main_v146) (subf),
    TRef.unary (b_S12x16x16_f32 main_v146) (b_S12x16x16_f32 main_v147) (Host.exp),
    TRef.nullary (b_S__f32 main_cst_41) (constant S_ .f32 0x00000000#32),
    TRef.binary (b_S12x16x16_f32 main_v147) (b_S__f32 main_cst_41) (b_S12x16_f32 main_v148) ((fun x v => Host.reduceAdd x v reducesTo_S12x16x16_S12x16_d1 h_S_)),
    TRef.unary (b_S12x16_f32 main_v148) (b_S12x1x16_f32 main_v149) (broadcastInDim S12x1x16 ![0, 2] bcast_S12x16_S12x1x16_0_2),
    TRef.unary (b_S12x1x16_f32 main_v149) (b_S12x1x16_f32 main_v150) (Host.log),
    TRef.binary (b_S12x1x16_f32 main_v150) (b_S12x1x16_f32 main_v144) (b_S12x1x16_f32 main_v151) (addf),
    TRef.unary (b_S12x1x16_f32 main_v151) (b_S12x16x16_f32 main_v152) (broadcastInDim S12x16x16 ![0, 1, 2] bcast_S12x1x16_S12x16x16_0_1_2),
    TRef.binary (b_S12x16x16_f32 main_v138) (b_S12x16x16_f32 main_v152) (b_S12x16x16_f32 main_v153) (subf),
    TRef.nullary (b_S__f32 main_cst_42) (constant S_ .f32 0xFF800000#32),
    TRef.binary (b_S12x16x16_f32 main_v153) (b_S__f32 main_cst_42) (b_S12x16_f32 main_v154) ((fun x v => Host.reduce FloatOps.maximumf x v reducesTo_S12x16x16_S12x16_d2 h_S_)),
    TRef.unary (b_S12x16_f32 main_v154) (b_S12x16x1_f32 main_v155) (broadcastInDim S12x16x1 ![0, 1] bcast_S12x16_S12x16x1_0_1),
    TRef.unary (b_S12x16x1_f32 main_v155) (b_S12x16x1_f32 main_v156) (Host.absf),
    TRef.nullary (b_S__f32 main_cst_43) (constant S_ .f32 0x7F800000#32),
    TRef.unary (b_S__f32 main_cst_43) (b_S12x16x1_f32 main_v157) (broadcastInDim S12x16x1 ![] bcast_S_S12x16x1),
    TRef.binary (b_S12x16x1_f32 main_v156) (b_S12x16x1_f32 main_v157) (b_S12x16x1_i1 main_v158) (cmpf .olt),
    TRef.nullary (b_S__f32 main_cst_44) (constant S_ .f32 0x00000000#32) ] ++ (whereRowOps (b_S12x16x1_i1 main_v158) (b_S12x16x1_f32 main_v155) (b_S__f32 main_cst_44) main_call10 ++ ([ TRef.unary (b_S12x16x1_f32 main_v159) (b_S12x16x16_f32 main_v160) (broadcastInDim S12x16x16 ![0, 1, 2] bcast_S12x16x1_S12x16x16_0_1_2),
    TRef.binary (b_S12x16x16_f32 main_v153) (b_S12x16x16_f32 main_v160) (b_S12x16x16_f32 main_v161) (subf),
    TRef.unary (b_S12x16x16_f32 main_v161) (b_S12x16x16_f32 main_v162) (Host.exp),
    TRef.nullary (b_S__f32 main_cst_45) (constant S_ .f32 0x00000000#32),
    TRef.binary (b_S12x16x16_f32 main_v162) (b_S__f32 main_cst_45) (b_S12x16_f32 main_v163) ((fun x v => Host.reduceAdd x v reducesTo_S12x16x16_S12x16_d2 h_S_)),
    TRef.unary (b_S12x16_f32 main_v163) (b_S12x16x1_f32 main_v164) (broadcastInDim S12x16x1 ![0, 1] bcast_S12x16_S12x16x1_0_1),
    TRef.unary (b_S12x16x1_f32 main_v164) (b_S12x16x1_f32 main_v165) (Host.log),
    TRef.binary (b_S12x16x1_f32 main_v165) (b_S12x16x1_f32 main_v159) (b_S12x16x1_f32 main_v166) (addf),
    TRef.unary (b_S12x16x1_f32 main_v166) (b_S12x16x16_f32 main_v167) (broadcastInDim S12x16x16 ![0, 1, 2] bcast_S12x16x1_S12x16x16_0_1_2),
    TRef.binary (b_S12x16x16_f32 main_v153) (b_S12x16x16_f32 main_v167) (b_S12x16x16_f32 main_v168) (subf),
    TRef.nullary (b_S__f32 main_cst_46) (constant S_ .f32 0xFF800000#32),
    TRef.binary (b_S12x16x16_f32 main_v168) (b_S__f32 main_cst_46) (b_S12x16_f32 main_v169) ((fun x v => Host.reduce FloatOps.maximumf x v reducesTo_S12x16x16_S12x16_d1 h_S_)),
    TRef.unary (b_S12x16_f32 main_v169) (b_S12x1x16_f32 main_v170) (broadcastInDim S12x1x16 ![0, 2] bcast_S12x16_S12x1x16_0_2),
    TRef.unary (b_S12x1x16_f32 main_v170) (b_S12x1x16_f32 main_v171) (Host.absf),
    TRef.nullary (b_S__f32 main_cst_47) (constant S_ .f32 0x7F800000#32),
    TRef.unary (b_S__f32 main_cst_47) (b_S12x1x16_f32 main_v172) (broadcastInDim S12x1x16 ![] bcast_S_S12x1x16),
    TRef.binary (b_S12x1x16_f32 main_v171) (b_S12x1x16_f32 main_v172) (b_S12x1x16_i1 main_v173) (cmpf .olt),
    TRef.nullary (b_S__f32 main_cst_48) (constant S_ .f32 0x00000000#32) ] ++ (whereColOps (b_S12x1x16_i1 main_v173) (b_S12x1x16_f32 main_v170) (b_S__f32 main_cst_48) main_call11 ++ ([ TRef.unary (b_S12x1x16_f32 main_v174) (b_S12x16x16_f32 main_v175) (broadcastInDim S12x16x16 ![0, 1, 2] bcast_S12x1x16_S12x16x16_0_1_2),
    TRef.binary (b_S12x16x16_f32 main_v168) (b_S12x16x16_f32 main_v175) (b_S12x16x16_f32 main_v176) (subf),
    TRef.unary (b_S12x16x16_f32 main_v176) (b_S12x16x16_f32 main_v177) (Host.exp),
    TRef.nullary (b_S__f32 main_cst_49) (constant S_ .f32 0x00000000#32),
    TRef.binary (b_S12x16x16_f32 main_v177) (b_S__f32 main_cst_49) (b_S12x16_f32 main_v178) ((fun x v => Host.reduceAdd x v reducesTo_S12x16x16_S12x16_d1 h_S_)),
    TRef.unary (b_S12x16_f32 main_v178) (b_S12x1x16_f32 main_v179) (broadcastInDim S12x1x16 ![0, 2] bcast_S12x16_S12x1x16_0_2),
    TRef.unary (b_S12x1x16_f32 main_v179) (b_S12x1x16_f32 main_v180) (Host.log),
    TRef.binary (b_S12x1x16_f32 main_v180) (b_S12x1x16_f32 main_v174) (b_S12x1x16_f32 main_v181) (addf),
    TRef.unary (b_S12x1x16_f32 main_v181) (b_S12x16x16_f32 main_v182) (broadcastInDim S12x16x16 ![0, 1, 2] bcast_S12x1x16_S12x16x16_0_1_2),
    TRef.binary (b_S12x16x16_f32 main_v168) (b_S12x16x16_f32 main_v182) (b_S12x16x16_f32 main_v183) (subf),
    TRef.nullary (b_S__f32 main_cst_50) (constant S_ .f32 0xFF800000#32),
    TRef.binary (b_S12x16x16_f32 main_v183) (b_S__f32 main_cst_50) (b_S12x16_f32 main_v184) ((fun x v => Host.reduce FloatOps.maximumf x v reducesTo_S12x16x16_S12x16_d2 h_S_)),
    TRef.unary (b_S12x16_f32 main_v184) (b_S12x16x1_f32 main_v185) (broadcastInDim S12x16x1 ![0, 1] bcast_S12x16_S12x16x1_0_1),
    TRef.unary (b_S12x16x1_f32 main_v185) (b_S12x16x1_f32 main_v186) (Host.absf) ]))))))

/-- The operations of the fifth part of the program. -/
def ops4 : List (HloOp τ sig (Elt F)) :=
  [ TRef.nullary (b_S__f32 main_cst_51) (constant S_ .f32 0x7F800000#32),
    TRef.unary (b_S__f32 main_cst_51) (b_S12x16x1_f32 main_v187) (broadcastInDim S12x16x1 ![] bcast_S_S12x16x1),
    TRef.binary (b_S12x16x1_f32 main_v186) (b_S12x16x1_f32 main_v187) (b_S12x16x1_i1 main_v188) (cmpf .olt),
    TRef.nullary (b_S__f32 main_cst_52) (constant S_ .f32 0x00000000#32) ] ++ (whereRowOps (b_S12x16x1_i1 main_v188) (b_S12x16x1_f32 main_v185) (b_S__f32 main_cst_52) main_call12 ++ ([ TRef.unary (b_S12x16x1_f32 main_v189) (b_S12x16x16_f32 main_v190) (broadcastInDim S12x16x16 ![0, 1, 2] bcast_S12x16x1_S12x16x16_0_1_2),
    TRef.binary (b_S12x16x16_f32 main_v183) (b_S12x16x16_f32 main_v190) (b_S12x16x16_f32 main_v191) (subf),
    TRef.unary (b_S12x16x16_f32 main_v191) (b_S12x16x16_f32 main_v192) (Host.exp),
    TRef.nullary (b_S__f32 main_cst_53) (constant S_ .f32 0x00000000#32),
    TRef.binary (b_S12x16x16_f32 main_v192) (b_S__f32 main_cst_53) (b_S12x16_f32 main_v193) ((fun x v => Host.reduceAdd x v reducesTo_S12x16x16_S12x16_d2 h_S_)),
    TRef.unary (b_S12x16_f32 main_v193) (b_S12x16x1_f32 main_v194) (broadcastInDim S12x16x1 ![0, 1] bcast_S12x16_S12x16x1_0_1),
    TRef.unary (b_S12x16x1_f32 main_v194) (b_S12x16x1_f32 main_v195) (Host.log),
    TRef.binary (b_S12x16x1_f32 main_v195) (b_S12x16x1_f32 main_v189) (b_S12x16x1_f32 main_v196) (addf),
    TRef.unary (b_S12x16x1_f32 main_v196) (b_S12x16x16_f32 main_v197) (broadcastInDim S12x16x16 ![0, 1, 2] bcast_S12x16x1_S12x16x16_0_1_2),
    TRef.binary (b_S12x16x16_f32 main_v183) (b_S12x16x16_f32 main_v197) (b_S12x16x16_f32 main_v198) (subf),
    TRef.nullary (b_S__f32 main_cst_54) (constant S_ .f32 0xFF800000#32),
    TRef.binary (b_S12x16x16_f32 main_v198) (b_S__f32 main_cst_54) (b_S12x16_f32 main_v199) ((fun x v => Host.reduce FloatOps.maximumf x v reducesTo_S12x16x16_S12x16_d1 h_S_)),
    TRef.unary (b_S12x16_f32 main_v199) (b_S12x1x16_f32 main_v200) (broadcastInDim S12x1x16 ![0, 2] bcast_S12x16_S12x1x16_0_2),
    TRef.unary (b_S12x1x16_f32 main_v200) (b_S12x1x16_f32 main_v201) (Host.absf),
    TRef.nullary (b_S__f32 main_cst_55) (constant S_ .f32 0x7F800000#32),
    TRef.unary (b_S__f32 main_cst_55) (b_S12x1x16_f32 main_v202) (broadcastInDim S12x1x16 ![] bcast_S_S12x1x16),
    TRef.binary (b_S12x1x16_f32 main_v201) (b_S12x1x16_f32 main_v202) (b_S12x1x16_i1 main_v203) (cmpf .olt),
    TRef.nullary (b_S__f32 main_cst_56) (constant S_ .f32 0x00000000#32) ] ++ (whereColOps (b_S12x1x16_i1 main_v203) (b_S12x1x16_f32 main_v200) (b_S__f32 main_cst_56) main_call13 ++ ([ TRef.unary (b_S12x1x16_f32 main_v204) (b_S12x16x16_f32 main_v205) (broadcastInDim S12x16x16 ![0, 1, 2] bcast_S12x1x16_S12x16x16_0_1_2),
    TRef.binary (b_S12x16x16_f32 main_v198) (b_S12x16x16_f32 main_v205) (b_S12x16x16_f32 main_v206) (subf),
    TRef.unary (b_S12x16x16_f32 main_v206) (b_S12x16x16_f32 main_v207) (Host.exp),
    TRef.nullary (b_S__f32 main_cst_57) (constant S_ .f32 0x00000000#32),
    TRef.binary (b_S12x16x16_f32 main_v207) (b_S__f32 main_cst_57) (b_S12x16_f32 main_v208) ((fun x v => Host.reduceAdd x v reducesTo_S12x16x16_S12x16_d1 h_S_)),
    TRef.unary (b_S12x16_f32 main_v208) (b_S12x1x16_f32 main_v209) (broadcastInDim S12x1x16 ![0, 2] bcast_S12x16_S12x1x16_0_2),
    TRef.unary (b_S12x1x16_f32 main_v209) (b_S12x1x16_f32 main_v210) (Host.log),
    TRef.binary (b_S12x1x16_f32 main_v210) (b_S12x1x16_f32 main_v204) (b_S12x1x16_f32 main_v211) (addf),
    TRef.unary (b_S12x1x16_f32 main_v211) (b_S12x16x16_f32 main_v212) (broadcastInDim S12x16x16 ![0, 1, 2] bcast_S12x1x16_S12x16x16_0_1_2),
    TRef.binary (b_S12x16x16_f32 main_v198) (b_S12x16x16_f32 main_v212) (b_S12x16x16_f32 main_v213) (subf),
    TRef.nullary (b_S__f32 main_cst_58) (constant S_ .f32 0xFF800000#32),
    TRef.binary (b_S12x16x16_f32 main_v213) (b_S__f32 main_cst_58) (b_S12x16_f32 main_v214) ((fun x v => Host.reduce FloatOps.maximumf x v reducesTo_S12x16x16_S12x16_d2 h_S_)),
    TRef.unary (b_S12x16_f32 main_v214) (b_S12x16x1_f32 main_v215) (broadcastInDim S12x16x1 ![0, 1] bcast_S12x16_S12x16x1_0_1),
    TRef.unary (b_S12x16x1_f32 main_v215) (b_S12x16x1_f32 main_v216) (Host.absf),
    TRef.nullary (b_S__f32 main_cst_59) (constant S_ .f32 0x7F800000#32),
    TRef.unary (b_S__f32 main_cst_59) (b_S12x16x1_f32 main_v217) (broadcastInDim S12x16x1 ![] bcast_S_S12x16x1),
    TRef.binary (b_S12x16x1_f32 main_v216) (b_S12x16x1_f32 main_v217) (b_S12x16x1_i1 main_v218) (cmpf .olt),
    TRef.nullary (b_S__f32 main_cst_60) (constant S_ .f32 0x00000000#32) ] ++ (whereRowOps (b_S12x16x1_i1 main_v218) (b_S12x16x1_f32 main_v215) (b_S__f32 main_cst_60) main_call14 ++ ([ TRef.unary (b_S12x16x1_f32 main_v219) (b_S12x16x16_f32 main_v220) (broadcastInDim S12x16x16 ![0, 1, 2] bcast_S12x16x1_S12x16x16_0_1_2),
    TRef.binary (b_S12x16x16_f32 main_v213) (b_S12x16x16_f32 main_v220) (b_S12x16x16_f32 main_v221) (subf),
    TRef.unary (b_S12x16x16_f32 main_v221) (b_S12x16x16_f32 main_v222) (Host.exp),
    TRef.nullary (b_S__f32 main_cst_61) (constant S_ .f32 0x00000000#32),
    TRef.binary (b_S12x16x16_f32 main_v222) (b_S__f32 main_cst_61) (b_S12x16_f32 main_v223) ((fun x v => Host.reduceAdd x v reducesTo_S12x16x16_S12x16_d2 h_S_)),
    TRef.unary (b_S12x16_f32 main_v223) (b_S12x16x1_f32 main_v224) (broadcastInDim S12x16x1 ![0, 1] bcast_S12x16_S12x16x1_0_1),
    TRef.unary (b_S12x16x1_f32 main_v224) (b_S12x16x1_f32 main_v225) (Host.log),
    TRef.binary (b_S12x16x1_f32 main_v225) (b_S12x16x1_f32 main_v219) (b_S12x16x1_f32 main_v226) (addf),
    TRef.unary (b_S12x16x1_f32 main_v226) (b_S12x16x16_f32 main_v227) (broadcastInDim S12x16x16 ![0, 1, 2] bcast_S12x16x1_S12x16x16_0_1_2),
    TRef.binary (b_S12x16x16_f32 main_v213) (b_S12x16x16_f32 main_v227) (b_S12x16x16_f32 main_v228) (subf),
    TRef.nullary (b_S__f32 main_cst_62) (constant S_ .f32 0xFF800000#32),
    TRef.binary (b_S12x16x16_f32 main_v228) (b_S__f32 main_cst_62) (b_S12x16_f32 main_v229) ((fun x v => Host.reduce FloatOps.maximumf x v reducesTo_S12x16x16_S12x16_d1 h_S_)),
    TRef.unary (b_S12x16_f32 main_v229) (b_S12x1x16_f32 main_v230) (broadcastInDim S12x1x16 ![0, 2] bcast_S12x16_S12x1x16_0_2),
    TRef.unary (b_S12x1x16_f32 main_v230) (b_S12x1x16_f32 main_v231) (Host.absf),
    TRef.nullary (b_S__f32 main_cst_63) (constant S_ .f32 0x7F800000#32),
    TRef.unary (b_S__f32 main_cst_63) (b_S12x1x16_f32 main_v232) (broadcastInDim S12x1x16 ![] bcast_S_S12x1x16),
    TRef.binary (b_S12x1x16_f32 main_v231) (b_S12x1x16_f32 main_v232) (b_S12x1x16_i1 main_v233) (cmpf .olt) ]))))))

/-- The operations of the sixth part of the program. -/
def ops5 : List (HloOp τ sig (Elt F)) :=
  [ TRef.nullary (b_S__f32 main_cst_64) (constant S_ .f32 0x00000000#32) ] ++ (whereColOps (b_S12x1x16_i1 main_v233) (b_S12x1x16_f32 main_v230) (b_S__f32 main_cst_64) main_call15 ++ ([ TRef.unary (b_S12x1x16_f32 main_v234) (b_S12x16x16_f32 main_v235) (broadcastInDim S12x16x16 ![0, 1, 2] bcast_S12x1x16_S12x16x16_0_1_2),
    TRef.binary (b_S12x16x16_f32 main_v228) (b_S12x16x16_f32 main_v235) (b_S12x16x16_f32 main_v236) (subf),
    TRef.unary (b_S12x16x16_f32 main_v236) (b_S12x16x16_f32 main_v237) (Host.exp),
    TRef.nullary (b_S__f32 main_cst_65) (constant S_ .f32 0x00000000#32),
    TRef.binary (b_S12x16x16_f32 main_v237) (b_S__f32 main_cst_65) (b_S12x16_f32 main_v238) ((fun x v => Host.reduceAdd x v reducesTo_S12x16x16_S12x16_d1 h_S_)),
    TRef.unary (b_S12x16_f32 main_v238) (b_S12x1x16_f32 main_v239) (broadcastInDim S12x1x16 ![0, 2] bcast_S12x16_S12x1x16_0_2),
    TRef.unary (b_S12x1x16_f32 main_v239) (b_S12x1x16_f32 main_v240) (Host.log),
    TRef.binary (b_S12x1x16_f32 main_v240) (b_S12x1x16_f32 main_v234) (b_S12x1x16_f32 main_v241) (addf),
    TRef.unary (b_S12x1x16_f32 main_v241) (b_S12x16x16_f32 main_v242) (broadcastInDim S12x16x16 ![0, 1, 2] bcast_S12x1x16_S12x16x16_0_1_2),
    TRef.binary (b_S12x16x16_f32 main_v228) (b_S12x16x16_f32 main_v242) (b_S12x16x16_f32 main_v243) (subf),
    TRef.unary (b_S12x16x16_f32 main_v243) (b_S12x16x16_f32 main_v244) (Host.exp),
    TRef.unary (b_S12x16x128x64_f32 main_v4) (b_S12x16x1x128x64_f32 main_v245) (broadcastInDim S12x16x1x128x64 ![0, 1, 3, 4] bcast_S12x16x128x64_S12x16x1x128x64_0_1_3_4),
    TRef.unary (b_S12x16x1x128x64_f32 main_v245) (b_S12x16x16x128x64_f32 main_v246) (broadcastInDim S12x16x16x128x64 ![0, 1, 2, 3, 4] bcast_S12x16x1x128x64_S12x16x16x128x64_0_1_2_3_4),
    TRef.unary (b_S12x16x128x64_f32 main_v4) (b_S12x1x16x128x64_f32 main_v247) (broadcastInDim S12x1x16x128x64 ![0, 2, 3, 4] bcast_S12x16x128x64_S12x1x16x128x64_0_2_3_4),
    TRef.unary (b_S12x1x16x128x64_f32 main_v247) (b_S12x16x16x128x64_f32 main_v248) (broadcastInDim S12x16x16x128x64 ![0, 1, 2, 3, 4] bcast_S12x1x16x128x64_S12x16x16x128x64_0_1_2_3_4),
    TRef.binary (b_S12x16x16x128x64_f32 main_v246) (b_S12x16x16x128x64_f32 main_v248) (b_S12x16x16x256x64_f32 main_v249) ((fun a b => concatenate S12x16x16x256x64 3 [⟨S12x16x16x128x64, a⟩, ⟨S12x16x16x128x64, b⟩] concatenates_S12x16x16x128x64_S12x16x16x128x64_S12x16x16x256x64_d3)),
    TRef.unary (b_S12x16x128x64_f32 main_v5) (b_S12x16x1x128x64_f32 main_v250) (broadcastInDim S12x16x1x128x64 ![0, 1, 3, 4] bcast_S12x16x128x64_S12x16x1x128x64_0_1_3_4),
    TRef.unary (b_S12x16x1x128x64_f32 main_v250) (b_S12x16x16x128x64_f32 main_v251) (broadcastInDim S12x16x16x128x64 ![0, 1, 2, 3, 4] bcast_S12x16x1x128x64_S12x16x16x128x64_0_1_2_3_4),
    TRef.unary (b_S12x16x128x64_f32 main_v5) (b_S12x1x16x128x64_f32 main_v252) (broadcastInDim S12x1x16x128x64 ![0, 2, 3, 4] bcast_S12x16x128x64_S12x1x16x128x64_0_2_3_4),
    TRef.unary (b_S12x1x16x128x64_f32 main_v252) (b_S12x16x16x128x64_f32 main_v253) (broadcastInDim S12x16x16x128x64 ![0, 1, 2, 3, 4] bcast_S12x1x16x128x64_S12x16x16x128x64_0_1_2_3_4),
    TRef.binary (b_S12x16x16x128x64_f32 main_v251) (b_S12x16x16x128x64_f32 main_v253) (b_S12x16x16x256x64_f32 main_v254) ((fun a b => concatenate S12x16x16x256x64 3 [⟨S12x16x16x128x64, a⟩, ⟨S12x16x16x128x64, b⟩] concatenates_S12x16x16x128x64_S12x16x16x128x64_S12x16x16x256x64_d3)),
    TRef.binary (b_S12x16x16x256x64_f32 main_v249) (b_S12x16x128x64_f32 main_v3) (b_S12x16x16x256x128_f32 main_v255) ((fun l r => Host.dotGeneral dot_S12x16x16x256x64_S12x16x128x64_S12x16x16x256x128_4_3_23_2_01_01 none l r)),
    TRef.unary (b_S12x16x16x256x128_f32 main_v255) (b_S12x16x16x128x256_f32 main_v256) ((transpose S12x16x16x128x256 [0, 1, 2, 4, 3] · transposes_S12x16x16x256x128_S12x16x16x128x256_0_1_2_4_3)),
    TRef.nullary (b_S__f32 main_cst_66) (constant S_ .f32 0x3E000000#32),
    TRef.unary (b_S__f32 main_cst_66) (b_S12x16x16x128x256_f32 main_v257) (broadcastInDim S12x16x16x128x256 ![] bcast_S_S12x16x16x128x256),
    TRef.binary (b_S12x16x16x128x256_f32 main_v256) (b_S12x16x16x128x256_f32 main_v257) (b_S12x16x16x128x256_f32 main_v258) (mulf),
    TRef.nullary (b_S__f32 main_cst_67) (constant S_ .f32 0xFF800000#32),
    TRef.binary (b_S12x16x16x128x256_f32 main_v258) (b_S__f32 main_cst_67) (b_S12x16x16x128_f32 main_v259) ((fun x v => Host.reduce FloatOps.maximumf x v reducesTo_S12x16x16x128x256_S12x16x16x128_d4 h_S_)),
    TRef.nullary (b_S__f32 main_cst_68) (constant S_ .f32 0xFF800000#32),
    TRef.unary (b_S__f32 main_cst_68) (b_S12x16x16x128_f32 main_v260) (broadcastInDim S12x16x16x128 ![] bcast_S_S12x16x16x128),
    TRef.binary (b_S12x16x16x128_f32 main_v260) (b_S12x16x16x128_f32 main_v259) (b_S12x16x16x128_f32 main_v261) (maximumf),
    TRef.unary (b_S12x16x16x128_f32 main_v261) (b_S12x16x16x128x1_f32 main_v262) (broadcastInDim S12x16x16x128x1 ![0, 1, 2, 3] bcast_S12x16x16x128_S12x16x16x128x1_0_1_2_3),
    TRef.unary (b_S12x16x16x128x1_f32 main_v262) (b_S12x16x16x128x256_f32 main_v263) (broadcastInDim S12x16x16x128x256 ![0, 1, 2, 3, 4] bcast_S12x16x16x128x1_S12x16x16x128x256_0_1_2_3_4),
    TRef.binary (b_S12x16x16x128x256_f32 main_v258) (b_S12x16x16x128x256_f32 main_v263) (b_S12x16x16x128x256_f32 main_v264) (subf),
    TRef.unary (b_S12x16x16x128x256_f32 main_v264) (b_S12x16x16x128x256_f32 main_v265) (Host.exp),
    TRef.nullary (b_S__f32 main_cst_69) (constant S_ .f32 0x00000000#32),
    TRef.binary (b_S12x16x16x128x256_f32 main_v265) (b_S__f32 main_cst_69) (b_S12x16x16x128_f32 main_v266) ((fun x v => Host.reduceAdd x v reducesTo_S12x16x16x128x256_S12x16x16x128_d4 h_S_)),
    TRef.unary (b_S12x16x16x128_f32 main_v266) (b_S12x16x16x128x1_f32 main_v267) (broadcastInDim S12x16x16x128x1 ![0, 1, 2, 3] bcast_S12x16x16x128_S12x16x16x128x1_0_1_2_3),
    TRef.unary (b_S12x16x16x128x1_f32 main_v267) (b_S12x16x16x128x256_f32 main_v268) (broadcastInDim S12x16x16x128x256 ![0, 1, 2, 3, 4] bcast_S12x16x16x128x1_S12x16x16x128x256_0_1_2_3_4),
    TRef.binary (b_S12x16x16x128x256_f32 main_v265) (b_S12x16x16x128x256_f32 main_v268) (b_S12x16x16x128x256_f32 main_v269) (Host.divf),
    TRef.binary (b_S12x16x16x128x256_f32 main_v269) (b_S12x16x16x256x64_f32 main_v254) (b_S12x16x16x128x64_f32 main_v270) ((fun l r => Host.dotGeneral dot_S12x16x16x128x256_S12x16x16x256x64_S12x16x16x128x64_4_3_3_4_012_012 none l r)),
    TRef.nullary (b_S__f32 main_cst_70) (constant S_ .f32 0x3A83126F#32),
    TRef.unary (b_S__f32 main_cst_70) (b_S12x16x16_f32 main_v271) (broadcastInDim S12x16x16 ![] bcast_S_S12x16x16),
    TRef.binary (b_S12x16x16_f32 main_v244) (b_S12x16x16_f32 main_v271) (b_S12x16x16_i1 main_v272) (cmpf .ogt),
    TRef.nullary (b_S__f32 main_cst_71) (constant S_ .f32 0x00000000#32) ] ++ (whereAllOps (b_S12x16x16_i1 main_v272) (b_S12x16x16_f32 main_v244) (b_S__f32 main_cst_71) main_call16 ++ ([ TRef.unary (b_S12x16x16_f32 main_v273) (b_S12x16x16x1x1_f32 main_v274) (broadcastInDim S12x16x16x1x1 ![0, 1, 2] bcast_S12x16x16_S12x16x16x1x1_0_1_2),
    TRef.unary (b_S12x16x16x1x1_f32 main_v274) (b_S12x16x16x128x64_f32 main_v275) (broadcastInDim S12x16x16x128x64 ![0, 1, 2, 3, 4] bcast_S12x16x16x1x1_S12x16x16x128x64_0_1_2_3_4),
    TRef.binary (b_S12x16x16x128x64_f32 main_v270) (b_S12x16x16x128x64_f32 main_v275) (b_S12x16x16x128x64_f32 main_v276) (mulf),
    TRef.nullary (b_S__f32 main_cst_72) (constant S_ .f32 0x00000000#32),
    TRef.binary (b_S12x16x16x128x64_f32 main_v276) (b_S__f32 main_cst_72) (b_S12x16x128x64_f32 main_v277) ((fun x v => Host.reduceAdd x v reducesTo_S12x16x16x128x64_S12x16x128x64_d2 h_S_)),
    TRef.reshape (b_S12x16x128x64_f32 main_v277) (b_S1x12x2048x64_f32 main_v278) (rfl : (.f32 : EltTy) = .f32) shapeCasts_S12x16x128x64_S1x12x2048x64 ]))))

/-- The reference's operations, in order. -/
def ops : List (HloOp τ sig (Elt F)) := ops0 ++ (ops1 ++ (ops2 ++ (ops3 ++ (ops4 ++ ops5))))

end Cert.ReferenceIdeal.Line

end
-- ==== Proof.RefRun.lean ====
/-
  The reference's run: the program is its list of host operations, the list is numbered in the order in which it is
  written, so every execution ends with the arguments unchanged and with contents that are a fixed point of every
  operation of the list.
-/
module

public import proofs.«01_k».proof.Proof.Fix
public import proofs.«01_k».proof.Proof.RefOps
public import Idealize.ShloMosaic.Lib.Quiescent
public import Idealize.ShloMosaic.Lib.Claim

@[expose] public section

set_option maxRecDepth 65536

noncomputable section

namespace Cert.ReferenceIdeal.Line

open Idealize.ShloMosaic Idealize.ShloMosaic.TcCoe Idealize.ShloMosaic.StableHlo
open Idealize.SL.Sem
open Cert.ReferenceIdeal HostLine

variable {F : FTy → Type} [FloatOps F]

/-! ## The program is the list -/

/-- The positive part is its list of operations. -/
theorem relu_eq (arg0) (φ : fn_relu.Bufs) : fn_relu.body (F := F) arg0 φ = seq (reluOps arg0 φ) := rfl
/-- The row selection is its list of operations. -/
theorem whereRow_eq (arg0 arg1 arg2) (φ : fn_where.Bufs) : fn_where.body (F := F) arg0 arg1 arg2 φ = seq (whereRowOps arg0 arg1 arg2 φ) := rfl
/-- The column selection is its list of operations. -/
theorem whereCol_eq (arg0 arg1 arg2) (φ : fn_where_0.Bufs) : fn_where_0.body (F := F) arg0 arg1 arg2 φ = seq (whereColOps arg0 arg1 arg2 φ) := rfl
/-- The matrix selection is its list of operations. -/
theorem whereAll_eq (arg0 arg1 arg2) (φ : fn_where_1.Bufs) : fn_where_1.body (F := F) arg0 arg1 arg2 φ = seq (whereAllOps arg0 arg1 arg2 φ) := rfl
/-- The generator is its list of operations. -/
theorem threefry_eq (arg0 arg1 arg2 arg3) (φ : fn_threefry2x32.Bufs) :
    fn_threefry2x32.body (F := F) arg0 arg1 arg2 arg3 φ = seq (threefryOps arg0 arg1 arg2 arg3 φ) := rfl
/-- The uniform draw is its list of operations. -/
theorem uniform_eq (arg0 arg1 arg2) (φ : fn_uniform.Bufs) :
    fn_uniform.body (F := F) arg0 arg1 arg2 φ = seq (uniformOps arg0 arg1 arg2 φ) := by
  simp only [uniformOps, seq_append, ← threefry_eq]
  rfl

/-- Part 0 of the program is its list of operations. -/
theorem part0_eq (c : Dev nD) : main_part0 (F := F) c = seq ops0 := by
  simp only [ops0, seq_append, ← relu_eq, ← whereRow_eq, ← whereCol_eq, ← uniform_eq]
  rfl
/-- Part 1 of the program is its list of operations. -/
theorem part1_eq (c : Dev nD) : main_part1 (F := F) c = seq ops1 := by
  simp only [ops1, seq_append, ← whereRow_eq, ← whereCol_eq]
  rfl
/-- Part 2 of the program is its list of operations. -/
theorem part2_eq (c : Dev nD) : main_part2 (F := F) c = seq ops2 := by
  simp only [ops2, seq_append, ← whereRow_eq, ← whereCol_eq]
  rfl
/-- Part 3 of the program is its list of operations. -/
theorem part3_eq (c : Dev nD) : main_part3 (F := F) c = seq ops3 := by
  simp only [ops3, seq_append, ← whereRow_eq, ← whereCol_eq]
  rfl
/-- Part 4 of the program is its list of operations. -/
theorem part4_eq (c : Dev nD) : main_part4 (F := F) c = seq ops4 := by
  simp only [ops4, seq_append, ← whereRow_eq, ← whereCol_eq]
  rfl
attribute [local irreducible] Host.reduce in
/-- Part 5 of the program is its list of operations. -/
theorem part5_eq (c : Dev nD) : main_part5 (F := F) c = seq ops5 := by
  simp only [ops5, seq_append, ← whereCol_eq, ← whereAll_eq]
  rfl

/-- The program is its operations in order. -/
theorem main_eq (c : Dev nD) : main (F := F) c = seq ops := by
  simp only [ops, seq_append, ← part0_eq c, ← part1_eq c, ← part2_eq c, ← part3_eq c, ← part4_eq c, ← part5_eq c]
  rfl

/-! ## The list is ordered -/

set_option maxHeartbeats 4000000 in
/-- Part 0 writes each reference once, after everything it reads. -/
theorem ord0 : Ordered 4 (ops0 (F := F)) 334 := by
  simp only [ops0, reluOps, whereRowOps, whereColOps, whereAllOps, uniformOps, threefryOps, List.cons_append, List.nil_append]
  repeat' first
    | exact .nil _
    | refine .cons _ (tUnary _ _ _ rfl) rfl ?_
    | refine .cons _ (tBinary _ _ _ _ rfl rfl) rfl ?_
    | refine .cons _ (tNullary _ _) rfl ?_
    | refine .cons _ (tTernary _ _ _ _ _ rfl rfl rfl) rfl ?_
    | refine .cons _ (tReshape _ _ _ _ rfl) rfl ?_

/-- Part 1 writes each reference once, after everything it reads. -/
theorem ord1 : Ordered 334 (ops1 (F := F)) 400 := by
  simp only [ops1, reluOps, whereRowOps, whereColOps, whereAllOps, uniformOps, threefryOps, List.cons_append, List.nil_append]
  repeat' first
    | exact .nil _
    | refine .cons _ (tUnary _ _ _ rfl) rfl ?_
    | refine .cons _ (tBinary _ _ _ _ rfl rfl) rfl ?_
    | refine .cons _ (tNullary _ _) rfl ?_
    | refine .cons _ (tTernary _ _ _ _ _ rfl rfl rfl) rfl ?_
    | refine .cons _ (tReshape _ _ _ _ rfl) rfl ?_

/-- Part 2 writes each reference once, after everything it reads. -/
theorem ord2 : Ordered 400 (ops2 (F := F)) 466 := by
  simp only [ops2, reluOps, whereRowOps, whereColOps, whereAllOps, uniformOps, threefryOps, List.cons_append, List.nil_append]
  repeat' first
    | exact .nil _
    | refine .cons _ (tUnary _ _ _ rfl) rfl ?_
    | refine .cons _ (tBinary _ _ _ _ rfl rfl) rfl ?_
    | refine .cons _ (tNullary _ _) rfl ?_
    | refine .cons _ (tTernary _ _ _ _ _ rfl rfl rfl) rfl ?_
    | refine .cons _ (tReshape _ _ _ _ rfl) rfl ?_

/-- Part 3 writes each reference once, after everything it reads. -/
theorem ord3 : Ordered 466 (ops3 (F := F)) 532 := by
  simp only [ops3, reluOps, whereRowOps, whereColOps, whereAllOps, uniformOps, threefryOps, List.cons_append, List.nil_append]
  repeat' first
    | exact .nil _
    | refine .cons _ (tUnary _ _ _ rfl) rfl ?_
    | refine .cons _ (tBinary _ _ _ _ rfl rfl) rfl ?_
    | refine .cons _ (tNullary _ _) rfl ?_
    | refine .cons _ (tTernary _ _ _ _ _ rfl rfl rfl) rfl ?_
    | refine .cons _ (tReshape _ _ _ _ rfl) rfl ?_

/-- Part 4 writes each reference once, after everything it reads. -/
theorem ord4 : Ordered 532 (ops4 (F := F)) 598 := by
  simp only [ops4, reluOps, whereRowOps, whereColOps, whereAllOps, uniformOps, threefryOps, List.cons_append, List.nil_append]
  repeat' first
    | exact .nil _
    | refine .cons _ (tUnary _ _ _ rfl) rfl ?_
    | refine .cons _ (tBinary _ _ _ _ rfl rfl) rfl ?_
    | refine .cons _ (tNullary _ _) rfl ?_
    | refine .cons _ (tTernary _ _ _ _ _ rfl rfl rfl) rfl ?_
    | refine .cons _ (tReshape _ _ _ _ rfl) rfl ?_

/-- Part 5 writes each reference once, after everything it reads. -/
theorem ord5 : Ordered 598 (ops5 (F := F)) 656 := by
  simp only [ops5, reluOps, whereRowOps, whereColOps, whereAllOps, uniformOps, threefryOps, List.cons_append, List.nil_append]
  repeat' first
    | exact .nil _
    | refine .cons _ (tUnary _ _ _ rfl) rfl ?_
    | refine .cons _ (tBinary _ _ _ _ rfl rfl) rfl ?_
    | refine .cons _ (tNullary _ _) rfl ?_
    | refine .cons _ (tTernary _ _ _ _ _ rfl rfl rfl) rfl ?_
    | refine .cons _ (tReshape _ _ _ _ rfl) rfl ?_

/-- The whole list is numbered from 4 to 655 in order. -/
theorem ordered : Ordered 4 (ops (F := F)) 656 :=
  ord0.append (ord1.append (ord2.append (ord3.append (ord4.append ord5))))

/-! ## The run -/

/-- The program has no scoped reference. -/
theorem scopedRefs_eq : (Finset.univ.filter fun b : Ref sig .tc => b.isScoped) = ∅ := by decide
/-- The program has no scoped semaphore. -/
theorem scopedSems_eq : (Finset.univ.filter fun sm : SemLoc sig => sm.isScoped .tc) = ∅ := by decide

/-- The contents the run ends with on a device. -/
def fin (m : (ℓ : Loc nD τ sig) → Buf (Elt F) ℓ) (c : Dev nD) : Valuation τ sig (Elt F) := after ops (launchContents m c)

/-- Every execution terminates with the contents `fin`. -/
theorem run (m : (ℓ : Loc nD τ sig) → Buf (Elt F) ℓ) (ρ : Dev nD → PrngReg) :
    θ_run (Cert.ReferenceIdeal.defs (F := F)) (onTc (main (F := F))) ⟨m, fun _ => 0, ρ⟩
      fun r => ∀ d b, r.2.mem ((d.tc).loc b) = fin m d (Proc.devRef .tc b) :=
  run_seq scopedRefs_eq scopedSems_eq _ _ (fun _ => ops) (fun c => main_eq c) (fun _ => ordered.sub) m ρ (fun _ => ordered.fresh)

/-- The final contents are a fixed point of every operation. -/
theorem holds (m : (ℓ : Loc nD τ sig) → Buf (Elt F) ℓ) (c : Dev nD) : Holds (fin m c) (ops (F := F)) := ordered.fixed _

/-- The arguments end with their own contents. -/
theorem fin_arg (m : (ℓ : Loc nD τ sig) → Buf (Elt F) ℓ) (c : Dev nD) (r : Ref sig .tc) (hr : rank r < 4) :
    fin m c (Proc.devRef .tc r) = m (c, Proc.devRef .tc r) := ordered.kept _ r hr

/-- Every execution terminates with the arguments unchanged and every semaphore counter at zero. -/
theorem frame (m : (ℓ : Loc nD τ sig) → Buf (Elt F) ℓ) (ρ : Dev nD → PrngReg) :
    θ_run (Cert.ReferenceIdeal.defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run _ _ _).mono (fun r h => ⟨fun c => ⟨(h c _).trans (fin_arg m c _ (by decide)), (h c _).trans (fin_arg m c _ (by decide)),
    (h c _).trans (fin_arg m c _ (by decide)), (h c _).trans (fin_arg m c _ (by decide))⟩, sem_eq_zero_of_no_sems rfl _⟩) (run m ρ)

end Cert.ReferenceIdeal.Line

end
-- ==== Proof.Reals.lean ====
/-
  Facts about extended reals that are real numbers: closure under the operations both programs apply, the normalising half
  step of a square matrix, and the rearrangement that makes one sum over blocks of the pairwise attention.
-/
module

public import Idealize.ShloMosaic.PureOps
public import Idealize.ShloMosaic.Lib.IdealHost
public import Mathlib.Analysis.SpecialFunctions.Log.Basic

@[expose] public section

set_option maxRecDepth 16384

noncomputable section

namespace Blocks

open Idealize.ShloMosaic

/-- An extended real that is a real number. -/
def IsReal (x : EReal) : Prop := ∃ r : ℝ, x = (r : EReal)

/-- A real number is real. -/
theorem IsReal.coe (r : ℝ) : IsReal (r : EReal) := ⟨r, rfl⟩
/-- Zero is real. -/
theorem IsReal.zero : IsReal 0 := ⟨0, rfl⟩

/-- Sums of reals are real. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- Differences of reals are real. -/
theorem IsReal.sub {x y : EReal} (hx : IsReal x) (hy : IsReal y) : IsReal (x - y) := by
  obtain ⟨a, rfl⟩ := hx; obtain ⟨b, rfl⟩ := hy; exact ⟨a - b, (EReal.coe_sub a b).symm⟩

/-- Negations of reals are real. -/
theorem IsReal.neg {x : EReal} (hx : IsReal x) : IsReal (-x) := by
  obtain ⟨a, rfl⟩ := hx; exact ⟨-a, (EReal.coe_neg a).symm⟩

/-- Products of reals are real. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The greater of two reals is real. -/
theorem IsReal.max {x y : EReal} (hx : IsReal x) (hy : IsReal y) : IsReal (max x y) := by
  rcases max_choice x y with h | h <;> rw [h] <;> assumption

/-- The inclusion of the reals commutes with finite sums. -/
theorem coe_sum {ι : Type} (s : Finset ι) (f : ι → ℝ) : ((∑ i ∈ s, f i : ℝ) : EReal) = ∑ i ∈ s, (f i : EReal) :=
  map_sum (⟨⟨Real.toEReal, EReal.coe_zero⟩, EReal.coe_add⟩ : ℝ →+ EReal) f s

/-- Finite sums of reals are real. -/
theorem IsReal.sum {ι : Type} (s : Finset ι) (f : ι → EReal) (h : ∀ i, IsReal (f i)) : IsReal (∑ i ∈ s, f i) := by
  choose g hg using h
  exact ⟨∑ i ∈ s, g i, by rw [coe_sum]; exact Finset.sum_congr rfl fun i _ => hg i⟩

/-- Quotients of reals by nonzero reals are real. -/
theorem IsReal.div {x : EReal} (hx : IsReal x) {y : ℝ} (hy : y ≠ 0) : IsReal (Ideal.div x (y : EReal)) := by
  rw [Ideal.div_coe hy]; exact hx.mul (IsReal.coe _)

/-- The logarithm of a positive real is real. -/
theorem IsReal.log {r : ℝ} (hr : 0 < r) : IsReal (Ideal.log (r : EReal)) :=
  ⟨Real.log r, by rw [Ideal.log_coe, if_neg (not_le.mpr hr)]⟩

/-- The greatest of a nonempty family of reals, taken from minus infinity, is real. -/
theorem fold_max_real {ι : Type} [DecidableEq ι] (s : Finset ι) (f : ι → EReal) (h : ∀ i, IsReal (f i)) (hs : s.Nonempty) :
    IsReal (s.fold max ⊥ f) := by
  induction s using Finset.induction_on with
  | empty => exact absurd hs (by simp)
  | insert a s ha ih =>
    rw [Finset.fold_insert ha]
    rcases s.eq_empty_or_nonempty with rfl | hne
    · rw [Finset.fold_empty, max_bot_right]; exact h a
    · exact (h a).max (ih hne)

/-- The word of minus infinity. -/
theorem ninf : Ideal.ofBits .f32 0xFF800000#32 = ⊥ := by
  simp [Ideal.ofBits, Ideal.ieee]

/-- The word of plus infinity. -/
theorem pinf : Ideal.ofBits .f32 0x7F800000#32 = ⊤ := by
  simp [Ideal.ofBits, Ideal.ieee]

/-- The scale. -/
theorem scale_real : IsReal (Ideal.ofBits .f32 0x3E000000#32) := by
  simp [Ideal.ofBits, Ideal.ieee]
  exact (IsReal.coe _).mul (IsReal.coe _)

/-- The small positive constant. -/
theorem tiny : ∃ e : ℝ, Ideal.ofBits .f32 0x358637BD#32 = (e : EReal) ∧ 0 < e :=
  ⟨8796093 * (1 / 8796093022208), by simp [Ideal.ofBits, Ideal.ieee]; norm_num, by norm_num⟩

/-- The temperature. -/
theorem temper : ∃ e : ℝ, Ideal.ofBits .f32 0x3F400000#32 = (e : EReal) ∧ 0 < e :=
  ⟨12582912 * (1 / 16777216), by simp [Ideal.ofBits, Ideal.ieee]; norm_num, by norm_num⟩

/-- A word with the exponent of one is a real number from one up to two. -/
theorem unit_word (b : BitVec 32) : ∃ x : ℝ, Ideal.ofBits .f32 ((b >>> 9) ||| 1065353216#32) = (x : EReal) ∧ 1 ≤ x ∧ x < 2 := by
  have h1 : ((b >>> 9) ||| 1065353216#32).extractLsb' 31 1 = 0#1 := by
    refine BitVec.eq_of_getLsbD_eq fun i hi => ?_
    interval_cases i <;> simp
  have h2 : ((b >>> 9) ||| 1065353216#32).extractLsb' 23 8 = 127#8 := by
    refine BitVec.eq_of_getLsbD_eq fun i hi => ?_
    interval_cases i <;> simp
  obtain ⟨n, hn⟩ : ∃ n : ℕ, (((b >>> 9) ||| 1065353216#32).extractLsb' 0 23).toNat = n := ⟨_, rfl⟩
  have hlt : n < 2 ^ 23 := hn ▸ BitVec.isLt _
  have hr : (n : ℝ) < 2 ^ 23 := by exact_mod_cast hlt
  have h0 : (0 : ℝ) ≤ n := Nat.cast_nonneg n
  refine ⟨((2 ^ 23 + n : ℕ) : ℝ) * (2 : ℝ) ^ (-23 : ℤ), ?_, ?_, ?_⟩
  · simp only [Ideal.ofBits, Ideal.ieee]
    rw [show (8 + 23 : ℕ) = 31 from rfl, h1, h2, hn]
    norm_num
  · push_cast; norm_num; linarith
  · push_cast; norm_num; linarith

/-! ## The noise -/

/-- The draw at one place: a word's fraction, moved to start at zero. -/
theorem draw_real (b : BitVec 32) :
    ∃ u : ℝ, max (0 : EReal) (((Ideal.ofBits .f32 ((b >>> 9) ||| 1065353216#32) : EReal) - 1) * (1 - 0) + 0) = (u : EReal) ∧ 0 ≤ u ∧ u < 1 := by
  obtain ⟨x, hx, h1, h2⟩ := unit_word b
  refine ⟨x - 1, ?_, by linarith, by linarith⟩
  rw [hx, add_zero, sub_zero, mul_one, ← EReal.coe_one, ← EReal.coe_sub]
  exact max_eq_right (by exact_mod_cast (by linarith : (0 : ℝ) ≤ x - 1))

/-- The double logarithm of a draw is real. -/
theorem noise_real {u e : ℝ} (h0 : 0 ≤ u) (h1 : u < 1) (he : 0 < e) :
    IsReal (-Ideal.log (-Ideal.log ((u : EReal) + (e : EReal)) + (e : EReal))) := by
  have hp : 0 < u + e := by linarith
  have hl : Real.log (u + e) < e := by
    rw [Real.log_lt_iff_lt_exp hp]
    exact lt_of_lt_of_le (by linarith) (Real.add_one_le_exp e)
  rw [← EReal.coe_add, Ideal.log_coe, if_neg (not_le.mpr hp), ← EReal.coe_neg, ← EReal.coe_add]
  exact (IsReal.log (by linarith)).neg

/-! ## The half steps -/

/-- The greatest entry of a row. -/
def top (a : Fin 16 → EReal) : EReal := Finset.univ.fold max (Ideal.ofBits .f32 0xFF800000#32) a

/-- The greatest entry of a row of reals is real. -/
theorem top_real {a : Fin 16 → EReal} (h : ∀ i, IsReal (a i)) : IsReal (top a) := by
  unfold top; rw [ninf]; exact fold_max_real _ _ h Finset.univ_nonempty

/-- A row less the logarithm of its sum of exponentials, taken below its greatest entry. -/
def norm (a : Fin 16 → EReal) (j : Fin 16) : EReal := a j - (top a + Ideal.log (∑ l, Ideal.exp (a l - top a)))

/-- The greatest entry where finite, zero otherwise. -/
def cap (a : Fin 16 → EReal) : EReal :=
  if FloatOps.absf (F := Ideal) (φ := .f32) (top a) < Ideal.ofBits .f32 0x7F800000#32 then top a else 0

/-- On a row of reals the guarded maximum is the maximum. -/
theorem cap_eq {a : Fin 16 → EReal} (h : ∀ i, IsReal (a i)) : cap a = top a := by
  obtain ⟨r, hr⟩ := top_real h
  refine if_pos ?_
  rw [hr, pinf]
  show max (r : EReal) (-(r : EReal)) < ⊤
  rw [← EReal.coe_neg]
  exact max_lt (EReal.coe_lt_top _) (EReal.coe_lt_top _)

/-- On a row of reals, taking the sum below the guarded maximum changes nothing. -/
theorem norm_cap {a : Fin 16 → EReal} (h : ∀ i, IsReal (a i)) (j : Fin 16) :
    a j - (Ideal.log (∑ l, Ideal.exp (a l - cap a)) + cap a) = norm a j := by
  rw [cap_eq h, add_comm]; rfl

/-- Normalising a row of reals leaves reals. -/
theorem norm_real {a : Fin 16 → EReal} (h : ∀ i, IsReal (a i)) (j : Fin 16) : IsReal (norm a j) := by
  obtain ⟨m, hm⟩ := top_real h
  choose r hr using h
  have hs : ∑ l, Ideal.exp (a l - top a) = ((∑ l, Real.exp (r l - m) : ℝ) : EReal) := by
    rw [coe_sum]
    refine Finset.sum_congr rfl fun l _ => ?_
    rw [hr, hm, ← EReal.coe_sub, Ideal.exp_coe]
  unfold norm
  rw [hs]
  have hj : IsReal (a j) := ⟨r j, hr j⟩
  refine hj.sub (IsReal.add ⟨m, hm⟩ (IsReal.log ?_))
  exact Finset.sum_pos (fun l _ => Real.exp_pos _) Finset.univ_nonempty

/-- A square matrix. -/
abbrev Mat := Fin 16 → Fin 16 → EReal

/-- A matrix of reals. -/
def RealMat (x : Mat) : Prop := ∀ i j, IsReal (x i j)

/-- One normalising step: every row, then every column. -/
def stepM (x : Mat) : Mat := fun i j => norm (fun a => norm (x a) j) i

/-- A normalising step leaves reals. -/
theorem stepM_real {x : Mat} (h : RealMat x) : RealMat (stepM x) :=
  fun i j => norm_real (fun a => norm_real (h a) j) i

/-- Seven steps. -/
def stepsM (x : Mat) : Mat := stepM (stepM (stepM (stepM (stepM (stepM (stepM x))))))

/-- Seven steps leave reals. -/
theorem stepsM_real {x : Mat} (h : RealMat x) : RealMat (stepsM x) :=
  stepM_real (stepM_real (stepM_real (stepM_real (stepM_real (stepM_real (stepM_real h))))))

/-- The exponential where it exceeds the threshold, zero elsewhere. -/
def keepM (x : EReal) : EReal := if Ideal.ofBits .f32 0x3A83126F#32 < Ideal.exp x then Ideal.exp x else 0

/-- What is kept of a real is a nonnegative real. -/
theorem keepM_real {x : EReal} (h : IsReal x) : ∃ r : ℝ, keepM x = (r : EReal) ∧ 0 ≤ r := by
  obtain ⟨a, rfl⟩ := h
  unfold keepM
  split
  · exact ⟨Real.exp a, Ideal.exp_coe _, (Real.exp_pos a).le⟩
  · exact ⟨0, rfl, le_rfl⟩

/-! ## The pairwise attention -/

/-- A nonnegative real factor distributes over a finite sum of extended reals. -/
theorem coe_mul_sum {ι : Type} (s : Finset ι) {a : ℝ} (ha : 0 ≤ a) (f : ι → EReal) :
    (a : EReal) * ∑ i ∈ s, f i = ∑ i ∈ s, (a : EReal) * f i := by
  classical
  induction s using Finset.induction_on with
  | empty => simp
  | insert i s hi ih =>
    rw [Finset.sum_insert hi, Finset.sum_insert hi,
      EReal.left_distrib_of_nonneg_of_ne_top (by exact_mod_cast ha) (EReal.coe_ne_top a), ih]

/-- A sum of nonnegative reals, times an extended real, is the sum of the products. -/
theorem sum_coe_mul {ι : Type} (s : Finset ι) (a : ι → ℝ) (ha : ∀ i, 0 ≤ a i) (f : EReal) :
    ((∑ i ∈ s, a i : ℝ) : EReal) * f = ∑ i ∈ s, (a i : EReal) * f := by
  classical
  induction s using Finset.induction_on with
  | empty => simp
  | insert i s hi ih =>
    rw [Finset.sum_insert hi, Finset.sum_insert hi, EReal.coe_add,
      EReal.right_distrib_of_nonneg (by exact_mod_cast ha i) (by exact_mod_cast Finset.sum_nonneg fun j _ => ha j), ih]

/-- Weighting each block once, by its own weight and in the query's block by the sum of the weights too, gives the sum over
    partner blocks of the attention over the two blocks, each weighted by its routing entry. -/
theorem attend (i : Fin 16) (V : Fin 16 → Fin 128 → EReal) (s : Fin 16 → Fin 128 → ℝ) (r : Fin 16 → ℝ) (hr : ∀ j, 0 ≤ r j)
    (μ : Fin 16 → ℝ) :
    ∑ j, (∑ x, V j x * Ideal.exp (s j x)) * (Ideal.div (r j) (∑ x, Ideal.exp (s i x) + ∑ x, Ideal.exp (s j x))
        + if i = j then ∑ l, Ideal.div (r l) (∑ x, Ideal.exp (s i x) + ∑ x, Ideal.exp (s l x)) else 0)
      = ∑ j, (∑ x, Ideal.div (Ideal.exp ((s i x : EReal) - μ j))
              (∑ y, Ideal.exp ((s i y : EReal) - μ j) + ∑ y, Ideal.exp ((s j y : EReal) - μ j)) * V i x
            + ∑ x, Ideal.div (Ideal.exp ((s j x : EReal) - μ j))
              (∑ y, Ideal.exp ((s i y : EReal) - μ j) + ∑ y, Ideal.exp ((s j y : EReal) - μ j)) * V j x) * r j := by
  -- the sums of exponentials
  set z : Fin 16 → ℝ := fun j => ∑ x, Real.exp (s j x) with hz
  have zpos : ∀ j, 0 < z j := fun j => Finset.sum_pos (fun x _ => Real.exp_pos _) Finset.univ_nonempty
  have hz' : ∀ j, ∑ x, Ideal.exp (s j x : EReal) = (z j : EReal) := fun j => by
    rw [hz, coe_sum]; exact Finset.sum_congr rfl fun x _ => Ideal.exp_coe _
  have zz : ∀ j, z i + z j ≠ 0 := fun j => (add_pos (zpos i) (zpos j)).ne'
  set c : Fin 16 → ℝ := fun j => r j * (1 / (z i + z j)) with hc
  have cpos : ∀ j, 0 ≤ c j := fun j => mul_nonneg (hr j) (one_div_nonneg.mpr (add_pos (zpos i) (zpos j)).le)
  have hdiv : ∀ j, Ideal.div (r j : EReal) (∑ x, Ideal.exp (s i x : EReal) + ∑ x, Ideal.exp (s j x : EReal)) = (c j : EReal) := fun j => by
    rw [hz', hz', ← EReal.coe_add, Ideal.div_coe (zz j), ← EReal.coe_mul]
  set P : Fin 16 → EReal := fun j => ∑ x, V j x * Ideal.exp (s j x : EReal) with hP
  -- the reference's normalised exponentials
  have he : ∀ j l x, Ideal.exp ((s l x : EReal) - μ j) = ((Real.exp (-μ j) * Real.exp (s l x) : ℝ) : EReal) := fun j l x => by
    rw [← EReal.coe_sub, Ideal.exp_coe, ← Real.exp_add]; congr 2; ring
  have hden : ∀ j, ∑ y, Ideal.exp ((s i y : EReal) - μ j) + ∑ y, Ideal.exp ((s j y : EReal) - μ j)
      = ((Real.exp (-μ j) * (z i + z j) : ℝ) : EReal) := fun j => by
    simp only [he]
    rw [← coe_sum, ← coe_sum, ← EReal.coe_add, ← Finset.mul_sum, ← Finset.mul_sum, ← mul_add]
  have hw : ∀ j l x, Ideal.div (Ideal.exp ((s l x : EReal) - μ j))
      (∑ y, Ideal.exp ((s i y : EReal) - μ j) + ∑ y, Ideal.exp ((s j y : EReal) - μ j)) * V l x
      = ((1 / (z i + z j) : ℝ) : EReal) * (V l x * Ideal.exp (s l x : EReal)) := fun j l x => by
    rw [hden, he, Ideal.div_coe (mul_ne_zero (Real.exp_pos _).ne' (zz j)), ← EReal.coe_mul, Ideal.exp_coe,
      mul_comm (V l x), ← mul_assoc, ← EReal.coe_mul]
    congr 2
    have := zz j
    have := (Real.exp_pos (-μ j)).ne'
    field_simp
  have hone : ∀ j, (0 : ℝ) ≤ 1 / (z i + z j) := fun j => one_div_nonneg.mpr (add_pos (zpos i) (zpos j)).le
  have hR : ∀ j, (∑ x, Ideal.div (Ideal.exp ((s i x : EReal) - μ j))
              (∑ y, Ideal.exp ((s i y : EReal) - μ j) + ∑ y, Ideal.exp ((s j y : EReal) - μ j)) * V i x
            + ∑ x, Ideal.div (Ideal.exp ((s j x : EReal) - μ j))
              (∑ y, Ideal.exp ((s i y : EReal) - μ j) + ∑ y, Ideal.exp ((s j y : EReal) - μ j)) * V j x) * r j
      = (c j : EReal) * P i + (c j : EReal) * P j := fun j => by
    simp only [hw]
    rw [← coe_mul_sum _ (hone j), ← coe_mul_sum _ (hone j), mul_comm _ (r j : EReal),
      EReal.left_distrib_of_nonneg_of_ne_top (by exact_mod_cast hr j) (EReal.coe_ne_top _), ← mul_assoc, ← mul_assoc,
      ← EReal.coe_mul]
  have csum : (0 : ℝ) ≤ ∑ l, c l := Finset.sum_nonneg fun l _ => cpos l
  have hK : ∀ j, P j * ((c j : EReal) + if i = j then ((∑ l, c l : ℝ) : EReal) else 0)
      = (c j : EReal) * P j + if i = j then ((∑ l, c l : ℝ) : EReal) * P i else 0 := fun j => by
    split
    · next h =>
      subst h
      rw [EReal.left_distrib_of_nonneg (by exact_mod_cast cpos i) (by exact_mod_cast csum), mul_comm, mul_comm (P i)]
    · rw [add_zero, add_zero, mul_comm]
  simp only [hdiv, hR]
  rw [← coe_sum]
  simp only [← hP] at *
  rw [Finset.sum_congr rfl fun j _ => hK j, Finset.sum_add_distrib, Finset.sum_add_distrib, Finset.sum_ite_eq,
    if_pos (Finset.mem_univ _), sum_coe_mul _ _ cpos, add_comm]

end Blocks

end
-- ==== Proof.Pre.lean ====
/- What the precondition says: every query and key entry is real. -/
module

public import proofs.«01_k».proof.Pre_finite_qk
public import proofs.«01_k».proof.Proof.Reals
public import Idealize.ShloMosaic.Lib.Pointwise

@[expose] public section

set_option maxRecDepth 16384

noncomputable section

namespace Cert.Pre_finite_qk

open Idealize.ShloMosaic Blocks

/-- The condition's one side condition. -/
theorem facts : Facts := ⟨by decide⟩

/-- A number whose absolute value is below the infinite one is real. -/
theorem real_of_abs {x : EReal} (h : max x (-x) < Ideal.ofBits .f32 0x7F800000#32) : IsReal x := by
  rw [pinf] at h
  induction x with
  | bot => simp at h
  | coe r => exact ⟨r, rfl⟩
  | top => simp at h

/-- Two flags are both set when their conjunction is. -/
theorem both {a b : Prop} [Decidable a] [Decidable b]
    (h : IntOp.andi (BitVec.ofBool (decide a)) (BitVec.ofBool (decide b)) = 1#1) : a ∧ b := by
  by_cases ha : a <;> by_cases hb : b
  · exact ⟨ha, hb⟩
  all_goals
    simp only [ha, hb, decide_true, decide_false] at h
    exact absurd h (by decide)

/-- The condition at an index. -/
theorem fn_at [Facts] (q k v : FVec Ideal S1x12x2048x64 .f32) (b : IVec S1x16 32) (i : Fin 1) (h : Fin 12) (t : Fin 2048) (d : Fin 64)
    (e : fn (F := Ideal) q k v b (ix4 i h t d) = 1#1) :
    max (q (ix4 i h t d) : EReal) (-q (ix4 i h t d)) < Ideal.ofBits .f32 0x7F800000#32 ∧ max (k (ix4 i h t d) : EReal) (-k (ix4 i h t d)) < Ideal.ofBits .f32 0x7F800000#32 := by
  revert e
  pointwise [fn]
  intro e
  obtain ⟨e1, e2⟩ := both e
  exact ⟨e1, e2⟩

/-- The condition everywhere: every entry of the first two arrays is real. -/
theorem real_of_fn [Facts] (q k v : FVec Ideal S1x12x2048x64 .f32) (b : IVec S1x16 32)
    (e : fn (F := Ideal) q k v b = fun _ => 1#1) : (∀ i, IsReal (q i)) ∧ ∀ i, IsReal (k i) := by
  have h : ∀ i : S1x12x2048x64.Idx, IsReal (q i) ∧ IsReal (k i) := fun i => by
    rw [eq_ix4 i]
    obtain ⟨e1, e2⟩ := fn_at q k v b (i 0) (i 1) (i 2) (i 3) (congrFun e _)
    exact ⟨real_of_abs e1, real_of_abs e2⟩
  exact ⟨fun i => (h i).1, fun i => (h i).2⟩

end Cert.Pre_finite_qk

end
-- ==== Proof.KerModel.lean ====
/- The kernel's body as plain functions of the four loaded blocks: block sums, logits, the fourteen normalising half
   steps, the per-block weights and the final accumulation over the sixteen blocks. The payload the program stores is
   this function (`payload_eq`). -/
module

public import proofs.«01_k».proof.Proof.Gen.KernelIdeal.Value

@[expose] public section

set_option maxRecDepth 16384

noncomputable section

namespace Cert.KernelIdeal.Model

open Cert.KernelIdeal Cert.KernelIdeal.Gen Idealize.ShloMosaic Idealize.ShloMosaic.TcCoe

variable {F : FTy → Type} [FloatOps F]

/-- Block `j` of the 2048 rows: the 128 rows from row `128 * j`. -/
theorem slices_rows : ∀ j : Fin 16, S2048x64.Slices ![128 * j.val, 0] S128x64 := by decide
/-- The 128 lanes of block `i`. -/
theorem slices_lanes : ∀ i : Fin 16, S1x2048.Slices ![0, 128 * i.val] S1x128 := by decide
/-- Row `j` of a matrix of sixteen rows. -/
theorem slices_row : ∀ j : Fin 16, S16x2048.Slices ![j.val, 0] S1x2048 := by decide

/-- The 128 rows of block `j`. -/
def blk (x : FVec F S2048x64 .f32) (j : Fin 16) : FVec F S128x64 .f32 :=
  extractStridedSlice S128x64 ![128 * j.val, 0] x (slices_rows j)

/-- The sum of the rows of block `j`, as one row. -/
def blkSum (x : FVec F S2048x64 .f32) (j : Fin 16) : FVec F S1x64 .f32 :=
  shapeCast S1x64 (multiReduction .add [0] S64 (blk x j) 0x00000000#32 reduces_S128x64_S64 (.inl rfl) rfl)
    shapeCasts_S64_S1x64

/-- The sixteen block sums, stacked. -/
def sums (x : FVec F S2048x64 .f32) : FVec F S16x64 .f32 :=
  concatenate S16x64 0 (List.ofFn fun j : Fin 16 => ⟨S1x64, blkSum x j⟩)
    concatenates_S1x64_S1x64_S1x64_S1x64_S1x64_S1x64_S1x64_S1x64_S1x64_S1x64_S1x64_S1x64_S1x64_S1x64_S1x64_S1x64_S16x64_d0

/-- The scaled products of the block sums, cut at zero. -/
def logits (a b : FVec F S16x64 .f32) (g : FVec F S16x16 .f32) : FVec F S16x16 .f32 :=
  divf (addf (log (addf (maximumf
    (mulf (matmul dot_S16x64_S16x64_S16x16_1_1_0_0_n_n none a b (constant S16x16 .f32 0x00000000#32))
      (broadcast S16x16 (Scalar.ofBits .f32 0x3E000000#32)))
    (broadcast S16x16 (Scalar.ofBits .f32 0x00000000#32)))
    (broadcast S16x16 (Scalar.ofBits .f32 0x358637BD#32)))) g) (broadcast S16x16 (Scalar.ofBits .f32 0x3F400000#32))

/-- The row maxima. -/
def rowTop (x : FVec F S16x16 .f32) : FVec F S16x1 .f32 :=
  shapeCast S16x1 (multiReduction .maximumf [1] S16 x 0xFF800000#32 reduces_S16x16_S16 (.inl rfl) rfl) shapeCasts_S16_S16x1

/-- The logarithm of each row's sum of exponentials, taken below the row maximum. -/
def rowLog (x : FVec F S16x16 .f32) : FVec F S16x1 .f32 :=
  log (shapeCast S16x1 (multiReduction .add [1] S16 (exp (subf x (broadcastTo S16x16 (rowTop x) broadcasts_S16x1_S16x16)))
    0x00000000#32 reduces_S16x16_S16 (.inl rfl) rfl) shapeCasts_S16_S16x1)

/-- One normalising half step along the rows. -/
def rowHalf (x : FVec F S16x16 .f32) : FVec F S16x16 .f32 :=
  subf x (broadcastTo S16x16 (addf (rowTop x) (rowLog x)) broadcasts_S16x1_S16x16)

/-- The column maxima. -/
def colTop (x : FVec F S16x16 .f32) : FVec F S1x16 .f32 :=
  shapeCast S1x16 (multiReduction .maximumf [0] S16 x 0xFF800000#32 reduces_S16x16_S16_2 (.inl rfl) rfl) shapeCasts_S16_S1x16

/-- The logarithm of each column's sum of exponentials, taken below the column maximum. -/
def colLog (x : FVec F S16x16 .f32) : FVec F S1x16 .f32 :=
  log (shapeCast S1x16 (multiReduction .add [0] S16 (exp (subf x (broadcastTo S16x16 (colTop x) broadcasts_S1x16_S16x16)))
    0x00000000#32 reduces_S16x16_S16_2 (.inl rfl) rfl) shapeCasts_S16_S1x16)

/-- One normalising half step along the columns. -/
def colHalf (x : FVec F S16x16 .f32) : FVec F S16x16 .f32 :=
  subf x (broadcastTo S16x16 (addf (colTop x) (colLog x)) broadcasts_S1x16_S16x16)

/-- A normalising step: rows, then columns. -/
def step (x : FVec F S16x16 .f32) : FVec F S16x16 .f32 := colHalf (rowHalf x)

/-- The exponentials that exceed the threshold, zero elsewhere. -/
def keep (x : FVec F S16x16 .f32) : FVec F S16x16 .f32 :=
  select (cmpf .ogt (exp x) (broadcast S16x16 (Scalar.ofBits .f32 0x3A83126F#32))) (exp x)
    (broadcast S16x16 (Scalar.ofBits .f32 0x00000000#32))

/-- The exponentials of the scaled products of block `j` of the keys with every query. -/
def gt (q k : FVec F S2048x64 .f32) (j : Fin 16) : FVec F S128x2048 .f32 :=
  exp (mulf (matmul dot_S128x64_S2048x64_S128x2048_1_1_0_0_n_n none (blk k j) q (constant S128x2048 .f32 0x00000000#32))
    (broadcast S128x2048 (Scalar.ofBits .f32 0x3E000000#32)))

/-- Their sum over the block's keys. -/
def zrow (q k : FVec F S2048x64 .f32) (j : Fin 16) : FVec F S1x2048 .f32 :=
  shapeCast S1x2048 (multiReduction .add [0] S2048 (gt q k j) 0x00000000#32 reduces_S128x2048_S2048 (.inl rfl) rfl)
    shapeCasts_S2048_S1x2048

/-- For each query the sum over its own block's keys. -/
def zself (q k : FVec F S2048x64 .f32) : FVec F S1x2048 .f32 :=
  concatenate S1x2048 1 (List.ofFn fun i : Fin 16 =>
      ⟨S1x128, extractStridedSlice S1x128 ![0, 128 * i.val] (zrow q k i) (slices_lanes i)⟩)
    concatenates_S1x128_S1x128_S1x128_S1x128_S1x128_S1x128_S1x128_S1x128_S1x128_S1x128_S1x128_S1x128_S1x128_S1x128_S1x128_S1x128_S1x2048_d1

/-- The weight of block `j` for every query: the routing entry over the two blocks' sums. -/
def crow (q k : FVec F S2048x64 .f32) (r : FVec F S16x2048 .f32) (j : Fin 16) : FVec F S1x2048 .f32 :=
  divf (extractStridedSlice S1x2048 ![j.val, 0] r (slices_row j)) (addf (zself q k) (zrow q k j))

/-- Zero plus the first `n` of sixteen terms, in order. -/
def upTo {s : Shape} (f : Fin 16 → FVec F s .f32) : (n : Nat) → n ≤ 16 → FVec F s .f32
  | 0, _ => broadcast s (Scalar.ofBits .f32 0x00000000#32)
  | n + 1, h => addf (upTo f n (Nat.le_of_succ_le h)) (f ⟨n, h⟩)

/-- The sum of the sixteen weights. -/
def arow (q k : FVec F S2048x64 .f32) (r : FVec F S16x2048 .f32) : FVec F S1x2048 .f32 := upTo (crow q k r) 16 (Nat.le_refl _)

/-- What block `j` adds: its weighted values, scaled by its weight and, in its own lanes, by the sum of the weights too. -/
def term (q k v : FVec F S2048x64 .f32) (r : FVec F S16x2048 .f32) (l : IVec S1x2048 32) (j : Fin 16) : FVec F S64x2048 .f32 :=
  mulf (matmul dot_S128x64_S128x2048_S64x2048_0_0_1_1_n_n none (truncf .bf16 (blk v j) bitsLt_bf16_f32)
      (truncf .bf16 (gt q k j) bitsLt_bf16_f32) (constant S64x2048 .f32 0x00000000#32))
    (broadcastTo S64x2048 (addf (crow q k r j) (select (cmpi .eq l (broadcast S1x2048 (BitVec.ofNat 32 j.val))) (arow q k r)
      (broadcast S1x2048 (Scalar.ofBits .f32 0x00000000#32)))) broadcasts_S1x2048_S64x2048)

/-- The stored block. -/
def result (q k v : FVec F S2048x64 .f32) (r : FVec F S16x2048 .f32) (l : IVec S1x2048 32) : FVec F S1x1x2048x64 .f32 :=
  shapeCast S1x1x2048x64 (transpose S2048x64 [1, 0] (upTo (term q k v r l) 16 (Nat.le_refl _)) transposes_S64x2048_p1_0_S2048x64)
    shapeCasts_S2048x64_S1x1x2048x64

/-- The routing matrix from the logits: seven steps, then the threshold. -/
def route (x : FVec F S16x16 .f32) : FVec F S16x16 .f32 := keep (step (step (step (step (step (step (step x)))))))

variable (x0 : Vec F S1x16x16 .f32) (x1 : Vec F S1x1x2048x64 .f32) (x2 : Vec F S1x1x2048x64 .f32) (x3 : Vec F S1x1x2048x64 .f32)

/-- The stacked query block sums. -/
theorem sums_q : k0_pay124 x0 x1 x2 x3 = sums (k0_pay121 x0 x1 x2 x3) := rfl

/-- The logits the payload computes, over the loaded noise. -/
theorem logits_eq : k0_pay134 x0 x1 x2 x3 = logits (k0_pay124 x0 x1 x2 x3) (sums (k0_pay122 x0 x1 x2 x3))
    (shapeCast S16x16 (View.ld x0 r0_1) shapeCasts_S1x16x16_S16x16) := rfl

/-- Their row maxima. -/
theorem top_eq : k0_pay135 x0 x1 x2 x3 = rowTop (k0_pay134 x0 x1 x2 x3) := rfl

/-- Their rows' logarithms of sums. -/
theorem log_eq : k0_pay136 x0 x1 x2 x3 = rowLog (k0_pay134 x0 x1 x2 x3) := rfl

/-- The first steps. -/
theorem steps_head (x : FVec F S16x16 .f32) : k0_pay29 x (rowTop x) (rowLog x) = rowHalf (step (step x)) := rfl

/-- The middle steps, over any matrix with the column maxima and differences taken of it. -/
theorem steps_mid (x : FVec F S16x16 .f32) : k0_pay32 x (colTop x) (subf x (broadcastTo S16x16 (colTop x) broadcasts_S1x16_S16x16))
    = step (step (colHalf x)) := rfl

/-- The middle steps, over what the first ones leave. -/
theorem steps_mid' (x : FVec F S16x16 .f32) (a b : FVec F S16x1 .f32) :
    k0_pay32 (k0_pay29 x a b) (k0_pay30 x a b) (k0_pay31 x a b) = step (step (colHalf (k0_pay29 x a b))) :=
  steps_mid (k0_pay29 x a b)

/-- The last steps and the threshold. -/
theorem steps_last (x : FVec F S16x16 .f32) : k0_pay33 x = keep (step (step x)) := rfl

/-- The routing matrix, spread over the lanes. -/
theorem route_eq : k0_pay156 x0 x1 x2 x3 = k0_pay90 (route (k0_pay134 x0 x1 x2 x3)) := by
  show k0_pay90 (k0_pay33 (k0_pay32 (k0_pay29 (k0_pay134 x0 x1 x2 x3) (k0_pay135 x0 x1 x2 x3) (k0_pay136 x0 x1 x2 x3)) _ _)) = _
  rw [top_eq, log_eq, steps_last, steps_mid', steps_head]
  rfl

/-- The sums over the keys of block 0. -/
theorem z0 : k0_pay138 x0 x1 x2 x3 = zrow (k0_pay121 x0 x1 x2 x3) (k0_pay122 x0 x1 x2 x3) 0 := rfl

/-- The sums over the keys of block 1. -/
theorem z1 : k0_pay139 x0 x1 x2 x3 = zrow (k0_pay121 x0 x1 x2 x3) (k0_pay122 x0 x1 x2 x3) 1 := rfl

/-- The sums over the keys of block 2. -/
theorem z2 : k0_pay140 x0 x1 x2 x3 = zrow (k0_pay121 x0 x1 x2 x3) (k0_pay122 x0 x1 x2 x3) 2 := rfl

/-- The sums over the keys of block 3. -/
theorem z3 : k0_pay141 x0 x1 x2 x3 = zrow (k0_pay121 x0 x1 x2 x3) (k0_pay122 x0 x1 x2 x3) 3 := rfl

/-- The sums over the keys of block 4. -/
theorem z4 : k0_pay142 x0 x1 x2 x3 = zrow (k0_pay121 x0 x1 x2 x3) (k0_pay122 x0 x1 x2 x3) 4 := rfl

/-- The sums over the keys of block 5. -/
theorem z5 : k0_pay144 x0 x1 x2 x3 = zrow (k0_pay121 x0 x1 x2 x3) (k0_pay122 x0 x1 x2 x3) 5 := rfl

/-- The sums over the keys of block 6. -/
theorem z6 : k0_pay145 x0 x1 x2 x3 = zrow (k0_pay121 x0 x1 x2 x3) (k0_pay122 x0 x1 x2 x3) 6 := rfl

/-- The sums over the keys of block 7. -/
theorem z7 : k0_pay146 x0 x1 x2 x3 = zrow (k0_pay121 x0 x1 x2 x3) (k0_pay122 x0 x1 x2 x3) 7 := rfl

/-- The sums over the keys of block 8. -/
theorem z8 : k0_pay147 x0 x1 x2 x3 = zrow (k0_pay121 x0 x1 x2 x3) (k0_pay122 x0 x1 x2 x3) 8 := rfl

/-- The sums over the keys of block 9. -/
theorem z9 : k0_pay148 x0 x1 x2 x3 = zrow (k0_pay121 x0 x1 x2 x3) (k0_pay122 x0 x1 x2 x3) 9 := rfl

/-- The sums over the keys of block 10. -/
theorem z10 : k0_pay149 x0 x1 x2 x3 = zrow (k0_pay121 x0 x1 x2 x3) (k0_pay122 x0 x1 x2 x3) 10 := rfl

/-- The sums over the keys of block 11. -/
theorem z11 : k0_pay150 x0 x1 x2 x3 = zrow (k0_pay121 x0 x1 x2 x3) (k0_pay122 x0 x1 x2 x3) 11 := rfl

/-- The sums over the keys of block 12. -/
theorem z12 : k0_pay151 x0 x1 x2 x3 = zrow (k0_pay121 x0 x1 x2 x3) (k0_pay122 x0 x1 x2 x3) 12 := rfl

/-- The sums over the keys of block 13. -/
theorem z13 : k0_pay152 x0 x1 x2 x3 = zrow (k0_pay121 x0 x1 x2 x3) (k0_pay122 x0 x1 x2 x3) 13 := rfl

/-- The sums over the keys of block 14. -/
theorem z14 : k0_pay153 x0 x1 x2 x3 = zrow (k0_pay121 x0 x1 x2 x3) (k0_pay122 x0 x1 x2 x3) 14 := rfl

/-- The sums over the keys of block 15. -/
theorem z15 : k0_pay154 x0 x1 x2 x3 = zrow (k0_pay121 x0 x1 x2 x3) (k0_pay122 x0 x1 x2 x3) 15 := rfl

/-- The sums over each query's own block. -/
theorem zself_eq : k0_pay155 x0 x1 x2 x3 = zself (k0_pay121 x0 x1 x2 x3) (k0_pay122 x0 x1 x2 x3) := by
  unfold k0_pay155
  rw [z0, z1, z2, z3, z4, z5, z6, z7, z8, z9, z10, z11, z12, z13, z14, z15]
  rfl

/-- The sum of the weights. -/
theorem arow_eq : k0_pay159 x0 x1 x2 x3
    = arow (k0_pay121 x0 x1 x2 x3) (k0_pay122 x0 x1 x2 x3) (k0_pay156 x0 x1 x2 x3) := by
  unfold k0_pay159 k0_pay158
  rw [zself_eq, z0, z1, z2, z3, z4, z5, z6, z7, z8, z9, z10, z11, z12, z13, z14, z15]
  rfl

/-- The stored payload is the model. -/
theorem payload_eq : k0_pay1 (k0_pay123 x0 x1 x2 x3) (k0_pay82 (k0_pay121 x0 x1 x2 x3) (k0_pay122 x0 x1 x2 x3)) (k0_pay157 x0 x1 x2 x3) (k0_pay111 (k0_pay154 x0 x1 x2 x3) (k0_pay155 x0 x1 x2 x3) (k0_pay156 x0 x1 x2 x3)) (k0_pay159 x0 x1 x2 x3) (k0_pay120 (k0_pay123 x0 x1 x2 x3) (k0_pay67 (k0_pay121 x0 x1 x2 x3) (k0_pay122 x0 x1 x2 x3)) (k0_pay70 (k0_pay121 x0 x1 x2 x3) (k0_pay122 x0 x1 x2 x3)) (k0_pay73 (k0_pay121 x0 x1 x2 x3) (k0_pay122 x0 x1 x2 x3)) (k0_pay76 (k0_pay121 x0 x1 x2 x3) (k0_pay122 x0 x1 x2 x3)) (k0_pay79 (k0_pay121 x0 x1 x2 x3) (k0_pay122 x0 x1 x2 x3)) (k0_pay157 x0 x1 x2 x3) (k0_pay107 (k0_pay150 x0 x1 x2 x3) (k0_pay155 x0 x1 x2 x3) (k0_pay156 x0 x1 x2 x3)) (k0_pay108 (k0_pay151 x0 x1 x2 x3) (k0_pay155 x0 x1 x2 x3) (k0_pay156 x0 x1 x2 x3)) (k0_pay109 (k0_pay152 x0 x1 x2 x3) (k0_pay155 x0 x1 x2 x3) (k0_pay156 x0 x1 x2 x3)) (k0_pay110 (k0_pay153 x0 x1 x2 x3) (k0_pay155 x0 x1 x2 x3) (k0_pay156 x0 x1 x2 x3)) (k0_pay159 x0 x1 x2 x3) (k0_pay117 (k0_pay123 x0 x1 x2 x3) (k0_pay55 (k0_pay121 x0 x1 x2 x3) (k0_pay122 x0 x1 x2 x3)) (k0_pay58 (k0_pay121 x0 x1 x2 x3) (k0_pay122 x0 x1 x2 x3)) (k0_pay61 (k0_pay121 x0 x1 x2 x3) (k0_pay122 x0 x1 x2 x3)) (k0_pay64 (k0_pay121 x0 x1 x2 x3) (k0_pay122 x0 x1 x2 x3)) (k0_pay157 x0 x1 x2 x3) (k0_pay101 (k0_pay145 x0 x1 x2 x3) (k0_pay155 x0 x1 x2 x3) (k0_pay156 x0 x1 x2 x3)) (k0_pay102 (k0_pay146 x0 x1 x2 x3) (k0_pay155 x0 x1 x2 x3) (k0_pay156 x0 x1 x2 x3)) (k0_pay103 (k0_pay147 x0 x1 x2 x3) (k0_pay155 x0 x1 x2 x3) (k0_pay156 x0 x1 x2 x3)) (k0_pay105 (k0_pay148 x0 x1 x2 x3) (k0_pay155 x0 x1 x2 x3) (k0_pay156 x0 x1 x2 x3)) (k0_pay159 x0 x1 x2 x3) (k0_pay115 (k0_pay123 x0 x1 x2 x3) (k0_pay42 (k0_pay121 x0 x1 x2 x3) (k0_pay122 x0 x1 x2 x3)) (k0_pay45 (k0_pay121 x0 x1 x2 x3) (k0_pay122 x0 x1 x2 x3)) (k0_pay48 (k0_pay121 x0 x1 x2 x3) (k0_pay122 x0 x1 x2 x3)) (k0_pay52 (k0_pay143 x0 x1 x2 x3)) (k0_pay157 x0 x1 x2 x3) (k0_pay97 (k0_pay140 x0 x1 x2 x3) (k0_pay155 x0 x1 x2 x3) (k0_pay156 x0 x1 x2 x3)) (k0_pay98 (k0_pay141 x0 x1 x2 x3) (k0_pay155 x0 x1 x2 x3) (k0_pay156 x0 x1 x2 x3)) (k0_pay99 (k0_pay142 x0 x1 x2 x3) (k0_pay155 x0 x1 x2 x3) (k0_pay156 x0 x1 x2 x3)) (k0_pay100 (k0_pay144 x0 x1 x2 x3) (k0_pay155 x0 x1 x2 x3) (k0_pay156 x0 x1 x2 x3)) (k0_pay159 x0 x1 x2 x3) (k0_pay113 (k0_pay123 x0 x1 x2 x3) (k0_pay36 (k0_pay121 x0 x1 x2 x3) (k0_pay137 x0 x1 x2 x3)) (k0_pay39 (k0_pay121 x0 x1 x2 x3) (k0_pay122 x0 x1 x2 x3)) (k0_pay148 x0 x1 x2 x3) (k0_pay149 x0 x1 x2 x3) (k0_pay150 x0 x1 x2 x3) (k0_pay151 x0 x1 x2 x3) (k0_pay152 x0 x1 x2 x3) (k0_pay153 x0 x1 x2 x3) (k0_pay154 x0 x1 x2 x3) (k0_pay155 x0 x1 x2 x3) (k0_pay156 x0 x1 x2 x3) (k0_pay157 x0 x1 x2 x3) (k0_pay95 (k0_pay138 x0 x1 x2 x3) (k0_pay155 x0 x1 x2 x3) (k0_pay156 x0 x1 x2 x3)) (k0_pay96 (k0_pay139 x0 x1 x2 x3) (k0_pay155 x0 x1 x2 x3) (k0_pay156 x0 x1 x2 x3)) (k0_pay158 x0 x1 x2 x3)) k0_pay114) (k0_pay116 (k0_pay157 x0 x1 x2 x3) (k0_pay159 x0 x1 x2 x3))) (k0_pay118 (k0_pay157 x0 x1 x2 x3) (k0_pay106 (k0_pay149 x0 x1 x2 x3) (k0_pay155 x0 x1 x2 x3) (k0_pay156 x0 x1 x2 x3)) (k0_pay159 x0 x1 x2 x3)) (k0_pay119 (k0_pay123 x0 x1 x2 x3)) (constant S64x2048 .f32 0x00000000#32))
    = result (k0_pay121 x0 x1 x2 x3) (k0_pay122 x0 x1 x2 x3) (k0_pay123 x0 x1 x2 x3)
        (k0_pay90 (route (logits (sums (k0_pay121 x0 x1 x2 x3)) (sums (k0_pay122 x0 x1 x2 x3))
          (shapeCast S16x16 (View.ld x0 r0_1) shapeCasts_S1x16x16_S16x16)))) (k0_pay157 x0 x1 x2 x3) := by
  rw [arow_eq, zself_eq, route_eq, logits_eq, sums_q, z0, z1, z2, z3, z4, z5, z6, z7, z8, z9, z10, z11, z12, z13, z14, z15]
  rfl

end Cert.KernelIdeal.Model

end
-- ==== Proof.KerRead.lean ====
/- What the kernel's functions hold at an index: each read as plain arithmetic on the extended reals. -/
module

public import proofs.«01_k».proof.Proof.KerModel
public import proofs.«01_k».proof.Proof.Reals
public import Idealize.ShloMosaic.Lib.Pointwise
public import Idealize.ShloMosaic.Lib.Pipeline.Value

@[expose] public section

set_option maxRecDepth 16384

noncomputable section

namespace Cert.KernelIdeal.Model

open Cert.KernelIdeal Cert.KernelIdeal.Gen Idealize.ShloMosaic Idealize.ShloMosaic.TcCoe
open Blocks

/-- Row `s` of block `j`. -/
def row (j : Fin 16) (s : Fin 128) : Fin 2048 := ⟨128 * j.val + s.val, by omega⟩

/-- The block of row `t`. -/
def home (t : Fin 2048) : Fin 16 := ⟨t.val / 128, by omega⟩

/-- Block `j` holds its rows. -/
theorem blk_at (x : FVec Ideal S2048x64 .f32) (j : Fin 16) (s : Fin 128) (d : Fin 64) :
    blk x j (ix2 s d) = x (ix2 (row j s) d) := by
  pointwise [blk]
  all_goals rfl

/-- A block sum, entry by entry. -/
theorem blkSum_at (x : FVec Ideal S2048x64 .f32) (j : Fin 16) (a : Fin 1) (d : Fin 64) :
    blkSum x j (ix2 a d) = ∑ s, x (ix2 (row j s) d) := by
  pointwise [blkSum, blk_at]

/-- The stacked block sums, entry by entry. -/
theorem sums_at (x : FVec Ideal S2048x64 .f32) (j : Fin 16) (d : Fin 64) :
    sums x (ix2 j d) = ∑ s, x (ix2 (row j s) d) := by
  unfold sums
  pointwise [blkSum_at]

/-- A logit from the products of the block sums and the noise. -/
def logit (p g : EReal) : EReal :=
  Ideal.div (Ideal.log (max (p * Ideal.ofBits .f32 0x3E000000#32) 0 + Ideal.ofBits .f32 0x358637BD#32) + g)
    (Ideal.ofBits .f32 0x3F400000#32)

/-- The logits, entry by entry. -/
theorem logits_at (a b : FVec Ideal S16x64 .f32) (g : FVec Ideal S16x16 .f32) (i j : Fin 16) :
    logits a b g (ix2 i j) = logit (∑ x, a (ix2 i x) * b (ix2 j x)) (g (ix2 i j)) := by
  pointwise [logits]
  all_goals rfl

/-- A half step along the rows normalises each row. -/
theorem rowHalf_at (x : FVec Ideal S16x16 .f32) (i j : Fin 16) :
    rowHalf x (ix2 i j) = norm (fun l => x (ix2 i l)) j := by
  pointwise [rowHalf, rowTop, rowLog]
  all_goals rfl

/-- A half step along the columns normalises each column. -/
theorem colHalf_at (x : FVec Ideal S16x16 .f32) (i j : Fin 16) :
    colHalf x (ix2 i j) = norm (fun l => x (ix2 l j)) i := by
  pointwise [colHalf, colTop, colLog]
  all_goals rfl

/-- The array as a matrix. -/
def mat (x : FVec Ideal S16x16 .f32) : Mat := fun i j => x (ix2 i j)

/-- A step is a step of the matrix. -/
theorem mat_step (x : FVec Ideal S16x16 .f32) : mat (step x) = stepM (mat x) := by
  funext i j
  show colHalf (rowHalf x) (ix2 i j) = _
  rw [colHalf_at]
  simp only [rowHalf_at]
  rfl

/-- The threshold, entry by entry. -/
theorem keep_at (x : FVec Ideal S16x16 .f32) (i j : Fin 16) : keep x (ix2 i j) = keepM (x (ix2 i j)) := by
  pointwise [keep]
  all_goals rfl

/-- The routing matrix: seven steps of the matrix, then the threshold. -/
theorem route_at (x : FVec Ideal S16x16 .f32) (i j : Fin 16) : route x (ix2 i j) = keepM (stepsM (mat x) i j) := by
  unfold route
  rw [keep_at]
  show keepM (mat (step _) i j) = _
  rw [mat_step, mat_step, mat_step, mat_step, mat_step, mat_step, mat_step]
  rfl

/-- The scaled product of a query with key `s` of block `j`. -/
def score (q k : FVec Ideal S2048x64 .f32) (t : Fin 2048) (j : Fin 16) (s : Fin 128) : EReal :=
  (∑ x, k (ix2 (row j s) x) * q (ix2 t x)) * Ideal.ofBits .f32 0x3E000000#32

/-- The exponentials of the scores. -/
theorem gt_at (q k : FVec Ideal S2048x64 .f32) (j : Fin 16) (s : Fin 128) (t : Fin 2048) :
    gt q k j (ix2 s t) = Ideal.exp (score q k t j s) := by
  pointwise [gt, blk_at]
  all_goals rfl

/-- Their sum over a block. -/
def zed (q k : FVec Ideal S2048x64 .f32) (t : Fin 2048) (j : Fin 16) : EReal := ∑ s, Ideal.exp (score q k t j s)

/-- The kernel row of sums over a block, at a query. -/
theorem zrow_at (q k : FVec Ideal S2048x64 .f32) (j : Fin 16) (a : Fin 1) (t : Fin 2048) :
    zrow q k j (ix2 a t) = zed q k t j := by
  pointwise [zrow, gt_at]
  all_goals rfl

/-- For each query, the sum over its own block. -/
theorem zself_at (q k : FVec Ideal S2048x64 .f32) (a : Fin 1) (t : Fin 2048) :
    zself q k (ix2 a t) = zed q k t (home t) := by
  unfold zself
  refine (concatenate_ofFn_apply (s₁ := S1x128) (t := S1x2048) 1 (fun i : Fin 16 => extractStridedSlice S1x128 ![0, 128 * i.val] (zrow q k i) (slices_lanes i)) _ rfl 128 rfl
    (ix2 a t) (home t) rfl (ix2 a ⟨t.val % 128, Nat.mod_lt _ (by decide)⟩) rfl ?_).trans ?_
  · intro b hb
    fin_cases b
    · rfl
    · exact absurd rfl hb
  · pointwise [zrow_at]
    all_goals exact congrArg (fun u => zed q k u (home t)) (Fin.ext (Nat.div_add_mod t.val 128))

/-- The weight of a block. -/
theorem crow_at (q k : FVec Ideal S2048x64 .f32) (r : FVec Ideal S16x2048 .f32) (j : Fin 16) (a : Fin 1) (t : Fin 2048) :
    crow q k r j (ix2 a t) = Ideal.div (r (ix2 j t)) (zed q k t (home t) + zed q k t j) := by
  pointwise [crow, zrow_at, zself_at]

/-- The terms in order add to their sum. -/
theorem upTo_at {s : Shape} (f : Fin 16 → FVec Ideal s .f32) (i : s.Idx) : ∀ (n : Nat) (h : n ≤ 16),
    upTo f n h i = ∑ j : Fin n, f ⟨j.val, lt_of_lt_of_le j.isLt h⟩ i
  | 0, _ => (Ideal.ofBits_zero .f32 : _)
  | n + 1, h => by
    rw [Fin.sum_univ_castSucc]
    show upTo f n _ i + f ⟨n, h⟩ i = _
    rw [upTo_at f i n]
    rfl

/-- The sum of the weights. -/
theorem arow_at (q k : FVec Ideal S2048x64 .f32) (r : FVec Ideal S16x2048 .f32) (a : Fin 1) (t : Fin 2048) :
    arow q k r (ix2 a t) = ∑ j, Ideal.div (r (ix2 j t)) (zed q k t (home t) + zed q k t j) := by
  unfold arow
  rw [upTo_at]
  exact Finset.sum_congr rfl fun j _ => crow_at q k r j a t

/-- Equality of small words is equality of the numbers. -/
theorem word_eq : ∀ i j : Fin 16, IntOp.cmpi .eq (BitVec.ofNat 32 i.val) (BitVec.ofNat 32 j.val) = if i = j then 1#1 else 0#1 := by
  decide +kernel

/-- A selection on such an equality. -/
theorem select_word (i j : Fin 16) (a b : EReal) :
    Scalar.select (IntOp.cmpi .eq (BitVec.ofNat 32 i.val) (BitVec.ofNat 32 j.val)) a b = if i = j then a else b := by
  rw [word_eq]; split <;> rfl

/-- Such an equality as a number. -/
theorem float_word (i j : Fin 16) :
    FloatOps.sitofp (F := Ideal) .f32 (BitVec.setWidth 32 (IntOp.cmpi .eq (BitVec.ofNat 32 i.val) (BitVec.ofNat 32 j.val)))
      = if i = j then (1 : EReal) else 0 := by
  rw [word_eq]
  split
  · show (((BitVec.toInt (BitVec.setWidth 32 1#1) : ℤ) : ℝ) : EReal) = 1
    norm_num
  · show (((BitVec.toInt (BitVec.setWidth 32 0#1) : ℤ) : ℝ) : EReal) = 0
    norm_num

/-- Division by 128 rounding down, as the body computes it on words. -/
def lane (w : BitVec 32) : BitVec 32 :=
  Scalar.select
    (IntOp.andi
      (IntOp.cmpi .ne
        (IntOp.subi (BitVec.setWidth 32 (IntOp.cmpi .sgt w 0#32)) (BitVec.setWidth 32 (IntOp.cmpi .slt w 0#32)))
        (Scalar.subi (Scalar.extui (Scalar.cmpi .sgt 128#32 0#32)) (Scalar.extui (Scalar.cmpi .slt 128#32 0#32))))
      (IntOp.cmpi .ne (IntOp.remsi ArithUnit.vector w 128#32) 0#32))
    (IntOp.subi (IntOp.divsi ArithUnit.vector w 128#32) 1#32)
    (IntOp.divsi ArithUnit.vector w 128#32)

/-- On a lane's number it is the lane's block. -/
theorem lane_word : ∀ t : Fin 2048, lane (BitVec.ofNat 32 t.val) = BitVec.ofNat 32 (home t).val := by decide +kernel

/-- What a block adds. -/
theorem term_at (q k v : FVec Ideal S2048x64 .f32) (r : FVec Ideal S16x2048 .f32) (l : IVec S1x2048 32) (j : Fin 16) (d : Fin 64) (t : Fin 2048)
    (hl : l (ix2 0 t) = BitVec.ofNat 32 (home t).val) :
    term q k v r l j (ix2 d t) = (∑ x, v (ix2 (row j x) d) * Ideal.exp (score q k t j x)) *
      (Ideal.div (r (ix2 j t)) (zed q k t (home t) + zed q k t j)
        + if home t = j then ∑ j, Ideal.div (r (ix2 j t)) (zed q k t (home t) + zed q k t j) else 0) := by
  pointwise [term, blk_at, gt_at, crow_at, arow_at]
  all_goals rw [hl, select_word]

/-- The stored block, entry by entry. -/
theorem result_at (q k v : FVec Ideal S2048x64 .f32) (r : FVec Ideal S16x2048 .f32) (l : IVec S1x2048 32) (d : Fin 64) (t : Fin 2048) :
    result q k v r l (ix4 0 0 t d) = ∑ j, term q k v r l j (ix2 d t) := by
  pointwise [result]
  all_goals exact upTo_at _ _ 16 _

/-- Each lane's word is its block's number. -/
theorem lane_at (x0 : Vec Ideal S1x16x16 .f32) (x1 x2 x3 : Vec Ideal S1x1x2048x64 .f32) (t : Fin 2048) :
    k0_pay157 x0 x1 x2 x3 (ix2 0 t) = BitVec.ofNat 32 (home t).val := by
  pointwise [k0_pay157, k0_pay94, k0_pay91, k0_pay92, k0_pay93]
  all_goals exact lane_word t

/-- The product with the one-hot matrix picks, for every lane, its block's row. -/
theorem pay90_at (x : FVec Ideal S16x16 .f32) (j : Fin 16) (t : Fin 2048) :
    k0_pay90 x (ix2 j t) = x (ix2 (home t) j) := by
  pointwise [k0_pay90]
  have h : ∀ i : Fin 16, x (ix2 i j) * FloatOps.sitofp (F := Ideal) .f32 (BitVec.setWidth 32 (IntOp.cmpi .eq
      (lane (BitVec.ofNat 32 t.val)) (BitVec.ofNat 32 i.val))) = if home t = i then x (ix2 i j) else 0 := fun i => by
    rw [lane_word, float_word]
    split
    · exact mul_one (M := EReal) _
    · exact mul_zero (M₀ := EReal) _
  refine (Finset.sum_congr rfl fun i _ => h i).trans ?_
  rw [Finset.sum_ite_eq, if_pos (Finset.mem_univ _)]

end Cert.KernelIdeal.Model

end
-- ==== Proof.Gum.lean ====
/-
  The noise array both programs draw on the host: the counter-based generator's rounds, the bits of a uniform draw, and the
  double logarithm, each read off a straight line of host operations of any program that holds it. The noise is a function
  of nothing, so two programs that draw it agree.
-/
module

public import proofs.«01_k».proof.Proof.Fix

@[expose] public section

set_option maxRecDepth 65536

noncomputable section

namespace HostLine

open Idealize.ShloMosaic Idealize.ShloMosaic.TcCoe Idealize.ShloMosaic.StableHlo

/-- The shape of a scalar. -/
abbrev A0 : Shape := ⟨0, ![]⟩
/-- One entry. -/
abbrev A1 : Shape := ⟨1, ![1]⟩
/-- Two entries. -/
abbrev A2 : Shape := ⟨1, ![2]⟩
/-- One entry on three axes. -/
abbrev A111 : Shape := ⟨3, ![1, 1, 1]⟩
/-- A square of blocks for each head. -/
abbrev A3 : Shape := ⟨3, ![12, 16, 16]⟩

variable {τ : Topo} {sig : RefSig} {F : FTy → Type} [FloatOps F] {σ : Valuation τ sig (Elt F)}

/-! ## The functions -/

/-- A scalar spread over the array. -/
def bc {α : Type} (x : A0.Idx → α) : A3.Idx → α := broadcastInDim A3 ![] (by decide) x
/-- A `1 × 1 × 1` array spread over the array. -/
def bc1 {α : Type} (x : A111.Idx → α) : A3.Idx → α := broadcastInDim A3 ![0, 1, 2] (by decide) x

/-- One round of the generator: add, rotate by `l` (`r` is the complement), exclusive or. -/
def round (l r : BitVec 32) (p : IVec A3 32 × IVec A3 32) : IVec A3 32 × IVec A3 32 :=
  (addi p.1 p.2, xori (addi p.1 p.2) (ori (Host.shli p.2 (bc (constantI A0 32 l))) (Host.shrui p.2 (bc (constantI A0 32 r)))))

/-- One injection of the key words. -/
def inject (ka kb : IVec A0 32) (i : BitVec 32) (p : IVec A3 32 × IVec A3 32) : IVec A3 32 × IVec A3 32 :=
  (addi p.1 (bc ka), addi (addi p.2 (bc kb)) (bc (constantI A0 32 i)))

/-- Four rounds with rotations 13, 15, 26, 6. -/
def roundsA (p : IVec A3 32 × IVec A3 32) := round 6 26 (round 26 6 (round 15 17 (round 13 19 p)))
/-- Four rounds with rotations 17, 29, 16, 24. -/
def roundsB (p : IVec A3 32 × IVec A3 32) := round 24 8 (round 16 16 (round 29 3 (round 17 15 p)))

/-- The third key word. -/
def third (k0 k1 : IVec A0 32) : IVec A0 32 := xori (xori k0 k1) (constantI A0 32 466688986)

/-- The generator on counters `x0, x1` under the key `k0, k1`. -/
def cipher (k0 k1 : IVec A0 32) (x0 x1 : IVec A3 32) : IVec A3 32 × IVec A3 32 :=
  inject (third k0 k1) k0 5 (roundsA (inject k1 (third k0 k1) 4 (roundsB (inject k0 k1 3 (roundsA
    (inject (third k0 k1) k0 2 (roundsB (inject k1 (third k0 k1) 1 (roundsA (addi x0 (bc k0), addi x1 (bc k1)))))))))))

/-- The key words of the seed 42. -/
def key : IVec A2 32 :=
  concatenate A2 0 [⟨A1, broadcastInDim A1 ![] (by decide) (Host.shrui (constantI A0 32 42) (constantI A0 32 32))⟩,
    ⟨A1, broadcastInDim A1 ![] (by decide) (andi (constantI A0 32 42) (constantI A0 32 4294967295))⟩] (by decide)

/-- The first word of a key. -/
def key0 (k : IVec A2 32) : IVec A0 32 := shapeCast A0 (extractStridedSlice A1 ![0] k (by decide)) (by decide)
/-- The second word of a key. -/
def key1 (k : IVec A2 32) : IVec A0 32 := shapeCast A0 (extractStridedSlice A1 ![1] k (by decide)) (by decide)

/-- The 64-bit number of an element. -/
def count : IVec A3 64 :=
  addi (addi (muli (bc (constantI A0 64 256)) (iotaInDim A3 64 0)) (muli (bc (constantI A0 64 16)) (iotaInDim A3 64 1)))
    (muli (bc (constantI A0 64 1)) (iotaInDim A3 64 2))
/-- The high half of the numbers. -/
def countHi : IVec A3 32 := trunci 32 (Host.shrui count (bc (constantI A0 64 32)))
/-- The low half of the numbers. -/
def countLo : IVec A3 32 := trunci 32 count

/-- The bits drawn. -/
def bits : IVec A3 32 := xori (cipher (key0 key) (key1 key) countHi countLo).1 (cipher (key0 key) (key1 key) countHi countLo).2

/-- The uniform draw made of bits, between `lo` and `hi`. -/
def uniformOf (lo hi : FVec F A0 .f32) (b : IVec A3 32) : FVec F A3 .f32 :=
  maximumf (bc1 (broadcastInDim A111 ![] (by decide) lo))
    (addf (mulf (subf (bitcastToFloat .f32 (ori (Host.shrui b (bc (constantI A0 32 9))) (bc (constantI A0 32 1065353216))))
        (bc (constant A0 .f32 0x3F800000#32)))
      (bc1 (subf (broadcastInDim A111 ![] (by decide) hi) (broadcastInDim A111 ![] (by decide) lo))))
      (bc1 (broadcastInDim A111 ![] (by decide) lo)))

/-- The noise made of a uniform draw. -/
def noiseOf (u : FVec F A3 .f32) : FVec F A3 .f32 :=
  Host.negf (Host.log (addf (Host.negf (Host.log (addf u (bc (constant A0 .f32 0x358637BD#32))))) (bc (constant A0 .f32 0x358637BD#32))))

/-- The noise. -/
def noise : FVec F A3 .f32 := noiseOf (uniformOf (constant A0 .f32 0x00000000#32) (constant A0 .f32 0x3F800000#32) bits)

/-! ## Read off a line -/

/-- Contents fixed by the operations of one round hold its outcome. -/
theorem round_of {x0 x1 y0 b1 s1 b2 s2 o y1 : TRef sig ⟨A3, .i32⟩} {c1 c2 : TRef sig ⟨A0, .i32⟩} {l r : BitVec 32}
    {hb hb' : A0.BroadcastsInDim A3 (![] : Fin 0 → Fin A3.rank)}
    (h : Holds σ [TRef.binary x0 x1 y0 addi, TRef.nullary c1 (constantI A0 32 l), TRef.unary c1 b1 (broadcastInDim A3 ![] hb),
      TRef.binary x1 b1 s1 Host.shli, TRef.nullary c2 (constantI A0 32 r), TRef.unary c2 b2 (broadcastInDim A3 ![] hb'),
      TRef.binary x1 b2 s2 Host.shrui, TRef.binary s1 s2 o ori, TRef.binary y0 o y1 xori]) :
    (at' y0 σ, at' y1 σ) = round l r (at' x0 σ, at' x1 σ) := by
  simp only [Holds.cons_iff, Holds.nil_iff, binary_holds, unary_holds, nullary_holds] at h
  obtain ⟨h1, h2, h3, h4, h5, h6, h7, h8, h9, -⟩ := h
  rw [h9, h8, h7, h6, h5, h4, h3, h2, h1]; rfl

/-- Contents fixed by the operations of one injection hold its outcome. -/
theorem inject_of {x0 x1 b1 y0 b2 t b3 y1 : TRef sig ⟨A3, .i32⟩} {ka kb c : TRef sig ⟨A0, .i32⟩} {i : BitVec 32}
    {hb hb' hb'' : A0.BroadcastsInDim A3 (![] : Fin 0 → Fin A3.rank)}
    (h : Holds σ [TRef.unary ka b1 (broadcastInDim A3 ![] hb), TRef.binary x0 b1 y0 addi, TRef.unary kb b2 (broadcastInDim A3 ![] hb'),
      TRef.binary x1 b2 t addi, TRef.nullary c (constantI A0 32 i), TRef.unary c b3 (broadcastInDim A3 ![] hb''),
      TRef.binary t b3 y1 addi]) :
    (at' y0 σ, at' y1 σ) = inject (at' ka σ) (at' kb σ) i (at' x0 σ, at' x1 σ) := by
  simp only [Holds.cons_iff, Holds.nil_iff, binary_holds, unary_holds, nullary_holds] at h
  obtain ⟨h1, h2, h3, h4, h5, h6, h7, -⟩ := h
  rw [h7, h6, h5, h4, h3, h2, h1]; rfl

/-- Contents fixed by the opening operations of the generator hold the third key word and the first injection. -/
theorem start_of {k0 k1 v0 c v1 : TRef sig ⟨A0, .i32⟩} {x0 x1 b0 b1 y0 y1 : TRef sig ⟨A3, .i32⟩}
    {hb hb' : A0.BroadcastsInDim A3 (![] : Fin 0 → Fin A3.rank)}
    (h : Holds σ [TRef.binary k0 k1 v0 xori, TRef.nullary c (constantI A0 32 466688986#32), TRef.binary v0 c v1 xori,
      TRef.unary k0 b0 (broadcastInDim A3 ![] hb), TRef.binary x0 b0 y0 addi, TRef.unary k1 b1 (broadcastInDim A3 ![] hb'),
      TRef.binary x1 b1 y1 addi]) :
    at' v1 σ = third (at' k0 σ) (at' k1 σ) ∧ (at' y0 σ, at' y1 σ) = (addi (at' x0 σ) (bc (at' k0 σ)), addi (at' x1 σ) (bc (at' k1 σ))) := by
  simp only [Holds.cons_iff, Holds.nil_iff, binary_holds, unary_holds, nullary_holds] at h
  obtain ⟨h1, h2, h3, h4, h5, h6, h7, -⟩ := h
  rw [h7, h6, h5, h4, h3, h2, h1]; exact ⟨rfl, rfl⟩

/-- Contents fixed by the operations that make the key hold the key. -/
theorem key_of {c c2 v0 v1 c3 v3 v4 : TRef sig ⟨A0, .i32⟩} {v2 v5 : TRef sig ⟨A1, .i32⟩} {v6 : TRef sig ⟨A2, .i32⟩}
    {hb hb' : A0.BroadcastsInDim A1 (![] : Fin 0 → Fin A1.rank)} {hc : Shape.Concatenates [A1, A1] A2 0}
    (h : Holds σ [TRef.nullary c (constantI A0 32 42#32), TRef.nullary c2 (constantI A0 32 32#32), TRef.binary c c2 v0 Host.shrui,
      TRef.unary v0 v1 id, TRef.unary v1 v2 (broadcastInDim A1 ![] hb), TRef.nullary c3 (constantI A0 32 4294967295#32),
      TRef.binary c c3 v3 andi, TRef.unary v3 v4 id, TRef.unary v4 v5 (broadcastInDim A1 ![] hb'),
      TRef.binary v2 v5 v6 (fun a b => concatenate A2 0 [⟨A1, a⟩, ⟨A1, b⟩] hc)]) :
    at' v6 σ = key := by
  simp only [Holds.cons_iff, Holds.nil_iff, binary_holds, unary_holds, nullary_holds, id] at h
  obtain ⟨h1, h2, h3, h4, h5, h6, h7, h8, h9, h10, -⟩ := h
  rw [h10, h9, h8, h7, h6, h5, h4, h3, h2, h1]; rfl

/-- Contents fixed by the operations before the generator hold the key words and the counters. -/
theorem draw_start_of {k : TRef sig ⟨A2, .i32⟩} {a0 a1 v0 v1 : TRef sig ⟨A0, .f32⟩} {v2 v3 : TRef sig ⟨A111, .f32⟩}
    {v4 v6 : TRef sig ⟨A1, .i32⟩} {v5 v7 : TRef sig ⟨A0, .i32⟩} {v8 v9 v10 v11 v12 v13 v14 v15 v16 v17 v18 v19 v20 : TRef sig ⟨A3, .i64⟩}
    {c c0 c1 c2 : TRef sig ⟨A0, .i64⟩} {v21 v22 : TRef sig ⟨A3, .i32⟩} {hb hb' : A0.BroadcastsInDim A111 (![] : Fin 0 → Fin A111.rank)}
    {hs0 hs1} {he he' : (.i32 : EltTy) = .i32} {hn hn' : A1.ShapeCasts A0} {b0 b1 b2 b3 : A0.BroadcastsInDim A3 (![] : Fin 0 → Fin A3.rank)} {ht ht' : 32 < 64}
    (h : Holds σ [TRef.unary a0 v0 id, TRef.unary a1 v1 id, TRef.unary v0 v2 (broadcastInDim A111 ![] hb),
      TRef.unary v1 v3 (broadcastInDim A111 ![] hb'), TRef.unary k v4 (extractStridedSlice A1 ![0] · hs0), TRef.reshape v4 v5 he hn,
      TRef.unary k v6 (extractStridedSlice A1 ![1] · hs1), TRef.reshape v6 v7 he' hn', TRef.nullary v8 (iotaInDim A3 64 0),
      TRef.nullary v9 (iotaInDim A3 64 1), TRef.nullary v10 (iotaInDim A3 64 2), TRef.nullary c (constantI A0 64 256#64),
      TRef.unary c v11 (broadcastInDim A3 ![] b0), TRef.binary v11 v8 v12 muli, TRef.nullary c0 (constantI A0 64 16#64),
      TRef.unary c0 v13 (broadcastInDim A3 ![] b1), TRef.binary v13 v9 v14 muli, TRef.nullary c1 (constantI A0 64 1#64),
      TRef.unary c1 v15 (broadcastInDim A3 ![] b2), TRef.binary v15 v10 v16 muli, TRef.binary v12 v14 v17 addi,
      TRef.binary v17 v16 v18 addi, TRef.nullary c2 (constantI A0 64 32#64), TRef.unary c2 v19 (broadcastInDim A3 ![] b3),
      TRef.binary v18 v19 v20 Host.shrui, TRef.unary v18 v21 (trunci 32 · ht), TRef.unary v20 v22 (trunci 32 · ht')]) :
    at' v5 σ = key0 (at' k σ) ∧ at' v7 σ = key1 (at' k σ) ∧ at' v22 σ = countHi ∧ at' v21 σ = countLo
      ∧ at' v2 σ = broadcastInDim A111 ![] (by decide) (at' a0 σ) ∧ at' v3 σ = broadcastInDim A111 ![] (by decide) (at' a1 σ) := by
  simp only [Holds.cons_iff, Holds.nil_iff, binary_holds, unary_holds, nullary_holds, reshape_holds, id] at h
  obtain ⟨h1, h2, h3, h4, h5, h6, h7, h8, h9, h10, h11, h12, h13, h14, h15, h16, h17, h18, h19, h20, h21, h22, h23, h24, h25, h26, h27, -⟩ := h
  refine ⟨?_, ?_, ?_, ?_, ?_, ?_⟩
  · rw [h6, h5]; rfl
  · rw [h8, h7]; rfl
  · rw [h27, h25, h24, h23, h22, h21, h20, h19, h18, h17, h16, h15, h14, h13, h12, h11, h10, h9]; rfl
  · rw [h26, h22, h21, h20, h19, h18, h17, h16, h15, h14, h13, h12, h11, h10, h9]; rfl
  · rw [h3, h1]
  · rw [h4, h2]

/-- Contents fixed by the operations after the generator hold the uniform draw. -/
theorem draw_end_of {a b v24 v25 v26 v27 v28 : TRef sig ⟨A3, .i32⟩} {c3 c4 : TRef sig ⟨A0, .i32⟩} {cst : TRef sig ⟨A0, .f32⟩}
    {v2 v3 v32 : TRef sig ⟨A111, .f32⟩} {v29 v30 v31 v33 v34 v35 v36 v37 v38 : TRef sig ⟨A3, .f32⟩}
    {b0 b1 b2 : A0.BroadcastsInDim A3 (![] : Fin 0 → Fin A3.rank)} {b3 b4 b5 : A111.BroadcastsInDim A3 (![0, 1, 2] : Fin 3 → Fin A3.rank)}
    {lo hi : FVec F A0 .f32}
    (h : Holds σ [TRef.binary a b v24 xori, TRef.nullary c3 (constantI A0 32 9#32), TRef.unary c3 v25 (broadcastInDim A3 ![] b0),
      TRef.binary v24 v25 v26 Host.shrui, TRef.nullary c4 (constantI A0 32 1065353216#32), TRef.unary c4 v27 (broadcastInDim A3 ![] b1),
      TRef.binary v26 v27 v28 ori, TRef.unary v28 v29 (bitcastToFloat .f32), TRef.nullary cst (constant A0 .f32 0x3F800000#32),
      TRef.unary cst v30 (broadcastInDim A3 ![] b2), TRef.binary v29 v30 v31 subf, TRef.binary v3 v2 v32 subf,
      TRef.unary v32 v33 (broadcastInDim A3 ![0, 1, 2] b3), TRef.binary v31 v33 v34 mulf, TRef.unary v2 v35 (broadcastInDim A3 ![0, 1, 2] b4),
      TRef.binary v34 v35 v36 addf, TRef.unary v2 v37 (broadcastInDim A3 ![0, 1, 2] b5), TRef.binary v37 v36 v38 maximumf])
    (hlo : at' v2 σ = broadcastInDim A111 ![] (by decide) lo) (hhi : at' v3 σ = broadcastInDim A111 ![] (by decide) hi) :
    at' v38 σ = uniformOf lo hi (xori (at' a σ) (at' b σ)) := by
  simp only [Holds.cons_iff, Holds.nil_iff, binary_holds, unary_holds, nullary_holds] at h
  obtain ⟨h1, h2, h3, h4, h5, h6, h7, h8, h9, h10, h11, h12, h13, h14, h15, h16, h17, h18, -⟩ := h
  rw [h18, h17, h16, h15, h14, h13, h12, h11, h10, h9, h8, h7, h6, h5, h4, h3, h2, h1, hlo, hhi]; rfl

/-- Contents fixed by the double logarithm of a draw hold the noise made of it. -/
theorem noise_of {c c' : TRef sig ⟨A0, .f32⟩} {u b w l n b' w' l' n' : TRef sig ⟨A3, .f32⟩}
    {b0 b1 : A0.BroadcastsInDim A3 (![] : Fin 0 → Fin A3.rank)}
    (h : Holds σ [TRef.nullary c (constant A0 .f32 0x358637BD#32), TRef.unary c b (broadcastInDim A3 ![] b0), TRef.binary u b w addf,
      TRef.unary w l Host.log, TRef.unary l n Host.negf, TRef.nullary c' (constant A0 .f32 0x358637BD#32),
      TRef.unary c' b' (broadcastInDim A3 ![] b1), TRef.binary n b' w' addf, TRef.unary w' l' Host.log, TRef.unary l' n' Host.negf]) :
    at' n' σ = noiseOf (at' u σ) := by
  simp only [Holds.cons_iff, Holds.nil_iff, binary_holds, unary_holds, nullary_holds] at h
  obtain ⟨h1, h2, h3, h4, h5, h6, h7, h8, h9, h10, -⟩ := h
  rw [h10, h9, h8, h7, h6, h5, h4, h3, h2, h1]; rfl

end HostLine

end
-- ==== Proof.KerNoise.lean ====
/-
  The array the kernel's launch is handed as its first operand is the noise.
-/
module

public import proofs.«01_k».proof.Proof.Gum
public import proofs.«01_k».proof.Proof.Gen.KernelIdeal.Frame

@[expose] public section

set_option maxRecDepth 65536

noncomputable section

namespace Cert.KernelIdeal.Line

open Idealize.ShloMosaic Idealize.ShloMosaic.TcCoe Idealize.ShloMosaic.StableHlo
open Cert.KernelIdeal Cert.KernelIdeal.Gen HostLine

variable {F : FTy → Type} [FloatOps F]

set_option maxHeartbeats 4000000 in
/-- The host operations before the launch are numbered in order. -/
theorem ordered : Ordered 4 (hostOps0 (F := F)) 293 := by
  repeat' first
    | exact .nil _
    | refine .cons _ (tUnary _ _ _ rfl) rfl ?_
    | refine .cons _ (tBinary _ _ _ _ rfl rfl) rfl ?_
    | refine .cons _ (tNullary _ _) rfl ?_
    | refine .cons _ (tReshape _ _ _ _ rfl) rfl ?_

set_option maxHeartbeats 4000000 in
/-- Contents that are a fixed point of the host operations hold the noise. -/
theorem noise_eq {σ : Valuation τ sig (Elt F)} (h : Holds σ (hostOps0 (F := F))) :
    at' (.of main_call0_v15 : TRef sig ⟨S12x16x16, .f32⟩) σ = noise := by
  have hk := key_of (h.stretch 0 10 rfl)
  have hlo := (Holds.cons_iff _ _ _).mp (h.stretch 10 1 rfl) |>.1
  have hhi := (Holds.cons_iff _ _ _).mp (h.stretch 11 1 rfl) |>.1
  rw [nullary_holds] at hlo hhi
  obtain ⟨hs0, hs1, hc1, hc0, hl, hu⟩ := draw_start_of (h.stretch 12 27 rfl)
  rw [hlo] at hl
  rw [hhi] at hu
  rw [hk] at hs0 hs1
  obtain ⟨ht, hp⟩ := start_of (h.stretch 39 7 rfl)
  have r00 := round_of (h.stretch 46 9 rfl)
  have r01 := round_of (h.stretch 55 9 rfl)
  have r02 := round_of (h.stretch 64 9 rfl)
  have r03 := round_of (h.stretch 73 9 rfl)
  have i0 := inject_of (h.stretch 82 7 rfl)
  have r10 := round_of (h.stretch 89 9 rfl)
  have r11 := round_of (h.stretch 98 9 rfl)
  have r12 := round_of (h.stretch 107 9 rfl)
  have r13 := round_of (h.stretch 116 9 rfl)
  have i1 := inject_of (h.stretch 125 7 rfl)
  have r20 := round_of (h.stretch 132 9 rfl)
  have r21 := round_of (h.stretch 141 9 rfl)
  have r22 := round_of (h.stretch 150 9 rfl)
  have r23 := round_of (h.stretch 159 9 rfl)
  have i2 := inject_of (h.stretch 168 7 rfl)
  have r30 := round_of (h.stretch 175 9 rfl)
  have r31 := round_of (h.stretch 184 9 rfl)
  have r32 := round_of (h.stretch 193 9 rfl)
  have r33 := round_of (h.stretch 202 9 rfl)
  have i3 := inject_of (h.stretch 211 7 rfl)
  have r40 := round_of (h.stretch 218 9 rfl)
  have r41 := round_of (h.stretch 227 9 rfl)
  have r42 := round_of (h.stretch 236 9 rfl)
  have r43 := round_of (h.stretch 245 9 rfl)
  have i4 := inject_of (h.stretch 254 7 rfl)
  rw [hs0, hs1] at ht
  rw [hs0, hs1, hc0, hc1] at hp
  have hb := draw_end_of (h.stretch 261 18 rfl) hl hu
  have hn := noise_of (h.stretch 279 10 rfl)
  have hc := i4
  rw [r43, r42, r41, r40, i3, r33, r32, r31, r30, i2, r23, r22, r21, r20, i1, r13, r12, r11, r10, i0, r03, r02, r01, r00, hp, ht, hs0, hs1] at hc
  refine hn.trans (congrArg noiseOf (hb.trans (congrArg _ ?_)))
  exact congrArg (fun p : IVec A3 32 × IVec A3 32 => xori p.1 p.2) hc

end Cert.KernelIdeal.Line

end
-- ==== Proof.KerValue.lean ====
/- The array the kernel leaves: head by head, the weighted sum over the sixteen blocks. -/
module

public import proofs.«01_k».proof.Proof.KerRead
public import proofs.«01_k».proof.Proof.KerNoise
public import Idealize.ShloMosaic.Lib.Pipeline.ValueKit

@[expose] public section

set_option maxRecDepth 16384

noncomputable section

namespace Cert.KernelIdeal.Model

open Cert.KernelIdeal Cert.KernelIdeal.Gen Idealize.ShloMosaic Idealize.ShloMosaic.TcCoe Idealize.SL.Sem
open Blocks

/-- One head's value at a query `t` and a feature `d`, from its queries, keys, values and noise. -/
def headVal (q k v : FVec Ideal S2048x64 .f32) (g : FVec Ideal S16x16 .f32) (t : Fin 2048) (d : Fin 64) : EReal :=
  ∑ j, (∑ x, v (ix2 (row j x) d) * Ideal.exp (score q k t j x)) *
    (Ideal.div (keepM (stepsM (mat (logits (sums q) (sums k) g)) (home t) j)) (zed q k t (home t) + zed q k t j)
      + if home t = j then
          ∑ l, Ideal.div (keepM (stepsM (mat (logits (sums q) (sums k) g)) (home t) l)) (zed q k t (home t) + zed q k t l)
        else 0)

/-- What the body stores, from the blocks it loads. -/
theorem out_at (x0 : Vec Ideal S1x16x16 .f32) (x1 x2 x3 : Vec Ideal S1x1x2048x64 .f32) (t : Fin 2048) (d : Fin 64) :
    out0_4 x0 x1 x2 x3 (ix4 0 0 t d) = headVal (fun i => x1 (ix4 0 0 (i 0) (i 1))) (fun i => x2 (ix4 0 0 (i 0) (i 1)))
      (fun i => x3 (ix4 0 0 (i 0) (i 1))) (fun i => x0 (ix3 0 (i 0) (i 1))) t d := by
  have e1 : k0_pay121 x0 x1 x2 x3 = fun i => x1 (ix4 0 0 (i 0) (i 1)) := by
    unfold k0_pay121
    rw [View.ld_unit_lit _ _ (by decide)]
    funext i
    pointwise [k0_pay2]
    all_goals rfl
  have e2 : k0_pay122 x0 x1 x2 x3 = fun i => x2 (ix4 0 0 (i 0) (i 1)) := by
    unfold k0_pay122
    rw [View.ld_unit_lit _ _ (by decide)]
    funext i
    pointwise [k0_pay3]
    all_goals rfl
  have e3 : k0_pay123 x0 x1 x2 x3 = fun i => x3 (ix4 0 0 (i 0) (i 1)) := by
    unfold k0_pay123
    rw [View.ld_unit_lit _ _ (by decide)]
    funext i
    pointwise [k0_pay4]
    all_goals rfl
  have e0 : shapeCast S16x16 (View.ld x0 r0_1) shapeCasts_S1x16x16_S16x16 = fun i => x0 (ix3 0 (i 0) (i 1)) := by
    rw [View.ld_unit_lit _ _ (by decide)]
    funext i
    pointwise []
    all_goals rfl
  unfold out0_4
  rw [View.canon_cons_unit_lit _ _ _ (by decide), payload_eq, e0, e1, e2, e3, result_at]
  refine Finset.sum_congr rfl fun j _ => ?_
  rw [term_at _ _ _ _ _ _ _ _ (lane_at x0 x1 x2 x3 t)]
  simp only [pay90_at, route_at]

/-- The arrays' one head. -/
def headOf (x : FVec Ideal S1x12x2048x64 .f32) (h : Fin 12) : FVec Ideal S2048x64 .f32 := fun i => x (ix4 0 h (i 0) (i 1))

/-- The noise's one head. -/
def noiseHead (g : FVec Ideal S12x16x16 .f32) (h : Fin 12) : FVec Ideal S16x16 .f32 := fun i => g (ix3 h (i 0) (i 1))

/-- The whole result. -/
def outVal (q k v : FVec Ideal S1x12x2048x64 .f32) (g : FVec Ideal S12x16x16 .f32) : FVec Ideal S1x12x2048x64 .f32 :=
  fun y => headVal (headOf q (y 1)) (headOf k (y 1)) (headOf v (y 1)) (noiseHead g (y 1)) (y 2) (y 3)

/-- Where the blocks of a grid point lie. -/
theorem idx : ∀ t : Fin cfg0.N, win0_0.index t = ![t.val, 0, 0] ∧ win0_1.index t = ![0, t.val, 0, 0] ∧ win0_2.index t = ![0, t.val, 0, 0]
    ∧ win0_3.index t = ![0, t.val, 0, 0] ∧ win0_4.index t = ![0, t.val, 0, 0] ∧ t.val < 12 :=
  (by decide +kernel : ∀ t : Fin grid0.N, _)

variable (m : (ℓ : Loc nD τ sig) → Buf (Elt Ideal) ℓ)

/-- Window 0's block at point `t` of any contents is their head `t`. -/
theorem read0 (c : Dev nD) (t : Fin cfg0.N) (W : Buf (Elt Ideal) ((c : Thread nD τ).loc main_call0_v15)) (i j : Fin 16) :
    (((cfg0.win 0).blk t).view.read (Elt Ideal) W : Vec Ideal S1x16x16 .f32) (ix3 0 i j) = W (ix3 ⟨t.val, (idx t).2.2.2.2.2⟩ i j) := by
  blk_ext [idx t]

/-- Window 0's block at point `t` is head `t` of the noise. -/
theorem blk0 (c : Dev nD) (t : Fin cfg0.N) (i j : Fin 16) :
    (iblk m c 0 t : Vec Ideal S1x16x16 .f32) (ix3 0 i j) = V m c main_call0_v15 (ix3 ⟨t.val, (idx t).2.2.2.2.2⟩ i j) :=
  read0 c t (V m c main_call0_v15) i j

/-- Window 1's block at point `t` is head `t` of its array. -/
theorem blk1 (c : Dev nD) (t : Fin cfg0.N) (s : Fin 2048) (d : Fin 64) :
    (iblk m c 1 t : Vec Ideal S1x1x2048x64 .f32) (ix4 0 0 s d) = m ((c : Thread nD τ).loc main_arg0) (ix4 0 ⟨t.val, (idx t).2.2.2.2.2⟩ s d) := by
  blk_simp [iblk, idx t]
  rw [V_main_arg0]
  blk_ext [idx t]

/-- Window 2's block at point `t` is head `t` of its array. -/
theorem blk2 (c : Dev nD) (t : Fin cfg0.N) (s : Fin 2048) (d : Fin 64) :
    (iblk m c 2 t : Vec Ideal S1x1x2048x64 .f32) (ix4 0 0 s d) = m ((c : Thread nD τ).loc main_arg1) (ix4 0 ⟨t.val, (idx t).2.2.2.2.2⟩ s d) := by
  blk_simp [iblk, idx t]
  rw [V_main_arg1]
  blk_ext [idx t]

/-- Window 3's block at point `t` is head `t` of its array. -/
theorem blk3 (c : Dev nD) (t : Fin cfg0.N) (s : Fin 2048) (d : Fin 64) :
    (iblk m c 3 t : Vec Ideal S1x1x2048x64 .f32) (ix4 0 0 s d) = m ((c : Thread nD τ).loc main_arg2) (ix4 0 ⟨t.val, (idx t).2.2.2.2.2⟩ s d) := by
  blk_simp [iblk, idx t]
  rw [V_main_arg2]
  blk_ext [idx t]

/-- Where an entry of the stored block lands. -/
theorem place (t : Fin cfg0.N) (s : Fin 2048) (d : Fin 64) :
    ((win0_4.blk t).view.emb (ix4 (0 : Fin 1) (0 : Fin 1) s d) : S1x12x2048x64.Idx) = ix4 (0 : Fin 1) (⟨t.val, (idx t).2.2.2.2.2⟩ : Fin 12) s d := by
  blk_ext [idx t]

/-- What a point stores is its head of the result. -/
theorem point (c : Dev nD) (t : Fin cfg0.N) (s : Fin 2048) (d : Fin 64) :
    out0_4 (iblk m c 0 t) (iblk m c 1 t) (iblk m c 2 t) (iblk m c 3 t) (ix4 0 0 s d)
      = outVal (m ((c : Thread nD τ).loc main_arg0)) (m ((c : Thread nD τ).loc main_arg1)) (m ((c : Thread nD τ).loc main_arg2))
        (V m c main_call0_v15) (ix4 0 ⟨t.val, (idx t).2.2.2.2.2⟩ s d) := by
  refine (out_at _ _ _ _ _ _).trans ?_
  have g0 := funext fun i : S16x16.Idx => blk0 m c t (i 0) (i 1)
  have g1 := funext fun i : S2048x64.Idx => blk1 m c t (i 0) (i 1)
  have g2 := funext fun i : S2048x64.Idx => blk2 m c t (i 0) (i 1)
  have g3 := funext fun i : S2048x64.Idx => blk3 m c t (i 0) (i 1)
  rw [g0, g1, g2, g3]
  generalize V m c main_call0_v15 = W
  rfl

/-- The array after the run. -/
theorem final (c : Dev nD) : (dats m 0 c).arrAt 4 cfg0.N
    = outVal (m ((c : Thread nD τ).loc main_arg0)) (m ((c : Thread nD τ).loc main_arg1)) (m ((c : Thread nD τ).loc main_arg2))
        (V m c main_call0_v15) := by
  have hp := point m c
  generalize V m c main_call0_v15 = W at hp ⊢
  refine (dats m 0 c).arrAt_eq_of_covers 4 _ (by decide +kernel) fun t _ y => ?_
  blk_simp
  rw [after0_4]
  have hy : (y : S1x1x2048x64.Idx) = ix4 (0 : Fin 1) (0 : Fin 1) (y 2 : Fin 2048) (y 3 : Fin 64) := by
    blk_ext []
  rw [hy]
  refine (hp t (y 2) (y 3)).trans ?_
  exact congrArg _ (place t (y 2) (y 3)).symm

attribute [local irreducible] StableHlo.after in
/-- The first operand is the noise. -/
theorem noise_in (c : Dev nD) : (show FVec Ideal S12x16x16 .f32 from V m c main_call0_v15) = HostLine.noise (F := Ideal) :=
  Line.noise_eq (Line.ordered.fixed (fun b => m (c, b)))

/-- The kernel runs, leaves its arguments as they were, and its result array holds the weighted sums, over the noise. -/
theorem run (ρ : Dev nD → PrngReg) : θ_run defs (onTc (τ := τ) (main (F := Ideal))) ⟨m, fun _ => 0, ρ⟩ fun r => ∀ c : Dev nD,
      r.2.mem ((c : Thread nD τ).loc main_v0) = outVal (m ((c : Thread nD τ).loc main_arg0)) (m ((c : Thread nD τ).loc main_arg1))
        (m ((c : Thread nD τ).loc main_arg2)) HostLine.noise
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  refine (θ_run defs _ _).mono (fun r h c => ⟨?_, (h c).2⟩) (Value.run_blocks m ρ)
  rw [(h c).1, final m c]
  exact congrArg (outVal _ _ _) (noise_in m c)

end Cert.KernelIdeal.Model

end
-- ==== Proof.RefFns.lean ====
/-
  The reference's stages as functions of arrays, and each stage read off a line of host operations that computes it.
-/
module

public import proofs.«01_k».proof.Proof.RefRun

@[expose] public section

set_option maxRecDepth 65536

noncomputable section

namespace Cert.ReferenceIdeal.Line

open Idealize.ShloMosaic Idealize.ShloMosaic.TcCoe Idealize.ShloMosaic.StableHlo
open Cert.ReferenceIdeal Cert.ReferenceIdeal.Facts₀ Cert.ReferenceIdeal.Facts HostLine

variable {F : FTy → Type} [FloatOps F] {σ : Valuation τ sig (Elt F)}

/-! ## The stages -/

/-- The block sums' products, scaled and cut at zero. -/
def reluR (q k : FVec F S12x16x128x64 .f32) : FVec F S12x16x16 .f32 :=
  maximumf (mulf (Host.dotGeneral dot_S12x16x64_S12x16x64_S12x16x16_2_2_1_1_0_0 none
      (Host.reduceAdd q (constant S_ .f32 0x00000000#32) reducesTo_S12x16x128x64_S12x16x64_d2 h_S_)
      (Host.reduceAdd k (constant S_ .f32 0x00000000#32) reducesTo_S12x16x128x64_S12x16x64_d2 h_S_))
    (broadcastInDim S12x16x16 ![] bcast_S_S12x16x16 (constant S_ .f32 0x3E000000#32)))
    (broadcastInDim S12x16x16 ![] bcast_S_S12x16x16 (constant S_ .f32 0x00000000#32))

/-- The logarithm, a little above zero. -/
def logR (x : FVec F S12x16x16 .f32) : FVec F S12x16x16 .f32 :=
  Host.log (addf x (broadcastInDim S12x16x16 ![] bcast_S_S12x16x16 (constant S_ .f32 0x358637BD#32)))

/-- The sum with the noise, over the temperature. -/
def temperR (x n : FVec F S12x16x16 .f32) : FVec F S12x16x16 .f32 :=
  Host.divf (addf x n) (broadcastInDim S12x16x16 ![] bcast_S_S12x16x16 (constant S_ .f32 0x3F400000#32))

/-- The row maxima. -/
def rowTopR (x : FVec F S12x16x16 .f32) : FVec F S12x16x1 .f32 :=
  broadcastInDim S12x16x1 ![0, 1] bcast_S12x16_S12x16x1_0_1
    (Host.reduce FloatOps.maximumf x (constant S_ .f32 0xFF800000#32) reducesTo_S12x16x16_S12x16_d2 h_S_)

/-- The row maxima where finite, zero elsewhere. -/
def rowCapR (x : FVec F S12x16x16 .f32) : FVec F S12x16x1 .f32 :=
  select (cmpf .olt (Host.absf (rowTopR x)) (broadcastInDim S12x16x1 ![] bcast_S_S12x16x1 (constant S_ .f32 0x7F800000#32)))
    (rowTopR x) (broadcastInDim S12x16x1 ![] bcast_S_S12x16x1 (constant S_ .f32 0x00000000#32))

/-- Each row less the logarithm of its sum of exponentials. -/
def rowHalfR (x : FVec F S12x16x16 .f32) : FVec F S12x16x16 .f32 :=
  subf x (broadcastInDim S12x16x16 ![0, 1, 2] bcast_S12x16x1_S12x16x16_0_1_2
    (addf (Host.log (broadcastInDim S12x16x1 ![0, 1] bcast_S12x16_S12x16x1_0_1
        (Host.reduceAdd (Host.exp (subf x (broadcastInDim S12x16x16 ![0, 1, 2] bcast_S12x16x1_S12x16x16_0_1_2 (rowCapR x))))
          (constant S_ .f32 0x00000000#32) reducesTo_S12x16x16_S12x16_d2 h_S_)))
      (rowCapR x)))

/-- The column maxima. -/
def colTopR (x : FVec F S12x16x16 .f32) : FVec F S12x1x16 .f32 :=
  broadcastInDim S12x1x16 ![0, 2] bcast_S12x16_S12x1x16_0_2
    (Host.reduce FloatOps.maximumf x (constant S_ .f32 0xFF800000#32) reducesTo_S12x16x16_S12x16_d1 h_S_)

/-- The column maxima where finite, zero elsewhere. -/
def colCapR (x : FVec F S12x16x16 .f32) : FVec F S12x1x16 .f32 :=
  select (cmpf .olt (Host.absf (colTopR x)) (broadcastInDim S12x1x16 ![] bcast_S_S12x1x16 (constant S_ .f32 0x7F800000#32)))
    (colTopR x) (broadcastInDim S12x1x16 ![] bcast_S_S12x1x16 (constant S_ .f32 0x00000000#32))

/-- Each column less the logarithm of its sum of exponentials. -/
def colHalfR (x : FVec F S12x16x16 .f32) : FVec F S12x16x16 .f32 :=
  subf x (broadcastInDim S12x16x16 ![0, 1, 2] bcast_S12x1x16_S12x16x16_0_1_2
    (addf (Host.log (broadcastInDim S12x1x16 ![0, 2] bcast_S12x16_S12x1x16_0_2
        (Host.reduceAdd (Host.exp (subf x (broadcastInDim S12x16x16 ![0, 1, 2] bcast_S12x1x16_S12x16x16_0_1_2 (colCapR x))))
          (constant S_ .f32 0x00000000#32) reducesTo_S12x16x16_S12x16_d1 h_S_)))
      (colCapR x)))

/-- The rows of block `i`, then the rows of block `j`, for every pair. -/
def pairR (x : FVec F S12x16x128x64 .f32) : FVec F S12x16x16x256x64 .f32 :=
  concatenate S12x16x16x256x64 3
    [⟨S12x16x16x128x64, broadcastInDim S12x16x16x128x64 ![0, 1, 2, 3, 4] bcast_S12x16x1x128x64_S12x16x16x128x64_0_1_2_3_4
        (broadcastInDim S12x16x1x128x64 ![0, 1, 3, 4] bcast_S12x16x128x64_S12x16x1x128x64_0_1_3_4 x)⟩,
     ⟨S12x16x16x128x64, broadcastInDim S12x16x16x128x64 ![0, 1, 2, 3, 4] bcast_S12x1x16x128x64_S12x16x16x128x64_0_1_2_3_4
        (broadcastInDim S12x1x16x128x64 ![0, 2, 3, 4] bcast_S12x16x128x64_S12x1x16x128x64_0_2_3_4 x)⟩]
    concatenates_S12x16x16x128x64_S12x16x16x128x64_S12x16x16x256x64_d3

/-- The scaled products of paired keys with queries. -/
def scoresR (k : FVec F S12x16x16x256x64 .f32) (q : FVec F S12x16x128x64 .f32) : FVec F S12x16x16x128x256 .f32 :=
  mulf (transpose S12x16x16x128x256 [0, 1, 2, 4, 3]
      (Host.dotGeneral dot_S12x16x16x256x64_S12x16x128x64_S12x16x16x256x128_4_3_23_2_01_01 none k q)
      transposes_S12x16x16x256x128_S12x16x16x128x256_0_1_2_4_3)
    (broadcastInDim S12x16x16x128x256 ![] bcast_S_S12x16x16x128x256 (constant S_ .f32 0x3E000000#32))

/-- The exponentials taken below the maximum. -/
def softTopR (x : FVec F S12x16x16x128x256 .f32) : FVec F S12x16x16x128x256 .f32 :=
  Host.exp (subf x (broadcastInDim S12x16x16x128x256 ![0, 1, 2, 3, 4] bcast_S12x16x16x128x1_S12x16x16x128x256_0_1_2_3_4
    (broadcastInDim S12x16x16x128x1 ![0, 1, 2, 3] bcast_S12x16x16x128_S12x16x16x128x1_0_1_2_3
      (maximumf (broadcastInDim S12x16x16x128 ![] bcast_S_S12x16x16x128 (constant S_ .f32 0xFF800000#32))
        (Host.reduce FloatOps.maximumf x (constant S_ .f32 0xFF800000#32) reducesTo_S12x16x16x128x256_S12x16x16x128_d4 h_S_)))))

/-- The normalised exponentials. -/
def softR (x : FVec F S12x16x16x128x256 .f32) : FVec F S12x16x16x128x256 .f32 :=
  Host.divf (softTopR x) (broadcastInDim S12x16x16x128x256 ![0, 1, 2, 3, 4] bcast_S12x16x16x128x1_S12x16x16x128x256_0_1_2_3_4
    (broadcastInDim S12x16x16x128x1 ![0, 1, 2, 3] bcast_S12x16x16x128_S12x16x16x128x1_0_1_2_3
      (Host.reduceAdd (softTopR x) (constant S_ .f32 0x00000000#32) reducesTo_S12x16x16x128x256_S12x16x16x128_d4 h_S_)))

/-- The weighted values. -/
def valuesR (w : FVec F S12x16x16x128x256 .f32) (v : FVec F S12x16x16x256x64 .f32) : FVec F S12x16x16x128x64 .f32 :=
  Host.dotGeneral dot_S12x16x16x128x256_S12x16x16x256x64_S12x16x16x128x64_4_3_3_4_012_012 none w v

/-- The entries above the threshold, zero elsewhere. -/
def keepR (x : FVec F S12x16x16 .f32) : FVec F S12x16x16 .f32 :=
  select (cmpf .ogt x (broadcastInDim S12x16x16 ![] bcast_S_S12x16x16 (constant S_ .f32 0x3A83126F#32))) x
    (broadcastInDim S12x16x16 ![] bcast_S_S12x16x16 (constant S_ .f32 0x00000000#32))

/-- The sum over the partner blocks, each weighted by its routing entry. -/
def totalR (a : FVec F S12x16x16x128x64 .f32) (r : FVec F S12x16x16 .f32) : FVec F S12x16x128x64 .f32 :=
  Host.reduceAdd (mulf a (broadcastInDim S12x16x16x128x64 ![0, 1, 2, 3, 4] bcast_S12x16x16x1x1_S12x16x16x128x64_0_1_2_3_4
      (broadcastInDim S12x16x16x1x1 ![0, 1, 2] bcast_S12x16x16_S12x16x16x1x1_0_1_2 r)))
    (constant S_ .f32 0x00000000#32) reducesTo_S12x16x16x128x64_S12x16x128x64_d2 h_S_

/-- The reference after its reshapes: the logits, the seven normalising steps, the threshold, and the paired attention. -/
def stepR (x : FVec F S12x16x16 .f32) : FVec F S12x16x16 .f32 := colHalfR (rowHalfR x)

/-! ## Read off a line -/

/-- The scaled products of the block sums, cut at zero, off a line that computes them. -/
theorem logits_of {cst cst_0 cst_1 rcst : TRef sig ⟨S_, .f32⟩} {v3 v4 : TRef sig ⟨S12x16x128x64, .f32⟩} {v6 v7 : TRef sig ⟨S12x16x64, .f32⟩} {v8 v9 v10 rb v11 : TRef sig ⟨S12x16x16, .f32⟩}
    (h : Holds σ [TRef.nullary cst (constant S_ .f32 0x00000000#32),
      TRef.binary v3 cst v6 ((fun x v => Host.reduceAdd x v reducesTo_S12x16x128x64_S12x16x64_d2 h_S_)),
      TRef.nullary cst_0 (constant S_ .f32 0x00000000#32),
      TRef.binary v4 cst_0 v7 ((fun x v => Host.reduceAdd x v reducesTo_S12x16x128x64_S12x16x64_d2 h_S_)),
      TRef.binary v6 v7 v8 ((fun l r => Host.dotGeneral dot_S12x16x64_S12x16x64_S12x16x16_2_2_1_1_0_0 none l r)),
      TRef.nullary cst_1 (constant S_ .f32 0x3E000000#32),
      TRef.unary cst_1 v9 (broadcastInDim S12x16x16 ![] bcast_S_S12x16x16),
      TRef.binary v8 v9 v10 (mulf),
      TRef.nullary rcst (constant S_ .f32 0x00000000#32),
      TRef.unary rcst rb (broadcastInDim S12x16x16 ![] bcast_S_S12x16x16),
      TRef.binary v10 rb v11 (maximumf)]) :
    at' v11 σ = reluR (at' v3 σ) (at' v4 σ) := by
  simp only [Holds.cons_iff, Holds.nil_iff, binary_holds, unary_holds, nullary_holds, ternary_holds, reshape_holds] at h
  obtain ⟨h1, h2, h3, h4, h5, h6, h7, h8, h9, h10, h11, -⟩ := h
  rw [h11, h10, h9, h8, h7, h6, h5, h4, h3, h2, h1]; rfl

/-- Their logarithms. -/
theorem logits_log_of {cst_4 : TRef sig ⟨S_, .f32⟩} {v19 v11 v20 v21 : TRef sig ⟨S12x16x16, .f32⟩}
    (h : Holds σ [TRef.nullary cst_4 (constant S_ .f32 0x358637BD#32),
      TRef.unary cst_4 v19 (broadcastInDim S12x16x16 ![] bcast_S_S12x16x16),
      TRef.binary v11 v19 v20 (addf),
      TRef.unary v20 v21 (Host.log)]) :
    at' v21 σ = logR (at' v11 σ) := by
  simp only [Holds.cons_iff, Holds.nil_iff, binary_holds, unary_holds, nullary_holds, ternary_holds, reshape_holds] at h
  obtain ⟨h1, h2, h3, h4, -⟩ := h
  rw [h4, h3, h2, h1]; rfl

/-- The logits with the noise, over the temperature. -/
theorem logits_end_of {v21 v30 v31 v32 v33 : TRef sig ⟨S12x16x16, .f32⟩} {cst_9 : TRef sig ⟨S_, .f32⟩}
    (h : Holds σ [TRef.binary v21 v30 v31 (addf),
      TRef.nullary cst_9 (constant S_ .f32 0x3F400000#32),
      TRef.unary cst_9 v32 (broadcastInDim S12x16x16 ![] bcast_S_S12x16x16),
      TRef.binary v31 v32 v33 (Host.divf)]) :
    at' v33 σ = temperR (at' v21 σ) (at' v30 σ) := by
  simp only [Holds.cons_iff, Holds.nil_iff, binary_holds, unary_holds, nullary_holds, ternary_holds, reshape_holds] at h
  obtain ⟨h1, h2, h3, h4, -⟩ := h
  rw [h4, h3, h2, h1]; rfl

/-- A normalising half step along the rows. -/
theorem row_of {cst_10 cst_11 cst_12 w0 cst_13 : TRef sig ⟨S_, .f32⟩} {v33 v40 v41 v42 v47 v48 : TRef sig ⟨S12x16x16, .f32⟩} {v34 v43 : TRef sig ⟨S12x16, .f32⟩} {v35 v36 v37 w1 v39 v44 v45 v46 : TRef sig ⟨S12x16x1, .f32⟩} {v38 : TRef sig ⟨S12x16x1, .i1⟩}
    (h : Holds σ [TRef.nullary cst_10 (constant S_ .f32 0xFF800000#32),
      TRef.binary v33 cst_10 v34 ((fun x v => Host.reduce FloatOps.maximumf x v reducesTo_S12x16x16_S12x16_d2 h_S_)),
      TRef.unary v34 v35 (broadcastInDim S12x16x1 ![0, 1] bcast_S12x16_S12x16x1_0_1),
      TRef.unary v35 v36 (Host.absf),
      TRef.nullary cst_11 (constant S_ .f32 0x7F800000#32),
      TRef.unary cst_11 v37 (broadcastInDim S12x16x1 ![] bcast_S_S12x16x1),
      TRef.binary v36 v37 v38 (cmpf .olt),
      TRef.nullary cst_12 (constant S_ .f32 0x00000000#32),
      TRef.unary cst_12 w0 id,
      TRef.unary w0 w1 (broadcastInDim S12x16x1 ![] bcast_S_S12x16x1),
      TRef.ternary v38 v35 w1 v39 select,
      TRef.unary v39 v40 (broadcastInDim S12x16x16 ![0, 1, 2] bcast_S12x16x1_S12x16x16_0_1_2),
      TRef.binary v33 v40 v41 (subf),
      TRef.unary v41 v42 (Host.exp),
      TRef.nullary cst_13 (constant S_ .f32 0x00000000#32),
      TRef.binary v42 cst_13 v43 ((fun x v => Host.reduceAdd x v reducesTo_S12x16x16_S12x16_d2 h_S_)),
      TRef.unary v43 v44 (broadcastInDim S12x16x1 ![0, 1] bcast_S12x16_S12x16x1_0_1),
      TRef.unary v44 v45 (Host.log),
      TRef.binary v45 v39 v46 (addf),
      TRef.unary v46 v47 (broadcastInDim S12x16x16 ![0, 1, 2] bcast_S12x16x1_S12x16x16_0_1_2),
      TRef.binary v33 v47 v48 (subf)]) :
    at' v48 σ = rowHalfR (at' v33 σ) := by
  simp only [Holds.cons_iff, Holds.nil_iff, binary_holds, unary_holds, nullary_holds, ternary_holds, reshape_holds] at h
  obtain ⟨h1, h2, h3, h4, h5, h6, h7, h8, h9, h10, h11, h12, h13, h14, h15, h16, h17, h18, h19, h20, h21, -⟩ := h
  rw [h21, h20, h19, h18, h17, h16, h15, h14, h13, h12, h11, h10, h9, h8, h7, h6, h5, h4, h3, h2, h1]; rfl

/-- A normalising half step along the columns. -/
theorem col_of {cst_14 cst_15 cst_16 w0 cst_17 : TRef sig ⟨S_, .f32⟩} {v48 v55 v56 v57 v62 v63 : TRef sig ⟨S12x16x16, .f32⟩} {v49 v58 : TRef sig ⟨S12x16, .f32⟩} {v50 v51 v52 w1 v54 v59 v60 v61 : TRef sig ⟨S12x1x16, .f32⟩} {v53 : TRef sig ⟨S12x1x16, .i1⟩}
    (h : Holds σ [TRef.nullary cst_14 (constant S_ .f32 0xFF800000#32),
      TRef.binary v48 cst_14 v49 ((fun x v => Host.reduce FloatOps.maximumf x v reducesTo_S12x16x16_S12x16_d1 h_S_)),
      TRef.unary v49 v50 (broadcastInDim S12x1x16 ![0, 2] bcast_S12x16_S12x1x16_0_2),
      TRef.unary v50 v51 (Host.absf),
      TRef.nullary cst_15 (constant S_ .f32 0x7F800000#32),
      TRef.unary cst_15 v52 (broadcastInDim S12x1x16 ![] bcast_S_S12x1x16),
      TRef.binary v51 v52 v53 (cmpf .olt),
      TRef.nullary cst_16 (constant S_ .f32 0x00000000#32),
      TRef.unary cst_16 w0 id,
      TRef.unary w0 w1 (broadcastInDim S12x1x16 ![] bcast_S_S12x1x16),
      TRef.ternary v53 v50 w1 v54 select,
      TRef.unary v54 v55 (broadcastInDim S12x16x16 ![0, 1, 2] bcast_S12x1x16_S12x16x16_0_1_2),
      TRef.binary v48 v55 v56 (subf),
      TRef.unary v56 v57 (Host.exp),
      TRef.nullary cst_17 (constant S_ .f32 0x00000000#32),
      TRef.binary v57 cst_17 v58 ((fun x v => Host.reduceAdd x v reducesTo_S12x16x16_S12x16_d1 h_S_)),
      TRef.unary v58 v59 (broadcastInDim S12x1x16 ![0, 2] bcast_S12x16_S12x1x16_0_2),
      TRef.unary v59 v60 (Host.log),
      TRef.binary v60 v54 v61 (addf),
      TRef.unary v61 v62 (broadcastInDim S12x16x16 ![0, 1, 2] bcast_S12x1x16_S12x16x16_0_1_2),
      TRef.binary v48 v62 v63 (subf)]) :
    at' v63 σ = colHalfR (at' v48 σ) := by
  simp only [Holds.cons_iff, Holds.nil_iff, binary_holds, unary_holds, nullary_holds, ternary_holds, reshape_holds] at h
  obtain ⟨h1, h2, h3, h4, h5, h6, h7, h8, h9, h10, h11, h12, h13, h14, h15, h16, h17, h18, h19, h20, h21, -⟩ := h
  rw [h21, h20, h19, h18, h17, h16, h15, h14, h13, h12, h11, h10, h9, h8, h7, h6, h5, h4, h3, h2, h1]; rfl

/-- The routing matrix before the threshold. -/
theorem exp_of {v243 v244 : TRef sig ⟨S12x16x16, .f32⟩}
    (h : Holds σ [TRef.unary v243 v244 (Host.exp)]) :
    at' v244 σ = Host.exp (at' v243 σ) := by
  simp only [Holds.cons_iff, Holds.nil_iff, binary_holds, unary_holds, nullary_holds, ternary_holds, reshape_holds] at h
  obtain ⟨h1, -⟩ := h
  rw [h1]

/-- Two blocks of rows, one after the other, for every pair of blocks. -/
theorem pair_of {v4 : TRef sig ⟨S12x16x128x64, .f32⟩} {v245 : TRef sig ⟨S12x16x1x128x64, .f32⟩} {v246 v248 : TRef sig ⟨S12x16x16x128x64, .f32⟩} {v247 : TRef sig ⟨S12x1x16x128x64, .f32⟩} {v249 : TRef sig ⟨S12x16x16x256x64, .f32⟩}
    (h : Holds σ [TRef.unary v4 v245 (broadcastInDim S12x16x1x128x64 ![0, 1, 3, 4] bcast_S12x16x128x64_S12x16x1x128x64_0_1_3_4),
      TRef.unary v245 v246 (broadcastInDim S12x16x16x128x64 ![0, 1, 2, 3, 4] bcast_S12x16x1x128x64_S12x16x16x128x64_0_1_2_3_4),
      TRef.unary v4 v247 (broadcastInDim S12x1x16x128x64 ![0, 2, 3, 4] bcast_S12x16x128x64_S12x1x16x128x64_0_2_3_4),
      TRef.unary v247 v248 (broadcastInDim S12x16x16x128x64 ![0, 1, 2, 3, 4] bcast_S12x1x16x128x64_S12x16x16x128x64_0_1_2_3_4),
      TRef.binary v246 v248 v249 ((fun a b => concatenate S12x16x16x256x64 3 [⟨S12x16x16x128x64, a⟩, ⟨S12x16x16x128x64, b⟩] concatenates_S12x16x16x128x64_S12x16x16x128x64_S12x16x16x256x64_d3))]) :
    at' v249 σ = pairR (at' v4 σ) := by
  simp only [Holds.cons_iff, Holds.nil_iff, binary_holds, unary_holds, nullary_holds, ternary_holds, reshape_holds] at h
  obtain ⟨h1, h2, h3, h4, h5, -⟩ := h
  rw [h5, h4, h3, h2, h1]; rfl

/-- The scaled products of the paired keys with the queries. -/
theorem scores_of {v249 : TRef sig ⟨S12x16x16x256x64, .f32⟩} {v3 : TRef sig ⟨S12x16x128x64, .f32⟩} {v255 : TRef sig ⟨S12x16x16x256x128, .f32⟩} {v256 v257 v258 : TRef sig ⟨S12x16x16x128x256, .f32⟩} {cst_66 : TRef sig ⟨S_, .f32⟩}
    (h : Holds σ [TRef.binary v249 v3 v255 ((fun l r => Host.dotGeneral dot_S12x16x16x256x64_S12x16x128x64_S12x16x16x256x128_4_3_23_2_01_01 none l r)),
      TRef.unary v255 v256 ((transpose S12x16x16x128x256 [0, 1, 2, 4, 3] · transposes_S12x16x16x256x128_S12x16x16x128x256_0_1_2_4_3)),
      TRef.nullary cst_66 (constant S_ .f32 0x3E000000#32),
      TRef.unary cst_66 v257 (broadcastInDim S12x16x16x128x256 ![] bcast_S_S12x16x16x128x256),
      TRef.binary v256 v257 v258 (mulf)]) :
    at' v258 σ = scoresR (at' v249 σ) (at' v3 σ) := by
  simp only [Holds.cons_iff, Holds.nil_iff, binary_holds, unary_holds, nullary_holds, ternary_holds, reshape_holds] at h
  obtain ⟨h1, h2, h3, h4, h5, -⟩ := h
  rw [h5, h4, h3, h2, h1]; rfl

/-- The normalised exponentials. -/
theorem soft_of {cst_67 cst_68 cst_69 : TRef sig ⟨S_, .f32⟩} {v258 v263 v264 v265 v268 v269 : TRef sig ⟨S12x16x16x128x256, .f32⟩} {v259 v260 v261 v266 : TRef sig ⟨S12x16x16x128, .f32⟩} {v262 v267 : TRef sig ⟨S12x16x16x128x1, .f32⟩}
    (h : Holds σ [TRef.nullary cst_67 (constant S_ .f32 0xFF800000#32),
      TRef.binary v258 cst_67 v259 ((fun x v => Host.reduce FloatOps.maximumf x v reducesTo_S12x16x16x128x256_S12x16x16x128_d4 h_S_)),
      TRef.nullary cst_68 (constant S_ .f32 0xFF800000#32),
      TRef.unary cst_68 v260 (broadcastInDim S12x16x16x128 ![] bcast_S_S12x16x16x128),
      TRef.binary v260 v259 v261 (maximumf),
      TRef.unary v261 v262 (broadcastInDim S12x16x16x128x1 ![0, 1, 2, 3] bcast_S12x16x16x128_S12x16x16x128x1_0_1_2_3),
      TRef.unary v262 v263 (broadcastInDim S12x16x16x128x256 ![0, 1, 2, 3, 4] bcast_S12x16x16x128x1_S12x16x16x128x256_0_1_2_3_4),
      TRef.binary v258 v263 v264 (subf),
      TRef.unary v264 v265 (Host.exp),
      TRef.nullary cst_69 (constant S_ .f32 0x00000000#32),
      TRef.binary v265 cst_69 v266 ((fun x v => Host.reduceAdd x v reducesTo_S12x16x16x128x256_S12x16x16x128_d4 h_S_)),
      TRef.unary v266 v267 (broadcastInDim S12x16x16x128x1 ![0, 1, 2, 3] bcast_S12x16x16x128_S12x16x16x128x1_0_1_2_3),
      TRef.unary v267 v268 (broadcastInDim S12x16x16x128x256 ![0, 1, 2, 3, 4] bcast_S12x16x16x128x1_S12x16x16x128x256_0_1_2_3_4),
      TRef.binary v265 v268 v269 (Host.divf)]) :
    at' v269 σ = softR (at' v258 σ) := by
  simp only [Holds.cons_iff, Holds.nil_iff, binary_holds, unary_holds, nullary_holds, ternary_holds, reshape_holds] at h
  obtain ⟨h1, h2, h3, h4, h5, h6, h7, h8, h9, h10, h11, h12, h13, h14, -⟩ := h
  rw [h14, h13, h12, h11, h10, h9, h8, h7, h6, h5, h4, h3, h2, h1]; rfl

/-- The weighted values. -/
theorem attn_of {v269 : TRef sig ⟨S12x16x16x128x256, .f32⟩} {v254 : TRef sig ⟨S12x16x16x256x64, .f32⟩} {v270 : TRef sig ⟨S12x16x16x128x64, .f32⟩}
    (h : Holds σ [TRef.binary v269 v254 v270 ((fun l r => Host.dotGeneral dot_S12x16x16x128x256_S12x16x16x256x64_S12x16x16x128x64_4_3_3_4_012_012 none l r))]) :
    at' v270 σ = valuesR (at' v269 σ) (at' v254 σ) := by
  simp only [Holds.cons_iff, Holds.nil_iff, binary_holds, unary_holds, nullary_holds, ternary_holds, reshape_holds] at h
  obtain ⟨h1, -⟩ := h
  rw [h1]; rfl

/-- The entries above the threshold. -/
theorem keep_of {cst_70 cst_71 w0 : TRef sig ⟨S_, .f32⟩} {v271 v244 w1 v273 : TRef sig ⟨S12x16x16, .f32⟩} {v272 : TRef sig ⟨S12x16x16, .i1⟩}
    (h : Holds σ [TRef.nullary cst_70 (constant S_ .f32 0x3A83126F#32),
      TRef.unary cst_70 v271 (broadcastInDim S12x16x16 ![] bcast_S_S12x16x16),
      TRef.binary v244 v271 v272 (cmpf .ogt),
      TRef.nullary cst_71 (constant S_ .f32 0x00000000#32),
      TRef.unary cst_71 w0 id,
      TRef.unary w0 w1 (broadcastInDim S12x16x16 ![] bcast_S_S12x16x16),
      TRef.ternary v272 v244 w1 v273 select]) :
    at' v273 σ = keepR (at' v244 σ) := by
  simp only [Holds.cons_iff, Holds.nil_iff, binary_holds, unary_holds, nullary_holds, ternary_holds, reshape_holds] at h
  obtain ⟨h1, h2, h3, h4, h5, h6, h7, -⟩ := h
  rw [h7, h6, h5, h4, h3, h2, h1]; rfl

/-- The sum over the partner blocks, each weighted by its routing entry. -/
theorem total_of {v273 : TRef sig ⟨S12x16x16, .f32⟩} {v274 : TRef sig ⟨S12x16x16x1x1, .f32⟩} {v275 v270 v276 : TRef sig ⟨S12x16x16x128x64, .f32⟩} {cst_72 : TRef sig ⟨S_, .f32⟩} {v277 : TRef sig ⟨S12x16x128x64, .f32⟩}
    (h : Holds σ [TRef.unary v273 v274 (broadcastInDim S12x16x16x1x1 ![0, 1, 2] bcast_S12x16x16_S12x16x16x1x1_0_1_2),
      TRef.unary v274 v275 (broadcastInDim S12x16x16x128x64 ![0, 1, 2, 3, 4] bcast_S12x16x16x1x1_S12x16x16x128x64_0_1_2_3_4),
      TRef.binary v270 v275 v276 (mulf),
      TRef.nullary cst_72 (constant S_ .f32 0x00000000#32),
      TRef.binary v276 cst_72 v277 ((fun x v => Host.reduceAdd x v reducesTo_S12x16x16x128x64_S12x16x128x64_d2 h_S_))]) :
    at' v277 σ = totalR (at' v270 σ) (at' v273 σ) := by
  simp only [Holds.cons_iff, Holds.nil_iff, binary_holds, unary_holds, nullary_holds, ternary_holds, reshape_holds] at h
  obtain ⟨h1, h2, h3, h4, h5, -⟩ := h
  rw [h5, h4, h3, h2, h1]; rfl

end Cert.ReferenceIdeal.Line

end
-- ==== Proof.RefNoise.lean ====
/-
  The array the reference adds to its logits is the noise.
-/
module

public import proofs.«01_k».proof.Proof.Gum
public import proofs.«01_k».proof.Proof.RefOps

@[expose] public section

set_option maxRecDepth 65536

noncomputable section

namespace Cert.ReferenceIdeal.Line

open Idealize.ShloMosaic Idealize.ShloMosaic.TcCoe Idealize.ShloMosaic.StableHlo
open Cert.ReferenceIdeal HostLine

variable {F : FTy → Type} [FloatOps F]

set_option maxHeartbeats 4000000 in
/-- Contents that are a fixed point of the first part's operations hold the noise. -/
theorem noise_eq {σ : Valuation τ sig (Elt F)} (h : Holds σ (ops0 (F := F))) :
    at' (b_S12x16x16_f32 main_v30) σ = noise := by
  have hk := key_of (h.stretch 17 10 rfl)
  have hlo := (Holds.cons_iff _ _ _).mp (h.stretch 31 1 rfl) |>.1
  have hhi := (Holds.cons_iff _ _ _).mp (h.stretch 32 1 rfl) |>.1
  rw [nullary_holds] at hlo hhi
  obtain ⟨hs0, hs1, hc1, hc0, hl, hu⟩ := draw_start_of (h.stretch 33 27 rfl)
  rw [hlo] at hl
  rw [hhi] at hu
  rw [hk] at hs0 hs1
  obtain ⟨ht, hp⟩ := start_of (h.stretch 60 7 rfl)
  have r00 := round_of (h.stretch 67 9 rfl)
  have r01 := round_of (h.stretch 76 9 rfl)
  have r02 := round_of (h.stretch 85 9 rfl)
  have r03 := round_of (h.stretch 94 9 rfl)
  have i0 := inject_of (h.stretch 103 7 rfl)
  have r10 := round_of (h.stretch 110 9 rfl)
  have r11 := round_of (h.stretch 119 9 rfl)
  have r12 := round_of (h.stretch 128 9 rfl)
  have r13 := round_of (h.stretch 137 9 rfl)
  have i1 := inject_of (h.stretch 146 7 rfl)
  have r20 := round_of (h.stretch 153 9 rfl)
  have r21 := round_of (h.stretch 162 9 rfl)
  have r22 := round_of (h.stretch 171 9 rfl)
  have r23 := round_of (h.stretch 180 9 rfl)
  have i2 := inject_of (h.stretch 189 7 rfl)
  have r30 := round_of (h.stretch 196 9 rfl)
  have r31 := round_of (h.stretch 205 9 rfl)
  have r32 := round_of (h.stretch 214 9 rfl)
  have r33 := round_of (h.stretch 223 9 rfl)
  have i3 := inject_of (h.stretch 232 7 rfl)
  have r40 := round_of (h.stretch 239 9 rfl)
  have r41 := round_of (h.stretch 248 9 rfl)
  have r42 := round_of (h.stretch 257 9 rfl)
  have r43 := round_of (h.stretch 266 9 rfl)
  have i4 := inject_of (h.stretch 275 7 rfl)
  rw [hs0, hs1] at ht
  rw [hs0, hs1, hc0, hc1] at hp
  have hb := draw_end_of (h.stretch 282 18 rfl) hl hu
  have hn := noise_of (h.stretch 300 10 rfl)
  have hc := i4
  rw [r43, r42, r41, r40, i3, r33, r32, r31, r30, i2, r23, r22, r21, r20, i1, r13, r12, r11, r10, i0, r03, r02, r01, r00, hp, ht, hs0, hs1] at hc
  refine hn.trans (congrArg noiseOf (hb.trans (congrArg _ ?_)))
  exact congrArg (fun p : IVec A3 32 × IVec A3 32 => xori p.1 p.2) hc

end Cert.ReferenceIdeal.Line

end
-- ==== Proof.RefChain.lean ====
/-
  The reference's result as one function of its arguments.
-/
module

public import proofs.«01_k».proof.Proof.RefFns
public import proofs.«01_k».proof.Proof.RefNoise

@[expose] public section

set_option maxRecDepth 65536

noncomputable section

namespace Cert.ReferenceIdeal.Line

open Idealize.ShloMosaic Idealize.ShloMosaic.TcCoe Idealize.ShloMosaic.StableHlo
open Cert.ReferenceIdeal Cert.ReferenceIdeal.Facts₀ Cert.ReferenceIdeal.Facts HostLine

variable {F : FTy → Type} [FloatOps F]

/-- An argument cut into heads, blocks and rows. -/
def cutR (x : FVec F S1x12x2048x64 .f32) : FVec F S12x16x128x64 .f32 :=
  shapeCast S12x16x128x64 (shapeCast S12x2048x64 x shapeCasts_S1x12x2048x64_S12x2048x64) shapeCasts_S12x2048x64_S12x16x128x64

/-- The logits. -/
def logitsR (q k : FVec F S12x16x128x64 .f32) (n : FVec F S12x16x16 .f32) : FVec F S12x16x16 .f32 :=
  temperR (logR (reluR q k)) n

/-- The routing matrix's logarithm: seven normalising steps from the logits. -/
def routeR (x : FVec F S12x16x16 .f32) : FVec F S12x16x16 .f32 := stepR (stepR (stepR (stepR (stepR (stepR (stepR x))))))

/-- The attention over pairs of blocks, weighted by the routing matrix. -/
def attendR (q k v : FVec F S12x16x128x64 .f32) (r : FVec F S12x16x16 .f32) : FVec F S12x16x128x64 .f32 :=
  totalR (valuesR (softR (scoresR (pairR k) q)) (pairR v)) (keepR (Host.exp r))

/-- The result, in the arguments' shape. -/
def fnR (q k v : FVec F S1x12x2048x64 .f32) : FVec F S1x12x2048x64 .f32 :=
  shapeCast S1x12x2048x64 (attendR (cutR q) (cutR k) (cutR v) (routeR (logitsR (cutR q) (cutR k) noise)))
    shapeCasts_S12x16x128x64_S1x12x2048x64

/-- The cut arguments, off the six opening reshapes. -/
theorem cut_of {σ : Valuation τ sig (Elt F)} {a0 a1 a2 : TRef sig ⟨S1x12x2048x64, .f32⟩} {v0 v1 v2 : TRef sig ⟨S12x2048x64, .f32⟩}
    {v3 v4 v5 : TRef sig ⟨S12x16x128x64, .f32⟩}
    (h : Holds σ [TRef.reshape a0 v0 rfl shapeCasts_S1x12x2048x64_S12x2048x64, TRef.reshape a1 v1 rfl shapeCasts_S1x12x2048x64_S12x2048x64,
      TRef.reshape a2 v2 rfl shapeCasts_S1x12x2048x64_S12x2048x64, TRef.reshape v0 v3 rfl shapeCasts_S12x2048x64_S12x16x128x64,
      TRef.reshape v1 v4 rfl shapeCasts_S12x2048x64_S12x16x128x64, TRef.reshape v2 v5 rfl shapeCasts_S12x2048x64_S12x16x128x64]) :
    at' v3 σ = cutR (at' a0 σ) ∧ at' v4 σ = cutR (at' a1 σ) ∧ at' v5 σ = cutR (at' a2 σ) := by
  simp only [Holds.cons_iff, Holds.nil_iff, reshape_holds] at h
  obtain ⟨h1, h2, h3, h4, h5, h6, -⟩ := h
  rw [h4, h5, h6, h1, h2, h3]
  exact ⟨rfl, rfl, rfl⟩

/-- The result, off the closing reshape. -/
theorem join_of {σ : Valuation τ sig (Elt F)} {x : TRef sig ⟨S12x16x128x64, .f32⟩} {y : TRef sig ⟨S1x12x2048x64, .f32⟩}
    (h : Holds σ [TRef.reshape x y rfl shapeCasts_S12x16x128x64_S1x12x2048x64]) :
    at' y σ = shapeCast S1x12x2048x64 (at' x σ) shapeCasts_S12x16x128x64_S1x12x2048x64 := by
  simp only [Holds.cons_iff, Holds.nil_iff, reshape_holds] at h
  exact h.1

set_option maxHeartbeats 4000000 in
/-- Contents that are a fixed point of the operations hold the result. -/
theorem result_eq {σ : Valuation τ sig (Elt F)} (h : Holds σ (ops (F := F))) :
    at' (b_S1x12x2048x64_f32 main_v278) σ = fnR (at' (b_S1x12x2048x64_f32 main_arg0) σ) (at' (b_S1x12x2048x64_f32 main_arg1) σ)
      (at' (b_S1x12x2048x64_f32 main_arg2) σ) := by
  obtain ⟨hq, hk, hv⟩ := cut_of (h.stretch 0 6 rfl)
  have l0 := logits_of (h.stretch 6 11 rfl)
  have l1 := logits_log_of (h.stretch 27 4 rfl)
  have ln := noise_eq (Holds.left h)
  have l2 := logits_end_of (h.stretch 310 4 rfl)
  have s0 := row_of (h.stretch 314 21 rfl)
  have s1 := col_of (h.stretch 335 21 rfl)
  have s2 := row_of (h.stretch 356 21 rfl)
  have s3 := col_of (h.stretch 377 21 rfl)
  have s4 := row_of (h.stretch 398 21 rfl)
  have s5 := col_of (h.stretch 419 21 rfl)
  have s6 := row_of (h.stretch 440 21 rfl)
  have s7 := col_of (h.stretch 461 21 rfl)
  have s8 := row_of (h.stretch 482 21 rfl)
  have s9 := col_of (h.stretch 503 21 rfl)
  have s10 := row_of (h.stretch 524 21 rfl)
  have s11 := col_of (h.stretch 545 21 rfl)
  have s12 := row_of (h.stretch 566 21 rfl)
  have s13 := col_of (h.stretch 587 21 rfl)
  have e := exp_of (h.stretch 608 1 rfl)
  have pk := pair_of (h.stretch 609 5 rfl)
  have pv := pair_of (h.stretch 614 5 rfl)
  have sc := scores_of (h.stretch 619 5 rfl)
  have so := soft_of (h.stretch 624 14 rfl)
  have av := attn_of (h.stretch 638 1 rfl)
  have ke := keep_of (h.stretch 639 7 rfl)
  have tt := total_of (h.stretch 646 5 rfl)
  have jn := join_of (h.stretch 651 1 rfl)
  rw [hq, hk] at l0
  rw [l0] at l1
  rw [l1, ln] at l2
  rw [s13, s12, s11, s10, s9, s8, s7, s6, s5, s4, s3, s2, s1, s0, l2] at e
  rw [e] at ke
  rw [hk] at pk
  rw [hv] at pv
  rw [pk, hq] at sc
  rw [sc] at so
  rw [so, pv] at av
  rw [av, ke] at tt
  rw [tt] at jn
  exact jn

end Cert.ReferenceIdeal.Line

end
-- ==== Proof.RefRead.lean ====
/- What the reference's functions hold at an index: each read as plain arithmetic on the extended reals. -/
module

public import proofs.«01_k».proof.Proof.RefFns
public import proofs.«01_k».proof.Proof.RefChain
public import proofs.«01_k».proof.Proof.Reals
public import Idealize.ShloMosaic.Lib.Pointwise

@[expose] public section

set_option maxRecDepth 16384

noncomputable section

namespace Cert.ReferenceIdeal.Line

open Idealize.ShloMosaic Idealize.ShloMosaic.TcCoe
open Cert.ReferenceIdeal Cert.ReferenceIdeal.Facts₀ Cert.ReferenceIdeal.Facts
open Blocks

/-- Row `s` of block `i` of a head. -/
def rowR (i : Fin 16) (s : Fin 128) : Fin 2048 := ⟨i.val * 128 + s.val, by omega⟩

/-- The array cut into heads and blocks. -/
theorem cutR_at (x : FVec Ideal S1x12x2048x64 .f32) (h : Fin 12) (i : Fin 16) (s : Fin 128) (d : Fin 64) :
    cutR x (ix4 h i s d) = x (ix4 0 h (rowR i s) d) := by
  pointwise [cutR]
  all_goals rfl

/-- The blocks joined again. -/
theorem join_at (x : FVec Ideal S12x16x128x64 .f32) (a : Fin 1) (h : Fin 12) (t : Fin 2048) (d : Fin 64) :
    shapeCast S1x12x2048x64 x shapeCasts_S12x16x128x64_S1x12x2048x64 (ix4 a h t d)
      = x (ix4 h ⟨t.val / 128, by omega⟩ ⟨t.val % 128, Nat.mod_lt _ (by decide)⟩ d) := by
  pointwise []
  all_goals rfl

/-- The logits of the blocks' sums. -/
theorem logitsR_at (q k : FVec Ideal S12x16x128x64 .f32) (n : FVec Ideal S12x16x16 .f32) (h : Fin 12) (i j : Fin 16) :
    logitsR q k n (ix3 h i j) = Ideal.div (Ideal.log (max ((∑ x, (∑ s, q (ix4 h i s x)) * ∑ s, k (ix4 h j s x))
      * Ideal.ofBits .f32 0x3E000000#32) 0 + Ideal.ofBits .f32 0x358637BD#32) + n (ix3 h i j)) (Ideal.ofBits .f32 0x3F400000#32) := by
  pointwise [logitsR, temperR, logR, reluR]
  all_goals rfl

/-- The guarded row maxima. -/
theorem rowCapR_at (x : FVec Ideal S12x16x16 .f32) (h : Fin 12) (i : Fin 16) (a : Fin 1) :
    rowCapR x (ix3 h i a) = cap (fun l => x (ix3 h i l)) := by
  pointwise [rowCapR, rowTopR]
  all_goals rfl

/-- One half step along the rows. -/
theorem rowHalfR_at (x : FVec Ideal S12x16x16 .f32) (h : Fin 12) (i j : Fin 16) :
    rowHalfR x (ix3 h i j) = x (ix3 h i j) - (Ideal.log (∑ l, Ideal.exp (x (ix3 h i l) - cap fun l => x (ix3 h i l)))
      + cap fun l => x (ix3 h i l)) := by
  pointwise [rowHalfR, rowCapR_at]
  all_goals rfl

/-- The guarded column maxima. -/
theorem colCapR_at (x : FVec Ideal S12x16x16 .f32) (h : Fin 12) (j : Fin 16) (a : Fin 1) :
    colCapR x (ix3 h a j) = cap (fun l => x (ix3 h l j)) := by
  pointwise [colCapR, colTopR]
  all_goals rfl

/-- One half step along the columns. -/
theorem colHalfR_at (x : FVec Ideal S12x16x16 .f32) (h : Fin 12) (i j : Fin 16) :
    colHalfR x (ix3 h i j) = x (ix3 h i j) - (Ideal.log (∑ l, Ideal.exp (x (ix3 h l j) - cap fun l => x (ix3 h l j)))
      + cap fun l => x (ix3 h l j)) := by
  pointwise [colHalfR, colCapR_at]
  all_goals rfl

/-- One head's matrix. -/
def matR (x : FVec Ideal S12x16x16 .f32) (h : Fin 12) : Mat := fun i j => x (ix3 h i j)

/-- A step is, head by head, a step of the matrix, on reals. -/
theorem matR_step (x : FVec Ideal S12x16x16 .f32) (h : Fin 12) (hx : RealMat (matR x h)) : matR (stepR x) h = stepM (matR x h) := by
  have e : ∀ i j, rowHalfR x (ix3 h i j) = norm (matR x h i) j := fun i j => by
    rw [rowHalfR_at]; exact norm_cap (hx i) j
  funext i j
  show colHalfR (rowHalfR x) (ix3 h i j) = _
  rw [colHalfR_at]
  simp only [e]
  exact norm_cap (a := fun l => norm (matR x h l) j) (fun l => norm_real (hx l) j) i

/-- Seven steps, on reals. -/
theorem matR_route (x : FVec Ideal S12x16x16 .f32) (h : Fin 12) (hx : RealMat (matR x h)) : matR (routeR x) h = stepsM (matR x h) := by
  have e1 := matR_step x h hx
  have r1 := stepM_real hx
  rw [← e1] at r1
  have e2 := matR_step _ h r1
  have r2 := stepM_real r1
  rw [← e2] at r2
  have e3 := matR_step _ h r2
  have r3 := stepM_real r2
  rw [← e3] at r3
  have e4 := matR_step _ h r3
  have r4 := stepM_real r3
  rw [← e4] at r4
  have e5 := matR_step _ h r4
  have r5 := stepM_real r4
  rw [← e5] at r5
  have e6 := matR_step _ h r5
  have r6 := stepM_real r5
  rw [← e6] at r6
  have e7 := matR_step _ h r6
  unfold routeR stepsM
  rw [e7, e6, e5, e4, e3, e2, e1]

/-- The threshold, entry by entry. -/
theorem keepR_at (x : FVec Ideal S12x16x16 .f32) (h : Fin 12) (i j : Fin 16) : keepR (Host.exp x) (ix3 h i j) = keepM (x (ix3 h i j)) := by
  pointwise [keepR]
  all_goals rfl

/-- The scaled product of query `s` of block `i` with key `c` of block `j`. -/
def scoreR (k q : FVec Ideal S12x16x128x64 .f32) (h : Fin 12) (i : Fin 16) (s : Fin 128) (j : Fin 16) (c : Fin 128) : EReal :=
  (∑ x, k (ix4 h j c x) * q (ix4 h i s x)) * Ideal.ofBits .f32 0x3E000000#32

/-- The first place of a pair. -/
def lo (c : Fin 128) : Fin 256 := ⟨c.val, by omega⟩

/-- The second place of a pair. -/
def hi (c : Fin 128) : Fin 256 := ⟨128 + c.val, by omega⟩

/-- A sum over a pair of blocks is the two blocks' sums. -/
theorem sum_pair (f : Fin 256 → EReal) : ∑ c, f c = ∑ c, f (lo c) + ∑ c, f (hi c) :=
  Fin.sum_univ_add (a := 128) (b := 128) f

/-- Every place of a pair is a first or a second one. -/
theorem lo_or_hi (c : Fin 256) : (∃ x, c = lo x) ∨ ∃ x, c = hi x := by
  by_cases h : c.val < 128
  · exact .inl ⟨⟨c.val, h⟩, rfl⟩
  · exact .inr ⟨⟨c.val - 128, by omega⟩, Fin.ext (show c.val = 128 + (c.val - 128) by omega)⟩

/-- The first half of a pair is the query's block. -/
theorem pairR_lo (x : FVec Ideal S12x16x128x64 .f32) (h : Fin 12) (i j : Fin 16) (c : Fin 128) (d : Fin 64) :
    pairR x (ix5 h i j (lo c) d) = x (ix4 h i c d) := by
  pointwise [pairR]
  rw [dif_pos (show (lo c).val < 128 from c.isLt)]
  rfl

/-- The second half is the partner block. -/
theorem pairR_hi (x : FVec Ideal S12x16x128x64 .f32) (h : Fin 12) (i j : Fin 16) (c : Fin 128) (d : Fin 64) :
    pairR x (ix5 h i j (hi c) d) = x (ix4 h j c d) := by
  pointwise [pairR]
  rw [dif_neg (show ¬ (hi c).val < 128 from Nat.not_lt.mpr (Nat.le_add_right 128 c.val))]
  exact congrArg (fun u => x (ix4 h j u d)) (Fin.ext (Nat.add_sub_cancel_left 128 c.val))

/-- The scores over a pair of blocks. -/
theorem scoresR_at (k : FVec Ideal S12x16x16x256x64 .f32) (q : FVec Ideal S12x16x128x64 .f32) (h : Fin 12) (i j : Fin 16) (s : Fin 128) (c : Fin 256) :
    scoresR k q (ix5 h i j s c) = (∑ x, k (ix5 h i j c x) * q (ix4 h i s x)) * Ideal.ofBits .f32 0x3E000000#32 := by
  pointwise [scoresR]
  all_goals rfl

/-- The maximum over a pair of blocks. -/
def softMaxR (x : FVec Ideal S12x16x16x128x256 .f32) : FVec Ideal S12x16x16x128 .f32 :=
  Host.reduce FloatOps.maximumf x (constant S_ .f32 0xFF800000#32) reducesTo_S12x16x16x128x256_S12x16x16x128_d4 h_S_

/-- The exponentials taken below any array of maxima. -/
def below (x : FVec Ideal S12x16x16x128x256 .f32) (m : FVec Ideal S12x16x16x128 .f32) : FVec Ideal S12x16x16x128x256 .f32 :=
  Host.exp (subf x (broadcastInDim S12x16x16x128x256 ![0, 1, 2, 3, 4] bcast_S12x16x16x128x1_S12x16x16x128x256_0_1_2_3_4
    (broadcastInDim S12x16x16x128x1 ![0, 1, 2, 3] bcast_S12x16x16x128_S12x16x16x128x1_0_1_2_3
      (maximumf (broadcastInDim S12x16x16x128 ![] bcast_S_S12x16x16x128 (constant S_ .f32 0xFF800000#32)) m))))

/-- They are what they say. -/
theorem below_at (x : FVec Ideal S12x16x16x128x256 .f32) (m : FVec Ideal S12x16x16x128 .f32) (h : Fin 12) (i j : Fin 16) (s : Fin 128) (c : Fin 256) :
    below x m (ix5 h i j s c) = Ideal.exp (x (ix5 h i j s c) - max (Ideal.ofBits .f32 0xFF800000#32) (m (ix4 h i j s))) := by
  pointwise [below]
  all_goals rfl

/-- The maximum over reals is real. -/
theorem softMaxR_real (x : FVec Ideal S12x16x16x128x256 .f32) (hx : ∀ i, IsReal (x i)) (h : Fin 12) (i j : Fin 16) (s : Fin 128) :
    IsReal (softMaxR x (ix4 h i j s)) := by
  unfold softMaxR
  rw [Host.reduce_eq_fold]
  show IsReal (Finset.fold max (Ideal.ofBits .f32 0xFF800000#32) _ _)
  rw [ninf]
  refine fold_max_real _ _ hx ⟨ix5 h i j s 0, Finset.mem_filter.mpr ⟨Finset.mem_univ _, ?_⟩⟩
  funext b
  refine Fin.ext ?_
  fin_cases b
  · exact Shape.ReducesTo.drop_apply_val_of_eq reducesTo_S12x16x16x128x256_S12x16x16x128_d4 (ix5 h i j s 0) 0 0
  · exact Shape.ReducesTo.drop_apply_val_of_eq reducesTo_S12x16x16x128x256_S12x16x16x128_d4 (ix5 h i j s 0) 1 1
  · exact Shape.ReducesTo.drop_apply_val_of_eq reducesTo_S12x16x16x128x256_S12x16x16x128_d4 (ix5 h i j s 0) 2 2
  · exact Shape.ReducesTo.drop_apply_val_of_eq reducesTo_S12x16x16x128x256_S12x16x16x128_d4 (ix5 h i j s 0) 3 3

/-- What the exponentials are taken below. -/
def mu (x : FVec Ideal S12x16x16x128x256 .f32) (h : Fin 12) (i j : Fin 16) (s : Fin 128) : EReal :=
  max (Ideal.ofBits .f32 0xFF800000#32) (softMaxR x (ix4 h i j s))

/-- On real scores it is real. -/
theorem mu_real (x : FVec Ideal S12x16x16x128x256 .f32) (hx : ∀ i, IsReal (x i)) (h : Fin 12) (i j : Fin 16) (s : Fin 128) :
    IsReal (mu x h i j s) := by
  unfold mu
  rw [ninf, max_eq_right bot_le]
  exact softMaxR_real x hx h i j s

/-- The exponentials. -/
theorem softTopR_at (x : FVec Ideal S12x16x16x128x256 .f32) (h : Fin 12) (i j : Fin 16) (s : Fin 128) (c : Fin 256) :
    softTopR x (ix5 h i j s c) = Ideal.exp (x (ix5 h i j s c) - mu x h i j s) := by
  exact below_at x (softMaxR x) h i j s c

/-- The normalised exponentials. -/
theorem softR_at (x : FVec Ideal S12x16x16x128x256 .f32) (h : Fin 12) (i j : Fin 16) (s : Fin 128) (c : Fin 256) :
    softR x (ix5 h i j s c) = Ideal.div (Ideal.exp (x (ix5 h i j s c) - mu x h i j s)) (∑ c, Ideal.exp (x (ix5 h i j s c) - mu x h i j s)) := by
  pointwise [softR, softTopR_at]
  all_goals rfl

/-- The weighted values. -/
theorem valuesR_at (w : FVec Ideal S12x16x16x128x256 .f32) (x : FVec Ideal S12x16x16x256x64 .f32) (h : Fin 12) (i j : Fin 16) (s : Fin 128) (d : Fin 64) :
    valuesR w x (ix5 h i j s d) = ∑ c, w (ix5 h i j s c) * x (ix5 h i j c d) := by
  pointwise [valuesR]

/-- The sum over partner blocks. -/
theorem totalR_at (x : FVec Ideal S12x16x16x128x64 .f32) (r : FVec Ideal S12x16x16 .f32) (h : Fin 12) (i : Fin 16) (s : Fin 128) (d : Fin 64) :
    totalR x r (ix4 h i s d) = ∑ j, x (ix5 h i j s d) * r (ix3 h i j) := by
  pointwise [totalR]
  all_goals rfl

end Cert.ReferenceIdeal.Line

end
-- ==== Proof.Noise.lean ====
/- The noise is real at every place, whatever the bits drawn. -/
module

public import proofs.«01_k».proof.Proof.Gum
public import proofs.«01_k».proof.Proof.Reals
public import Idealize.ShloMosaic.Lib.Pointwise

@[expose] public section

set_option maxRecDepth 16384

noncomputable section

namespace HostLine

open Idealize.ShloMosaic Idealize.ShloMosaic.TcCoe
open Blocks

/-- The noise made of any bits, entry by entry. -/
theorem noiseOf_at (b : IVec A3 32) (h : Fin 12) (i j : Fin 16) :
    noiseOf (F := Ideal) (uniformOf (constant A0 .f32 0x00000000#32) (constant A0 .f32 0x3F800000#32) b) (ix3 h i j)
      = -Ideal.log (-Ideal.log (max (0 : EReal) (((Ideal.ofBits .f32 ((b (ix3 h i j) >>> 9) ||| 1065353216#32) : EReal) - 1) * (1 - 0) + 0)
          + Ideal.ofBits .f32 0x358637BD#32) + Ideal.ofBits .f32 0x358637BD#32) := by
  pointwise [noiseOf, uniformOf, bc, bc1]
  all_goals rfl

/-- It is real. -/
theorem noise_isReal (h : Fin 12) (i j : Fin 16) : IsReal (noise (F := Ideal) (ix3 h i j)) := by
  show IsReal (noiseOf (F := Ideal) (uniformOf _ _ bits) (ix3 h i j))
  rw [noiseOf_at]
  obtain ⟨u, hu, h0, h1⟩ := draw_real (bits (ix3 h i j))
  obtain ⟨e, he, hp⟩ := tiny
  rw [hu, he]
  exact noise_real h0 h1 hp

end HostLine

end
-- ==== Proof.Meet.lean ====
/- On real queries and keys the two programs' results are the same function of the arguments. -/
module

public import proofs.«01_k».proof.Proof.KerValue
public import proofs.«01_k».proof.Proof.RefRead
public import proofs.«01_k».proof.Proof.Noise

@[expose] public section

set_option maxRecDepth 16384

noncomputable section

namespace Cert.Meet

open Idealize.ShloMosaic Idealize.ShloMosaic.TcCoe
open Blocks Cert.KernelIdeal.Model Cert.ReferenceIdeal.Line

/-- A whole argument. -/
abbrev Full := FVec Ideal Cert.ReferenceIdeal.S1x12x2048x64 .f32
/-- An argument cut into heads and blocks. -/
abbrev Cut := FVec Ideal Cert.ReferenceIdeal.S12x16x128x64 .f32

/-- Both sides number a block's rows alike. -/
theorem rowR_eq (j : Fin 16) (c : Fin 128) : rowR j c = row j c :=
  Fin.ext (show j.val * 128 + c.val = 128 * j.val + c.val by omega)

/-- The reference's attention over a pair of blocks, summed over the partner blocks. -/
theorem attendR_at (q k v : Cut) (r : FVec Ideal Cert.ReferenceIdeal.S12x16x16 .f32) (h : Fin 12) (i : Fin 16) (s : Fin 128) (d : Fin 64) :
    attendR q k v r (ix4 h i s d) = ∑ j,
      (∑ c, Ideal.div (Ideal.exp (scoreR k q h i s i c - mu (scoresR (pairR k) q) h i j s))
          (∑ y, Ideal.exp (scoreR k q h i s i y - mu (scoresR (pairR k) q) h i j s)
            + ∑ y, Ideal.exp (scoreR k q h i s j y - mu (scoresR (pairR k) q) h i j s)) * v (ix4 h i c d)
        + ∑ c, Ideal.div (Ideal.exp (scoreR k q h i s j c - mu (scoresR (pairR k) q) h i j s))
          (∑ y, Ideal.exp (scoreR k q h i s i y - mu (scoresR (pairR k) q) h i j s)
            + ∑ y, Ideal.exp (scoreR k q h i s j y - mu (scoresR (pairR k) q) h i j s)) * v (ix4 h j c d))
      * keepM (r (ix3 h i j)) := by
  unfold attendR
  rw [totalR_at]
  refine Finset.sum_congr rfl fun j _ => ?_
  rw [valuesR_at, sum_pair, keepR_at]
  have lo_score : ∀ c, scoresR (pairR k) q (ix5 h i j s (lo c)) = scoreR k q h i s i c := fun c => by
    rw [scoresR_at]; simp only [pairR_lo]; rfl
  have hi_score : ∀ c, scoresR (pairR k) q (ix5 h i j s (hi c)) = scoreR k q h i s j c := fun c => by
    rw [scoresR_at]; simp only [pairR_hi]; rfl
  simp only [softR_at, sum_pair fun c => Ideal.exp (scoresR (pairR k) q (ix5 h i j s c) - mu (scoresR (pairR k) q) h i j s),
    lo_score, hi_score, pairR_lo, pairR_hi]

/-- Products of reals, summed and scaled, are real. -/
theorem scoreR_real {q k : Cut} (hq : ∀ i, IsReal (q i)) (hk : ∀ i, IsReal (k i)) (h : Fin 12) (i : Fin 16) (s : Fin 128) (j : Fin 16)
    (c : Fin 128) : IsReal (scoreR k q h i s j c) :=
  (IsReal.sum _ _ fun x => (hk _).mul (hq _)).mul scale_real

/-- All the scores are real. -/
theorem scoresR_real {q k : Cut} (hq : ∀ i, IsReal (q i)) (hk : ∀ i, IsReal (k i)) (y : Cert.ReferenceIdeal.S12x16x16x128x256.Idx) :
    IsReal (scoresR (pairR k) q y) := by
  rw [eq_ix5 y]
  refine (congrArg IsReal (scoresR_at _ _ (y 0) (y 1) (y 2) (y 3) (y 4))).mpr ?_
  refine (IsReal.sum _ _ fun x => IsReal.mul ?_ (hq _)).mul scale_real
  rcases lo_or_hi (y 4) with ⟨c, hc⟩ | ⟨c, hc⟩
  · rw [hc]; exact (congrArg IsReal (pairR_lo k (y 0) (y 1) (y 2) c x)).mpr (hk _)
  · rw [hc]; exact (congrArg IsReal (pairR_hi k (y 0) (y 1) (y 2) c x)).mpr (hk _)

/-- A logit of a real product and real noise is real. -/
theorem logit_real {p g : EReal} (hp : IsReal p) (hg : IsReal g) : IsReal (logit p g) := by
  unfold logit
  obtain ⟨e, he, h0⟩ := tiny
  obtain ⟨a, ha⟩ := hp.mul scale_real
  obtain ⟨t, ht, hn⟩ := temper
  rw [ha, he, ht]
  have hm : max (a : EReal) 0 = ((max a 0 : ℝ) : EReal) := by
    rw [← EReal.coe_zero]; exact (EReal.coe_strictMono.monotone.map_max).symm
  rw [hm, ← EReal.coe_add]
  exact ((IsReal.log (add_pos_of_nonneg_of_pos (le_max_right a 0) h0)).add hg).div hn.ne'

variable (q k v : Full)

/-- The two sides' logits agree. -/
theorem logits_eq (g : FVec Ideal Cert.ReferenceIdeal.S12x16x16 .f32) (h : Fin 12) :
    mat (logits (sums (headOf q h)) (sums (headOf k h)) (noiseHead g h)) = matR (logitsR (cutR q) (cutR k) g) h := by
  funext i j
  refine (logits_at _ _ _ i j).trans (Eq.trans ?_ (logitsR_at _ _ _ h i j).symm)
  simp only [sums_at, cutR_at, rowR_eq]
  rfl

/-- The logits of real queries and keys are real. -/
theorem logitsR_real (hq : ∀ i, IsReal (q i)) (hk : ∀ i, IsReal (k i)) (h : Fin 12) :
    RealMat (matR (logitsR (cutR q) (cutR k) HostLine.noise) h) := by
  intro i j
  refine (congrArg IsReal (logitsR_at _ _ _ h i j)).mpr (logit_real ?_ (HostLine.noise_isReal h i j))
  refine IsReal.sum _ _ fun x => IsReal.mul (IsReal.sum _ _ fun s => ?_) (IsReal.sum _ _ fun s => ?_)
  · rw [cutR_at]; exact hq _
  · rw [cutR_at]; exact hk _

/-- Cutting an argument into blocks keeps it real. -/
theorem cut_real {x : Full} (hx : ∀ i, IsReal (x i)) (y : Cert.ReferenceIdeal.S12x16x128x64.Idx) : IsReal (cutR x y) := by
  rw [eq_ix4 y]
  exact (congrArg IsReal (cutR_at x (y 0) (y 1) (y 2) (y 3))).mpr (hx _)

/-- One head at one query and feature. -/
theorem head_eq (hq : ∀ i, IsReal (q i)) (hk : ∀ i, IsReal (k i)) (h : Fin 12) (t : Fin 2048) (d : Fin 64) :
    headVal (headOf q h) (headOf k h) (headOf v h) (noiseHead HostLine.noise h) t d = fnR q k v (ix4 0 h t d) := by
  set s : Fin 128 := ⟨t.val % 128, Nat.mod_lt _ (by decide)⟩ with hs
  have ht : row (home t) s = t := Fin.ext (Nat.div_add_mod t.val 128)
  have hsc : ∀ j c, score (headOf q h) (headOf k h) t j c = scoreR (cutR k) (cutR q) h (home t) s j c := fun j c => by
    unfold score scoreR
    simp only [cutR_at, rowR_eq, ht]
    rfl
  have hv : ∀ j c, headOf v h (ix2 (row j c) d) = cutR v (ix4 h j c d) := fun j c => by
    rw [cutR_at, rowR_eq]; rfl
  have hr := logitsR_real q k hq hk h
  refine Eq.trans ?_ (join_at (attendR (cutR q) (cutR k) (cutR v) (routeR (logitsR (cutR q) (cutR k) HostLine.noise))) 0 h t d).symm
  refine Eq.trans ?_ (attendR_at (cutR q) (cutR k) (cutR v) (routeR (logitsR (cutR q) (cutR k) HostLine.noise)) h (home t) s d).symm
  have hm : ∀ j, routeR (logitsR (cutR q) (cutR k) HostLine.noise) (ix3 h (home t) j)
      = stepsM (matR (logitsR (cutR q) (cutR k) HostLine.noise) h) (home t) j := fun j =>
    congrFun (congrFun (matR_route _ h hr) (home t)) j
  unfold headVal zed
  rw [logits_eq]
  simp only [hsc, hv, hm]
  -- every number in sight but the values is real
  choose σ hσ using fun j c => scoreR_real (cut_real hq) (cut_real hk) h (home t) s j c
  choose μ hμ using fun j => mu_real _ (scoresR_real (cut_real hq) (cut_real hk)) h (home t) j s
  choose ρ hρ hρ0 using fun j => keepM_real (stepsM_real hr (home t) j)
  simp only [hσ, hμ, hρ]
  exact attend (home t) (fun j c => cutR v (ix4 h j c d)) σ ρ hρ0 μ

/-- The two results are the same. -/
theorem out_eq (hq : ∀ i, IsReal (q i)) (hk : ∀ i, IsReal (k i)) : outVal q k v HostLine.noise = fnR q k v := by
  funext y
  have hy : y = ix4 (0 : Fin 1) (y 1 : Fin 12) (y 2 : Fin 2048) (y 3 : Fin 64) := by
    refine (eq_ix4 y).trans ?_
    exact congrArg (fun a : Fin 1 => ix4 a (y 1 : Fin 12) (y 2 : Fin 2048) (y 3 : Fin 64)) (Subsingleton.elim (α := Fin 1) _ _)
  rw [hy]
  exact head_eq q k v hq hk (y 1) (y 2) (y 3)

end Cert.Meet

end
-- ==== Proof.lean ====
/-
  The proof of `Cert.Claim`: the frames of the kernel (as printed and idealized) are the generated ones, the reference's is
  `Proof/RefRun.lean`; the values of the two programs are `Proof/KerValue.lean` and `Proof/RefChain.lean`, shown equal in
  `Proof/Meet.lean`.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.RefRun
public import proofs.«01_k».proof.Proof.Pre
public import proofs.«01_k».proof.Proof.Meet
public import Idealize.ShloMosaic.Adequacy
public import Idealize.ShloMosaic.Init

@[expose] public section

noncomputable section

namespace Cert.Proof

open Idealize.ShloMosaic Idealize.SL.Sem Cert.Kernel

/-- The idealized kernel and the reference leave the same result on real queries and keys. -/
theorem same : algebraic_KernelIdeal_ReferenceIdeal_pre_finite_qk (hKernelIdeal := Cert.KernelIdeal.Gen.facts)
    (hReferenceIdeal := Cert.ReferenceIdeal.Gen.facts) (hPre_finite_qk := Cert.Pre_finite_qk.facts) := by
  intro m g m' g' hpre hargs
  refine ⟨_, Cert.KernelIdeal.Model.run m g, ?_⟩
  refine (θ_run _ _ _).mono (fun r h c => ⟨?_, (h c _).trans (Cert.ReferenceIdeal.Line.fin_arg m' c _ (by decide)),
    (h c _).trans (Cert.ReferenceIdeal.Line.fin_arg m' c _ (by decide)), (h c _).trans (Cert.ReferenceIdeal.Line.fin_arg m' c _ (by decide)),
    (h c _).trans (Cert.ReferenceIdeal.Line.fin_arg m' c _ (by decide))⟩) (Cert.ReferenceIdeal.Line.run m' g')
  letI := Cert.Pre_finite_qk.facts
  obtain ⟨hq, hk⟩ := Cert.Pre_finite_qk.real_of_fn _ _ _ _ (hpre c)
  obtain ⟨e0, e1, e2, -⟩ := hargs c
  refine (h c _).trans ((Cert.ReferenceIdeal.Line.result_eq (Cert.ReferenceIdeal.Line.holds m' c)).trans ?_)
  have a0 := (Cert.ReferenceIdeal.Line.fin_arg m' c Cert.ReferenceIdeal.main_arg0 (by decide)).trans e0
  have a1 := (Cert.ReferenceIdeal.Line.fin_arg m' c Cert.ReferenceIdeal.main_arg1 (by decide)).trans e1
  have a2 := (Cert.ReferenceIdeal.Line.fin_arg m' c Cert.ReferenceIdeal.main_arg2 (by decide)).trans e2
  refine Eq.trans ?_ (Cert.Meet.out_eq _ _ _ hq hk).symm
  generalize Cert.ReferenceIdeal.Line.fin m' c = σ at a0 a1 a2 ⊢
  exact congr (congr (congrArg (Cert.ReferenceIdeal.Line.fnR (F := Ideal)) a0) a1) a2

/-- The claims hold. -/
theorem claim : Cert.Claim := ⟨Cert.Kernel.Gen.facts, Cert.KernelIdeal.Gen.facts, Cert.ReferenceIdeal.Gen.facts, Cert.Pre_finite_qk.facts,
  fun m g _ => Cert.Kernel.Gen.frame m g, fun m g _ => Cert.KernelIdeal.Gen.frame m g, fun m g _ => Cert.KernelIdeal.Gen.frame m g,
  fun m g _ => Cert.ReferenceIdeal.Line.frame m g, fun m g _ => Cert.ReferenceIdeal.Line.frame m g, trivial, same⟩

end Cert.Proof

end
